-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_and_keys [hPre_finite_queries_and_keys : Cert.Pre_finite_queries_and_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_and_keys [hPre_finite_queries_and_keys : Cert.Pre_finite_queries_and_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Kernel17Ideal_finite_conv [hPre_finite_conv : Cert.Pre_finite_conv.Facts] (m : (ℓ : Loc Cert.Kernel17Ideal.nD Cert.Kernel17Ideal.τ Cert.Kernel17Ideal.sig) → Buf (Elt Ideal) ℓ) : Prop :=
  ∀ c : Dev Cert.Kernel17Ideal.nD,
    (Cert.Pre_finite_conv.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4))) = (fun _ => 1#1)

def Pre_Reference17Ideal (m : (ℓ : Loc Cert.Reference17Ideal.nD Cert.Reference17Ideal.τ Cert.Reference17Ideal.sig) → Buf (Elt Ideal) ℓ) : Prop :=
  True

def Pre_Reference17Ideal_finite_conv [hPre_finite_conv : Cert.Pre_finite_conv.Facts] (m : (ℓ : Loc Cert.Reference17Ideal.nD Cert.Reference17Ideal.τ Cert.Reference17Ideal.sig) → Buf (Elt Ideal) ℓ) : Prop :=
  ∀ c : Dev Cert.Reference17Ideal.nD,
    (Cert.Pre_finite_conv.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3)) (m ((c.tc : Thread Cert.Reference17Ideal.nD Cert.Reference17Ideal.τ).loc Cert.Reference17Ideal.main_arg4))) = (fun _ => 1#1)

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Kernel18Ideal_finite_scores [hPre_finite_scores : Cert.Pre_finite_scores.Facts] (m : (ℓ : Loc Cert.Kernel18Ideal.nD Cert.Kernel18Ideal.τ Cert.Kernel18Ideal.sig) → Buf (Elt Ideal) ℓ) : Prop :=
  ∀ c : Dev Cert.Kernel18Ideal.nD,
    (Cert.Pre_finite_scores.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2))) = (fun _ => 1#1)

def Pre_Reference18Ideal (m : (ℓ : Loc Cert.Reference18Ideal.nD Cert.Reference18Ideal.τ Cert.Reference18Ideal.sig) → Buf (Elt Ideal) ℓ) : Prop :=
  True

def Pre_Reference18Ideal_finite_scores [hPre_finite_scores : Cert.Pre_finite_scores.Facts] (m : (ℓ : Loc Cert.Reference18Ideal.nD Cert.Reference18Ideal.τ Cert.Reference18Ideal.sig) → Buf (Elt Ideal) ℓ) : Prop :=
  ∀ c : Dev Cert.Reference18Ideal.nD,
    (Cert.Pre_finite_scores.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2))) = (fun _ => 1#1)

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_queries_and_keys [hKernelIdeal : Cert.KernelIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_and_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_queries_and_keys [hReferenceIdeal : Cert.ReferenceIdeal.Facts] [hPre_finite_queries_and_keys : Cert.Pre_finite_queries_and_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_and_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Kernel17Ideal_pre_finite_conv [hKernel17Ideal : Cert.Kernel17Ideal.Facts] [hPre_finite_conv : Cert.Pre_finite_conv.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal_finite_conv m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Reference17Ideal_pre_finite_conv [hReference17Ideal : Cert.Reference17Ideal.Facts] [hPre_finite_conv : Cert.Pre_finite_conv.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal_finite_conv m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Kernel18Ideal_pre_finite_scores [hKernel18Ideal : Cert.Kernel18Ideal.Facts] [hPre_finite_scores : Cert.Pre_finite_scores.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal_finite_scores m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Reference18Ideal_pre_finite_scores [hReference18Ideal : Cert.Reference18Ideal.Facts] [hPre_finite_scores : Cert.Pre_finite_scores.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal_finite_scores m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3)
      ∧ r.2.mem ((c.tc : Thread Cert.Kernel33.nD Cert.Kernel33.τ).loc Cert.Kernel33.main_arg4) = m ((c.tc : Thread Cert.Kernel33.nD Cert.Kernel33.τ).loc Cert.Kernel33.main_arg4))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3)
      ∧ r.2.mem ((c.tc : Thread Cert.Kernel33Ideal.nD Cert.Kernel33Ideal.τ).loc Cert.Kernel33Ideal.main_arg4) = m ((c.tc : Thread Cert.Kernel33Ideal.nD Cert.Kernel33Ideal.τ).loc Cert.Kernel33Ideal.main_arg4))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3)
      ∧ r.2.mem ((c.tc : Thread Cert.Reference33Ideal.nD Cert.Reference33Ideal.τ).loc Cert.Reference33Ideal.main_arg4) = m ((c.tc : Thread Cert.Reference33Ideal.nD Cert.Reference33Ideal.τ).loc Cert.Reference33Ideal.main_arg4))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3))
      ∧ r.2.sem = fun _ => 0)

def preserves_Kernel_KernelIdeal : Prop :=
  IdealRules.named_const.Statement Cert.KernelIdeal.κ "s" .f32 0x3DB504F3#32 (((Real.sqrt 128)⁻¹ : ℝ) : EReal)

def algebraic_KernelIdeal_ReferenceIdeal_pre_finite_queries_and_keys [hKernelIdeal : Cert.KernelIdeal.Facts] [hReferenceIdeal : Cert.ReferenceIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_and_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_v64) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_v8) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v9) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v6) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v34) = v0 c
          ∧ r.2.mem ((c.tc : Thread Cert.Reference14Ideal.nD Cert.Reference14Ideal.τ).loc Cert.Reference14Ideal.main_v17) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)) (v4 : (c : Dev Cert.Kernel15Ideal.nD) → Buf (Elt Ideal) ((c.tc : Thread Cert.Kernel15Ideal.nD Cert.Kernel15Ideal.τ).loc Cert.Kernel15Ideal.main_v0_4)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_v0_4) = v4 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v39) = v0 c
          ∧ r.2.mem ((c.tc : Thread Cert.Reference15Ideal.nD Cert.Reference15Ideal.τ).loc Cert.Reference15Ideal.main_v40) = v1 c
          ∧ r.2.mem ((c.tc : Thread Cert.Reference15Ideal.nD Cert.Reference15Ideal.τ).loc Cert.Reference15Ideal.main_v41) = v2 c
          ∧ r.2.mem ((c.tc : Thread Cert.Reference15Ideal.nD Cert.Reference15Ideal.τ).loc Cert.Reference15Ideal.main_v42) = v3 c
          ∧ r.2.mem ((c.tc : Thread Cert.Reference15Ideal.nD Cert.Reference15Ideal.τ).loc Cert.Reference15Ideal.main_v20) = v4 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5))

def preserves_Kernel17_Kernel17Ideal : Prop :=
  True

def algebraic_Kernel17Ideal_Reference17Ideal_pre_finite_conv [hKernel17Ideal : Cert.Kernel17Ideal.Facts] [hReference17Ideal : Cert.Reference17Ideal.Facts] [hPre_finite_conv : Cert.Pre_finite_conv.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal_finite_conv m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v58) = v0 c
          ∧ r.2.mem ((c.tc : Thread Cert.Reference17Ideal.nD Cert.Reference17Ideal.τ).loc Cert.Reference17Ideal.main_v34) = v1 c
          ∧ r.2.mem ((c.tc : Thread Cert.Reference17Ideal.nD Cert.Reference17Ideal.τ).loc Cert.Reference17Ideal.main_v31) = v2 c
          ∧ r.2.mem ((c.tc : Thread Cert.Reference17Ideal.nD Cert.Reference17Ideal.τ).loc Cert.Reference17Ideal.main_v27) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  IdealRules.named_const.Statement Cert.Kernel18Ideal.κ "s" .f32 0x3DB504F3#32 (((Real.sqrt 128)⁻¹ : ℝ) : EReal)

def algebraic_Kernel18Ideal_Reference18Ideal_pre_finite_scores [hKernel18Ideal : Cert.Kernel18Ideal.Facts] [hReference18Ideal : Cert.Reference18Ideal.Facts] [hPre_finite_scores : Cert.Pre_finite_scores.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal_finite_scores m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v24) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v7) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v11) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v5) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v5) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v4) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v3) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v3) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v3) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v5) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v12) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v33) = v0 c
          ∧ r.2.mem ((c.tc : Thread Cert.Reference29Ideal.nD Cert.Reference29Ideal.τ).loc Cert.Reference29Ideal.main_v17) = v1 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v12) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)) (v2 : (c : Dev Cert.Kernel31Ideal.nD) → Buf (Elt Ideal) ((c.tc : Thread Cert.Kernel31Ideal.nD Cert.Kernel31Ideal.τ).loc Cert.Kernel31Ideal.main_v0_2)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_v0_2) = v2 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v49) = v0 c
          ∧ r.2.mem ((c.tc : Thread Cert.Reference31Ideal.nD Cert.Reference31Ideal.τ).loc Cert.Reference31Ideal.main_v48) = v1 c
          ∧ r.2.mem ((c.tc : Thread Cert.Reference31Ideal.nD Cert.Reference31Ideal.τ).loc Cert.Reference31Ideal.main_v32) = v2 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v22) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)
      ∧ m' ((c.tc : Thread Cert.Reference33Ideal.nD Cert.Reference33Ideal.τ).loc Cert.Reference33Ideal.main_arg4) = m ((c.tc : Thread Cert.Kernel33Ideal.nD Cert.Kernel33Ideal.τ).loc Cert.Kernel33Ideal.main_arg4)) →
    ∃ (v0 : (c : Dev Cert.Kernel33Ideal.nD) → Buf (Elt Ideal) ((c.tc : Thread Cert.Kernel33Ideal.nD Cert.Kernel33Ideal.τ).loc Cert.Kernel33Ideal.main_v0)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3)
          ∧ r.2.mem ((c.tc : Thread Cert.Kernel33Ideal.nD Cert.Kernel33Ideal.τ).loc Cert.Kernel33Ideal.main_arg4) = m ((c.tc : Thread Cert.Kernel33Ideal.nD Cert.Kernel33Ideal.τ).loc Cert.Kernel33Ideal.main_arg4))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v15) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3)
          ∧ r.2.mem ((c.tc : Thread Cert.Reference33Ideal.nD Cert.Reference33Ideal.τ).loc Cert.Reference33Ideal.main_arg4) = m' ((c.tc : Thread Cert.Reference33Ideal.nD Cert.Reference33Ideal.τ).loc Cert.Reference33Ideal.main_arg4))

def preserves_Kernel34_Kernel34Ideal : Prop :=
  IdealRules.named_const.Statement Cert.Kernel34Ideal.κ "c1" .f32 0x3FC48605#32 (((5463681 / 8388608)⁻¹ : ℝ) : EReal)
  ∧ IdealRules.named_const.Statement Cert.Kernel34Ideal.κ "c2" .f32 0x42C8E6D3#32 (((2672307 / 268435456)⁻¹ : ℝ) : EReal)

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)) →
    ∃ (v0 : (c : Dev Cert.Kernel34Ideal.nD) → Buf (Elt Ideal) ((c.tc : Thread Cert.Kernel34Ideal.nD Cert.Kernel34Ideal.τ).loc Cert.Kernel34Ideal.main_v0_0)) (v1 : (c : Dev Cert.Kernel34Ideal.nD) → Buf (Elt Ideal) ((c.tc : Thread Cert.Kernel34Ideal.nD Cert.Kernel34Ideal.τ).loc Cert.Kernel34Ideal.main_v0_1)) (v2 : (c : Dev Cert.Kernel34Ideal.nD) → Buf (Elt Ideal) ((c.tc : Thread Cert.Kernel34Ideal.nD Cert.Kernel34Ideal.τ).loc Cert.Kernel34Ideal.main_v0_2)) (v3 : (c : Dev Cert.Kernel34Ideal.nD) → Buf (Elt Ideal) ((c.tc : Thread Cert.Kernel34Ideal.nD Cert.Kernel34Ideal.τ).loc Cert.Kernel34Ideal.main_v0_3)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0_0) = v0 c
          ∧ r.2.mem ((c.tc : Thread Cert.Kernel34Ideal.nD Cert.Kernel34Ideal.τ).loc Cert.Kernel34Ideal.main_v0_1) = v1 c
          ∧ r.2.mem ((c.tc : Thread Cert.Kernel34Ideal.nD Cert.Kernel34Ideal.τ).loc Cert.Kernel34Ideal.main_v0_2) = v2 c
          ∧ r.2.mem ((c.tc : Thread Cert.Kernel34Ideal.nD Cert.Kernel34Ideal.τ).loc Cert.Kernel34Ideal.main_v0_3) = v3 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v0) = v0 c
          ∧ r.2.mem ((c.tc : Thread Cert.Reference34Ideal.nD Cert.Reference34Ideal.τ).loc Cert.Reference34Ideal.main_v24) = v1 c
          ∧ r.2.mem ((c.tc : Thread Cert.Reference34Ideal.nD Cert.Reference34Ideal.τ).loc Cert.Reference34Ideal.main_v5) = v2 c
          ∧ r.2.mem ((c.tc : Thread Cert.Reference34Ideal.nD Cert.Reference34Ideal.τ).loc Cert.Reference34Ideal.main_v11) = v3 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hPre_finite_queries_and_keys : Cert.Pre_finite_queries_and_keys.Facts) (hPre_finite_conv : Cert.Pre_finite_conv.Facts) (hPre_finite_scores : Cert.Pre_finite_scores.Facts),
    quiescent_Kernel (hKernel := hKernel)
    ∧ quiescent_KernelIdeal (hKernelIdeal := hKernelIdeal)
    ∧ quiescent_KernelIdeal_pre_finite_queries_and_keys (hKernelIdeal := hKernelIdeal) (hPre_finite_queries_and_keys := hPre_finite_queries_and_keys)
    ∧ quiescent_ReferenceIdeal (hReferenceIdeal := hReferenceIdeal)
    ∧ quiescent_ReferenceIdeal_pre_finite_queries_and_keys (hReferenceIdeal := hReferenceIdeal) (hPre_finite_queries_and_keys := hPre_finite_queries_and_keys)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel17 (hKernel17 := hKernel17)
    ∧ quiescent_Kernel17Ideal (hKernel17Ideal := hKernel17Ideal)
    ∧ quiescent_Kernel17Ideal_pre_finite_conv (hKernel17Ideal := hKernel17Ideal) (hPre_finite_conv := hPre_finite_conv)
    ∧ quiescent_Reference17Ideal (hReference17Ideal := hReference17Ideal)
    ∧ quiescent_Reference17Ideal_pre_finite_conv (hReference17Ideal := hReference17Ideal) (hPre_finite_conv := hPre_finite_conv)
    ∧ quiescent_Kernel18 (hKernel18 := hKernel18)
    ∧ quiescent_Kernel18Ideal (hKernel18Ideal := hKernel18Ideal)
    ∧ quiescent_Kernel18Ideal_pre_finite_scores (hKernel18Ideal := hKernel18Ideal) (hPre_finite_scores := hPre_finite_scores)
    ∧ quiescent_Reference18Ideal (hReference18Ideal := hReference18Ideal)
    ∧ quiescent_Reference18Ideal_pre_finite_scores (hReference18Ideal := hReference18Ideal) (hPre_finite_scores := hPre_finite_scores)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ preserves_Kernel_KernelIdeal
    ∧ algebraic_KernelIdeal_ReferenceIdeal_pre_finite_queries_and_keys (hKernelIdeal := hKernelIdeal) (hReferenceIdeal := hReferenceIdeal) (hPre_finite_queries_and_keys := hPre_finite_queries_and_keys)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel17_Kernel17Ideal
    ∧ algebraic_Kernel17Ideal_Reference17Ideal_pre_finite_conv (hKernel17Ideal := hKernel17Ideal) (hReference17Ideal := hReference17Ideal) (hPre_finite_conv := hPre_finite_conv)
    ∧ preserves_Kernel18_Kernel18Ideal
    ∧ algebraic_Kernel18Ideal_Reference18Ideal_pre_finite_scores (hKernel18Ideal := hKernel18Ideal) (hReference18Ideal := hReference18Ideal) (hPre_finite_scores := hPre_finite_scores)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
-- ==== Pre_finite_conv.lean ====
abbrev S2048x512 : Shape := ⟨2, ![2048, 512]⟩
abbrev S1x512 : Shape := ⟨2, ![1, 512]⟩
abbrev S512x512 : Shape := ⟨2, ![512, 512]⟩
abbrev S_ : Shape := ⟨0, ![]⟩

class Facts : Prop where
  bcast_S_S1x512 : S_.BroadcastsInDim S1x512 (![] : Fin 0 → Fin S1x512.rank)
  reducesTo_S1x512_S_d0_1 : S1x512.ReducesTo [0, 1] S_
  h_S_ : 0 < S_.numel
  bitsLt_bf16_f32 : FTy.bits .bf16 < FTy.bits .f32
  bcast_S_S512x512 : S_.BroadcastsInDim S512x512 (![] : Fin 0 → Fin S512x512.rank)
  reducesTo_S512x512_S_d0_1 : S512x512.ReducesTo [0, 1] S_
  bcast_S_S2048x512 : S_.BroadcastsInDim S2048x512 (![] : Fin 0 → Fin S2048x512.rank)
  reducesTo_S2048x512_S_d0_1 : S2048x512.ReducesTo [0, 1] S_

variable [Facts]

def fn {F : FTy → Type} [FloatOps F] (main_arg0 : FVec F S2048x512 .f32) (main_arg1 : FVec F S1x512 .f32) (main_arg2 : FVec F S1x512 .f32) (main_arg3 : FVec F S512x512 .bf16) (main_arg4 : FVec F S2048x512 .f32) : IVec S_ 1 :=
  let main_v0 : FVec F S1x512 .f32 := Host.absf main_arg1
  let main_cst : FVec F S_ .f32 := constant S_ .f32 0x7F800000#32
  let main_v1 : FVec F S1x512 .f32 := broadcastInDim S1x512 ![] bcast_S_S1x512 main_cst
  let main_v2 : IVec S1x512 1 := cmpf .olt main_v0 main_v1
  let main_c : IVec S_ 1 := constantI S_ 1 1#1
  let main_v3 : IVec S_ 1 := (fun x v => Host.reduce IntOp.andi x v reducesTo_S1x512_S_d0_1 h_S_) main_v2 main_c
  let main_v4 : FVec F S512x512 .f32 := (extf .f32 · bitsLt_bf16_f32) main_arg3
  let main_v5 : FVec F S512x512 .f32 := Host.absf main_v4
  let main_cst_0 : FVec F S_ .f32 := constant S_ .f32 0x7F800000#32
  let main_v6 : FVec F S512x512 .f32 := broadcastInDim S512x512 ![] bcast_S_S512x512 main_cst_0
  let main_v7 : IVec S512x512 1 := cmpf .olt main_v5 main_v6
  let main_c_1 : IVec S_ 1 := constantI S_ 1 1#1
  let main_v8 : IVec S_ 1 := (fun x v => Host.reduce IntOp.andi x v reducesTo_S512x512_S_d0_1 h_S_) main_v7 main_c_1
  let main_v9 : IVec S_ 1 := andi main_v3 main_v8
  let main_v10 : FVec F S2048x512 .f32 := Host.absf main_arg4
  let main_cst_2 : FVec F S_ .f32 := constant S_ .f32 0x7F800000#32
  let main_v11 : FVec F S2048x512 .f32 := broadcastInDim S2048x512 ![] bcast_S_S2048x512 main_cst_2
  let main_v12 : IVec S2048x512 1 := cmpf .olt main_v10 main_v11
  let main_c_3 : IVec S_ 1 := constantI S_ 1 1#1
  let main_v13 : IVec S_ 1 := (fun x v => Host.reduce IntOp.andi x v reducesTo_S2048x512_S_d0_1 h_S_) main_v12 main_c_3
  let main_v14 : IVec S_ 1 := andi main_v9 main_v13
  main_v14
-- ==== Pre_finite_queries_and_keys.lean ====
abbrev S2048x512 : Shape := ⟨2, ![2048, 512]⟩
abbrev S256x512 : Shape := ⟨2, ![256, 512]⟩
abbrev S_ : Shape := ⟨0, ![]⟩

class Facts : Prop where
  bitsLt_bf16_f32 : FTy.bits .bf16 < FTy.bits .f32
  bcast_S_S2048x512 : S_.BroadcastsInDim S2048x512 (![] : Fin 0 → Fin S2048x512.rank)
  reducesTo_S2048x512_S_d0_1 : S2048x512.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_

variable [Facts]

def fn {F : FTy → Type} [FloatOps F] (main_arg0 : FVec F S2048x512 .bf16) (main_arg1 : FVec F S256x512 .bf16) (main_arg2 : FVec F S256x512 .bf16) (main_arg3 : FVec F S2048x512 .f32) : IVec S_ 1 :=
  let main_v0 : FVec F S2048x512 .f32 := (extf .f32 · bitsLt_bf16_f32) main_arg0
  let main_v1 : FVec F S2048x512 .f32 := Host.absf main_v0
  let main_cst : FVec F S_ .f32 := constant S_ .f32 0x7F800000#32
  let main_v2 : FVec F S2048x512 .f32 := broadcastInDim S2048x512 ![] bcast_S_S2048x512 main_cst
  let main_v3 : IVec S2048x512 1 := cmpf .olt main_v1 main_v2
  let main_c : IVec S_ 1 := constantI S_ 1 1#1
  let main_v4 : IVec S_ 1 := (fun x v => Host.reduce IntOp.andi x v reducesTo_S2048x512_S_d0_1 h_S_) main_v3 main_c
  let main_v5 : FVec F S256x512 .f32 := (extf .f32 · bitsLt_bf16_f32) main_arg1
  let main_v6 : FVec F S256x512 .f32 := Host.absf main_v5
  let main_cst_0 : FVec F S_ .f32 := constant S_ .f32 0x7F800000#32
  let main_v7 : FVec F S256x512 .f32 := broadcastInDim S256x512 ![] bcast_S_S256x512 main_cst_0
  let main_v8 : IVec S256x512 1 := cmpf .olt main_v6 main_v7
  let main_c_1 : IVec S_ 1 := constantI S_ 1 1#1
  let main_v9 : IVec S_ 1 := (fun x v => Host.reduce IntOp.andi x v reducesTo_S256x512_S_d0_1 h_S_) main_v8 main_c_1
  let main_v10 : IVec S_ 1 := andi main_v4 main_v9
  main_v10
-- ==== Pre_finite_scores.lean ====
abbrev S2048x512 : Shape := ⟨2, ![2048, 512]⟩
abbrev S256x512 : Shape := ⟨2, ![256, 512]⟩
abbrev S_ : Shape := ⟨0, ![]⟩

class Facts : Prop where
  bitsLt_bf16_f32 : FTy.bits .bf16 < FTy.bits .f32
  bcast_S_S2048x512 : S_.BroadcastsInDim S2048x512 (![] : Fin 0 → Fin S2048x512.rank)
  reducesTo_S2048x512_S_d0_1 : S2048x512.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_

variable [Facts]

def fn {F : FTy → Type} [FloatOps F] (main_arg0 : FVec F S2048x512 .bf16) (main_arg1 : FVec F S256x512 .bf16) (main_arg2 : FVec F S256x512 .bf16) : IVec S_ 1 :=
  let main_v0 : FVec F S2048x512 .f32 := (extf .f32 · bitsLt_bf16_f32) main_arg0
  let main_v1 : FVec F S2048x512 .f32 := Host.absf main_v0
  let main_cst : FVec F S_ .f32 := constant S_ .f32 0x7F800000#32
  let main_v2 : FVec F S2048x512 .f32 := broadcastInDim S2048x512 ![] bcast_S_S2048x512 main_cst
  let main_v3 : IVec S2048x512 1 := cmpf .olt main_v1 main_v2
  let main_c : IVec S_ 1 := constantI S_ 1 1#1
  let main_v4 : IVec S_ 1 := (fun x v => Host.reduce IntOp.andi x v reducesTo_S2048x512_S_d0_1 h_S_) main_v3 main_c
  let main_v5 : FVec F S256x512 .f32 := (extf .f32 · bitsLt_bf16_f32) main_arg1
  let main_v6 : FVec F S256x512 .f32 := Host.absf main_v5
  let main_cst_0 : FVec F S_ .f32 := constant S_ .f32 0x7F800000#32
  let main_v7 : FVec F S256x512 .f32 := broadcastInDim S256x512 ![] bcast_S_S256x512 main_cst_0
  let main_v8 : IVec S256x512 1 := cmpf .olt main_v6 main_v7
  let main_c_1 : IVec S_ 1 := constantI S_ 1 1#1
  let main_v9 : IVec S_ 1 := (fun x v => Host.reduce IntOp.andi x v reducesTo_S256x512_S_d0_1 h_S_) main_v8 main_c_1
  let main_v10 : IVec S_ 1 := andi main_v4 main_v9
  main_v10
-- ==== Kernel.lean ====
abbrev S2048x512 : Shape := ⟨2, ![2048, 512]⟩
abbrev S256x512 : Shape := ⟨2, ![256, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 7
  | .vmem => 14
  | .smem => 0
  | _ => 0

abbrev bufTy : (tb : Table) → Fin (tcTables nBuf tb) → BufTy
  | .hbm, ⟨0, _⟩ => ⟨S2048x512, .bf16⟩
  | .hbm, ⟨1, _⟩ => ⟨S256x512, .bf16⟩
  | .hbm, ⟨2, _⟩ => ⟨S256x512, .bf16⟩
  | .hbm, ⟨3, _⟩ => ⟨S2048x512, .f32⟩
  | .hbm, ⟨4, _⟩ => ⟨S2048x512, .f32⟩
  | .hbm, ⟨5, _⟩ => ⟨S256x512, .f32⟩
  | .hbm, ⟨6, _⟩ => ⟨S256x512, .f32⟩
  | .local _ .vmem, ⟨0, _⟩ => ⟨S512x128, .bf16⟩
  | .local _ .vmem, ⟨1, _⟩ => ⟨S512x128, .bf16⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== KernelIdeal.lean ====
variable {F : FTy → Type} [FloatOps F] [Named F]
def κ : String → Option EReal := fun
  | "s" => some (((Real.sqrt 128)⁻¹ : ℝ) : EReal)
  | _ => none
-- ==== ReferenceIdeal.lean ====
abbrev S2048x512 : Shape := ⟨2, ![2048, 512]⟩
abbrev S256x512 : Shape := ⟨2, ![256, 512]⟩
abbrev S2048x4x128 : Shape := ⟨3, ![2048, 4, 128]⟩
abbrev S256x4x128 : Shape := ⟨3, ![256, 4, 128]⟩
abbrev S4x2048x256 : Shape := ⟨3, ![4, 2048, 256]⟩
abbrev S_ : Shape := ⟨0, ![]⟩
abbrev S4x2048 : Shape := ⟨2, ![4, 2048]⟩
abbrev S4x2048x1 : Shape := ⟨3, ![4, 2048, 1]⟩
abbrev S4x128x2048 : Shape := ⟨3, ![4, 128, 2048]⟩
abbrev S4x128x256 : Shape := ⟨3, ![4, 128, 256]⟩
abbrev S4x256x128 : Shape := ⟨3, ![4, 256, 128]⟩
abbrev S4x2048x128 : Shape := ⟨3, ![4, 2048, 128]⟩

abbrev nBuf : Space → Nat
  | .hbm => 84
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S256x512, .bf16⟩
  | .hbm, ⟨2, _⟩ => ⟨S256x512, .bf16⟩
  | .hbm, ⟨3, _⟩ => ⟨S2048x512, .f32⟩
  | .hbm, ⟨4, _⟩ => ⟨S2048x512, .f32⟩
  | .hbm, ⟨5, _⟩ => ⟨S256x512, .f32⟩
  | .hbm, ⟨6, _⟩ => ⟨S256x512, .f32⟩
  | .hbm, ⟨7, _⟩ => ⟨S2048x4x128, .f32⟩
  | .hbm, ⟨8, _⟩ => ⟨S256x4x128, .f32⟩
  | .hbm, ⟨9, _⟩ => ⟨S256x4x128, .f32⟩
  | .hbm, ⟨10, _⟩ => ⟨S4x2048x256, .f32⟩
  | .hbm, ⟨11, _⟩ => ⟨S_, .f32⟩
  | .hbm, ⟨12, _⟩ => ⟨S_, .f32⟩
  | .hbm, ⟨13, _⟩ => ⟨S4x2048x256, .f32⟩
  | .hbm, ⟨14, _⟩ => ⟨S4x2048x256, .f32⟩
  | .hbm, ⟨15, _⟩ => ⟨S_, .f32⟩
  | .hbm, ⟨16, _⟩ => ⟨S4x2048, .f32⟩
  | .hbm, ⟨17, _⟩ => ⟨S4x2048x1, .f32⟩
  | .hbm, ⟨18, _⟩ => ⟨S4x2048x256, .f32⟩
  | .hbm, ⟨19, _⟩ => ⟨S4x2048x256, .i1⟩
  | .hbm, ⟨20, _⟩ => ⟨S4x2048x256, .f32⟩
  | .hbm, ⟨21, _⟩ => ⟨S_, .f32⟩
  | .hbm, ⟨22, _⟩ => ⟨S4x2048, .f32⟩
  | .hbm, ⟨23, _⟩ => ⟨S_, .f32⟩
  | .hbm, ⟨24, _⟩ => ⟨S4x2048, .f32⟩
  | .hbm, ⟨25, _⟩ => ⟨S4x2048, .f32⟩
  | .hbm, ⟨26, _⟩ => ⟨S_, .f32⟩
  | .hbm, ⟨27, _⟩ => ⟨S4x2048, .f32⟩
  | .hbm, ⟨28, _⟩ => ⟨S4x2048, .i1⟩
  | .hbm, ⟨29, _⟩ => ⟨S_, .f32⟩
  | .hbm, ⟨30, _⟩ => ⟨S4x2048, .f32⟩
  | .hbm, ⟨31, _⟩ => ⟨S4x2048, .i1⟩
  | .hbm, ⟨32, _⟩ => ⟨S_, .f32⟩
  | .hbm, ⟨33, _⟩ => ⟨S4x2048, .f32⟩
  | .hbm, ⟨34, _⟩ => ⟨S_, .f32⟩
  | .hbm, ⟨35, _⟩ => ⟨S4x2048, .f32⟩
  | .hbm, ⟨36, _⟩ => ⟨S_, .f32⟩
  | .hbm, ⟨37, _⟩ => ⟨S4x2048, .f32⟩
  | .hbm, ⟨38, _⟩ => ⟨S4x2048, .f32⟩
  | .hbm, ⟨39, _⟩ => ⟨S4x2048, .f32⟩
  | .hbm, ⟨40, _⟩ => ⟨S4x2048x1, .f32⟩
  | .hbm, ⟨41, _⟩ => ⟨S4x2048x256, .f32⟩
  | .hbm, ⟨42, _⟩ => ⟨S4x2048x256, .f32⟩
  | .hbm, ⟨43, _⟩ => ⟨S4x2048x256, .f32⟩
  | .hbm, ⟨44, _⟩ => ⟨S_, .f32⟩
  | .hbm, ⟨45, _⟩ => ⟨S4x2048, .f32⟩
  | .hbm, ⟨46, _⟩ => ⟨S4x2048x1, .f32⟩
  | .hbm, ⟨47, _⟩ => ⟨S4x2048x256, .f32⟩
  | .hbm, ⟨48, _⟩ => ⟨S4x2048x256, .f32⟩
  | .hbm, ⟨49, _⟩ => ⟨S4x2048x1, .f32⟩
  | .hbm, ⟨50, _⟩ => ⟨S_, .f32⟩
  | .hbm, ⟨51, _⟩ => ⟨S4x2048x1, .f32⟩
  | .hbm, ⟨52, _⟩ => ⟨S4x2048x1, .f32⟩
  | .hbm, ⟨53, _⟩ => ⟨S4x128x2048, .f32⟩
  | .hbm, ⟨54, _⟩ => ⟨S2048x4x128, .f32⟩
  | .hbm, ⟨55, _⟩ => ⟨S2048x512, .f32⟩
  | .hbm, ⟨56, _⟩ => ⟨S2048x4x128, .f32⟩
  | .hbm, ⟨57, _⟩ => ⟨S4x128x2048, .f32⟩
  | .hbm, ⟨58, _⟩ => ⟨S4x2048x256, .f32⟩
  | .hbm, ⟨59, _⟩ => ⟨S4x128x256, .f32⟩
  | .hbm, ⟨60, _⟩ => ⟨S256x4x128, .f32⟩
  | .hbm, ⟨61, _⟩ => ⟨S4x2048x256, .f32⟩
  | .hbm, ⟨62, _⟩ => ⟨S4x2048x256, .f32⟩
  | .hbm, ⟨63, _⟩ => ⟨S4x2048x256, .f32⟩
  | .hbm, ⟨64, _⟩ => ⟨S_, .f32⟩
  | .hbm, ⟨65, _⟩ => ⟨S4x2048, .f32⟩
  | .hbm, ⟨66, _⟩ => ⟨S4x2048x1, .f32⟩
  | .hbm, ⟨67, _⟩ => ⟨S4x2048x1, .f32⟩
  | .hbm, ⟨68, _⟩ => ⟨S4x2048x256, .f32⟩
  | .hbm, ⟨69, _⟩ => ⟨S4x2048x256, .f32⟩
  | .hbm, ⟨70, _⟩ => ⟨S_, .f32⟩
  | .hbm, ⟨71, _⟩ => ⟨S4x2048, .f32⟩
  | .hbm, ⟨72, _⟩ => ⟨S4x2048x256, .f32⟩
  | .hbm, ⟨73, _⟩ => ⟨S4x2048x256, .f32⟩
  | .hbm, ⟨74, _⟩ => ⟨S4x2048x256, .f32⟩
  | .hbm, ⟨75, _⟩ => ⟨S4x2048x256, .f32⟩
  | .hbm, ⟨76, _⟩ => ⟨S4x2048x256, .f32⟩
  | .hbm, ⟨77, _⟩ => ⟨S4x256x128, .f32⟩
  | .hbm, ⟨78, _⟩ => ⟨S256x4x128, .f32⟩
  | .hbm, ⟨79, _⟩ => ⟨S4x2048x128, .f32⟩
  | .hbm, ⟨80, _⟩ => ⟨S2048x4x128, .f32⟩
  | .hbm, ⟨81, _⟩ => ⟨S256x512, .f32⟩
  | .hbm, ⟨82, _⟩ => ⟨S256x512, .f32⟩
  | .hbm, ⟨83, _⟩ => ⟨S2048x512, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_10 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_11 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩

abbrev nD : Nat := 1
abbrev τ : Topo := Topo.v7x

variable {F : FTy → Type} [FloatOps F]
-- ==== Kernel2.lean ====
abbrev S2048x2048 : Shape := ⟨2, ![2048, 2048]⟩
abbrev S8192x2048 : Shape := ⟨2, ![8192, 2048]⟩
abbrev S2048x8192 : Shape := ⟨2, ![2048, 8192]⟩
abbrev S1024x2048 : Shape := ⟨2, ![1024, 2048]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S8192x2048, .bf16⟩
  | .hbm, ⟨2, _⟩ => ⟨S2048x8192, .bf16⟩
  | .hbm, ⟨3, _⟩ => ⟨S2048x8192, .bf16⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S2048x2048 : Shape := ⟨2, ![2048, 2048]⟩
abbrev S8192x2048 : Shape := ⟨2, ![8192, 2048]⟩
abbrev S2048x8192 : Shape := ⟨2, ![2048, 8192]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S8192x2048, .bf16⟩
  | .hbm, ⟨2, _⟩ => ⟨S2048x8192, .bf16⟩
  | .hbm, ⟨3, _⟩ => ⟨S2048x8192, .f32⟩
  | .hbm, ⟨4, _⟩ => ⟨S8192x2048, .f32⟩
  | .hbm, ⟨5, _⟩ => ⟨S_, .f32⟩
  | .hbm, ⟨6, _⟩ => ⟨S2048x8192, .f32⟩
  | .hbm, ⟨7, _⟩ => ⟨S2048x8192, .f32⟩
  | .hbm, ⟨8, _⟩ => ⟨S_, .f32⟩
  | .hbm, ⟨9, _⟩ => ⟨S2048x8192, .f32⟩
  | .hbm, ⟨10, _⟩ => ⟨S2048x8192, .i1⟩
  | .hbm, ⟨11, _⟩ => ⟨S_, .f32⟩
  | .hbm, ⟨12, _⟩ => ⟨S2048x8192, .f32⟩
  | .hbm, ⟨13, _⟩ => ⟨S2048x8192, .f32⟩
  | .hbm, ⟨14, _⟩ => ⟨S_, .f32⟩
  | .hbm, ⟨15, _⟩ => ⟨S2048x8192, .f32⟩
  | .hbm, ⟨16, _⟩ => ⟨S2048x8192, .f32⟩
  | .hbm, ⟨17, _⟩ => ⟨S2048x2048, .f32⟩
  | .hbm, ⟨18, _⟩ => ⟨S2048x8192, .f32⟩
  | .hbm, ⟨19, _⟩ => ⟨S2048x8192, .f32⟩
  | .hbm, ⟨20, _⟩ => ⟨S_, .f32⟩
  | .hbm, ⟨21, _⟩ => ⟨S2048x8192, .f32⟩
  | .hbm, ⟨22, _⟩ => ⟨S2048x8192, .f32⟩
  | .hbm, ⟨23, _⟩ => ⟨S2048x8192, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Kernel3.lean ====
abbrev S2048x8192 : Shape := ⟨2, ![2048, 8192]⟩
abbrev S2048x2048 : Shape := ⟨2, ![2048, 2048]⟩
abbrev S8192x2048 : Shape := ⟨2, ![8192, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x8192, .bf16⟩
  | .hbm, ⟨1, _⟩ => ⟨S2048x2048, .f32⟩
  | .hbm, ⟨2, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2048x8192 : Shape := ⟨2, ![2048, 8192]⟩
abbrev S2048x2048 : Shape := ⟨2, ![2048, 2048]⟩
abbrev S_ : Shape := ⟨0, ![]⟩
abbrev S8192x2048 : Shape := ⟨2, ![8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S2048x2048, .f32⟩
  | .hbm, ⟨2, _⟩ => ⟨S_, .f32⟩
  | .hbm, ⟨3, _⟩ => ⟨S8192x2048, .f32⟩
  | .hbm, ⟨4, _⟩ => ⟨S2048x8192, .f32⟩
  | .hbm, ⟨5, _⟩ => ⟨S2048x2048, .f32⟩
  | .hbm, ⟨6, _⟩ => ⟨S2048x8192, .f32⟩
  | .hbm, ⟨7, _⟩ => ⟨S8192x2048, .f32⟩
  | .hbm, ⟨8, _⟩ => ⟨S8192x2048, .bf16⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S2048x2048 : Shape := ⟨2, ![2048, 2048]⟩
abbrev S2048x8192 : Shape := ⟨2, ![2048, 8192]⟩
abbrev S4x2048x2048 : Shape := ⟨3, ![4, 2048, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S4x2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2048x2048 : Shape := ⟨2, ![2048, 2048]⟩
abbrev S2048x8192 : Shape := ⟨2, ![2048, 8192]⟩
abbrev S_ : Shape := ⟨0, ![]⟩
abbrev S4x2048x2048 : Shape := ⟨3, ![4, 2048, 2048]⟩
abbrev S2048x4x2048 : Shape := ⟨3, ![2048, 4, 2048]⟩
abbrev S8192x2048 : Shape := ⟨2, ![8192, 2048]⟩

abbrev nBuf : Space → Nat
  | .hbm => 14
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S_, .f32⟩
  | .hbm, ⟨3, _⟩ => ⟨S4x2048x2048, .f32⟩
  | .hbm, ⟨4, _⟩ => ⟨S2048x2048, .f32⟩
  | .hbm, ⟨5, _⟩ => ⟨S2048x4x2048, .f32⟩
  | .hbm, ⟨6, _⟩ => ⟨S2048x8192, .f32⟩
  | .hbm, ⟨7, _⟩ => ⟨S2048x8192, .f32⟩
  | .hbm, ⟨8, _⟩ => ⟨S2048x8192, .f32⟩
  | .hbm, ⟨9, _⟩ => ⟨S8192x2048, .f32⟩
  | .hbm, ⟨10, _⟩ => ⟨S2048x8192, .f32⟩
  | .hbm, ⟨11, _⟩ => ⟨S2048x4x2048, .f32⟩
  | .hbm, ⟨12, _⟩ => ⟨S4x2048x2048, .f32⟩
  | .hbm, ⟨13, _⟩ => ⟨S4x2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel5.lean ====
abbrev S2048x8192 : Shape := ⟨2, ![2048, 8192]⟩
abbrev S4x2048x2048 : Shape := ⟨3, ![4, 2048, 2048]⟩
abbrev S2048x2048 : Shape := ⟨2, ![2048, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x8192, .bf16⟩
  | .hbm, ⟨1, _⟩ => ⟨S4x2048x2048, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2048x8192 : Shape := ⟨2, ![2048, 8192]⟩
abbrev S4x2048x2048 : Shape := ⟨3, ![4, 2048, 2048]⟩
abbrev S_ : Shape := ⟨0, ![]⟩
abbrev S2048x2048 : Shape := ⟨2, ![2048, 2048]⟩
abbrev S2048x4x2048 : Shape := ⟨3, ![2048, 4, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S4x2048x2048, .bf16⟩
  | .hbm, ⟨2, _⟩ => ⟨S_, .f32⟩
  | .hbm, ⟨3, _⟩ => ⟨S2048x2048, .f32⟩
  | .hbm, ⟨4, _⟩ => ⟨S4x2048x2048, .f32⟩
  | .hbm, ⟨5, _⟩ => ⟨S2048x4x2048, .f32⟩
  | .hbm, ⟨6, _⟩ => ⟨S2048x8192, .f32⟩
  | .hbm, ⟨7, _⟩ => ⟨S2048x8192, .f32⟩
  | .hbm, ⟨8, _⟩ => ⟨S2048x8192, .f32⟩
  | .hbm, ⟨9, _⟩ => ⟨S2048x2048, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S2048x2048 : Shape := ⟨2, ![2048, 2048]⟩
abbrev S4x2048x2048 : Shape := ⟨3, ![4, 2048, 2048]⟩
abbrev S2048x8192 : Shape := ⟨2, ![2048, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S2048x2048, .bf16⟩
  | .hbm, ⟨1, _⟩ => ⟨S4x2048x2048, .bf16⟩
  | .hbm, ⟨2, _⟩ => ⟨S2048x8192, .bf16⟩
  | .hbm, ⟨3, _⟩ => ⟨S2048x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_4 : BitVec 32 := 0#32
  let v6 : BitVec 1 := Scalar.cmpi .ne v5 c0_i32_4
  v6

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S2048x2048 : Shape := ⟨2, ![2048, 2048]⟩
abbrev S4x2048x2048 : Shape := ⟨3, ![4, 2048, 2048]⟩
abbrev S2048x4x2048 : Shape := ⟨3, ![2048, 4, 2048]⟩
abbrev S2048x8192 : Shape := ⟨2, ![2048, 8192]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x2048x2048, .bf16⟩
  | .hbm, ⟨2, _⟩ => ⟨S2048x2048, .f32⟩
  | .hbm, ⟨3, _⟩ => ⟨S4x2048x2048, .f32⟩
  | .hbm, ⟨4, _⟩ => ⟨S2048x4x2048, .f32⟩
  | .hbm, ⟨5, _⟩ => ⟨S2048x8192, .f32⟩
  | .hbm, ⟨6, _⟩ => ⟨S2048x8192, .f32⟩
  | .hbm, ⟨7, _⟩ => ⟨S2048x8192, .bf16⟩
  | .hbm, ⟨8, _⟩ => ⟨S_, .f32⟩
  | .hbm, ⟨9, _⟩ => ⟨S2048x8192, .f32⟩
  | .hbm, ⟨10, _⟩ => ⟨S2048x8192, .f32⟩
  | .hbm, ⟨11, _⟩ => ⟨S2048x8192, .f32⟩
  | .hbm, ⟨12, _⟩ => ⟨S2048x8192, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_cst : Ref sig .tc := ⟨.hbm, 8, rfl⟩
abbrev main_call0_v0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel7.lean ====
abbrev S2048x8192 : Shape := ⟨2, ![2048, 8192]⟩
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .bf16⟩
  | .hbm, ⟨2, _⟩ => ⟨S2048x2048, .f32⟩
  | .hbm, ⟨3, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S2048x8192 : Shape := ⟨2, ![2048, 8192]⟩
abbrev S8192x2048 : Shape := ⟨2, ![8192, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .bf16⟩
  | .hbm, ⟨2, _⟩ => ⟨S2048x2048, .f32⟩
  | .hbm, ⟨3, _⟩ => ⟨S2048x8192, .f32⟩
  | .hbm, ⟨4, _⟩ => ⟨S8192x2048, .f32⟩
  | .hbm, ⟨5, _⟩ => ⟨S2048x2048, .f32⟩
  | .hbm, ⟨6, _⟩ => ⟨S2048x2048, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S2048x2048 : Shape := ⟨2, ![2048, 2048]⟩
abbrev S4x2048x896 : Shape := ⟨3, ![4, 2048, 896]⟩
abbrev S2048x3584 : Shape := ⟨2, ![2048, 3584]⟩
abbrev S1024x2048 : Shape := ⟨2, ![1024, 2048]⟩
abbrev S1x2048x896 : Shape := ⟨3, ![1, 2048, 896]⟩
abbrev S1024x896 : Shape := ⟨2, ![1024, 896]⟩
abbrev S2048x896 : Shape := ⟨2, ![2048, 896]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S4x2048x896, .bf16⟩
  | .hbm, ⟨2, _⟩ => ⟨S2048x3584, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x896, .bf16⟩
  | .local _ .vmem, ⟨3, _⟩ => ⟨S1x2048x896, .bf16⟩
  | .local _ .vmem, ⟨4, _⟩ => ⟨S1024x896, .f32⟩
  | .local _ .vmem, ⟨5, _⟩ => ⟨S1024x896, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_4 : BitVec 32 := 0#32
  let v6 : BitVec 1 := Scalar.cmpi .ne v5 c0_i32_4
  v6

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S2048x2048 : Shape := ⟨2, ![2048, 2048]⟩
abbrev S4x2048x896 : Shape := ⟨3, ![4, 2048, 896]⟩
abbrev S2048x4x896 : Shape := ⟨3, ![2048, 4, 896]⟩
abbrev S2048x3584 : Shape := ⟨2, ![2048, 3584]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x2048x896, .bf16⟩
  | .hbm, ⟨2, _⟩ => ⟨S2048x2048, .f32⟩
  | .hbm, ⟨3, _⟩ => ⟨S4x2048x896, .f32⟩
  | .hbm, ⟨4, _⟩ => ⟨S2048x4x896, .f32⟩
  | .hbm, ⟨5, _⟩ => ⟨S2048x3584, .f32⟩
  | .hbm, ⟨6, _⟩ => ⟨S2048x3584, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel9.lean ====
abbrev S2048x2048 : Shape := ⟨2, ![2048, 2048]⟩
abbrev S2048x3584 : Shape := ⟨2, ![2048, 3584]⟩
abbrev S4x2048x896 : Shape := ⟨3, ![4, 2048, 896]⟩
abbrev S2048x1024 : Shape := ⟨2, ![2048, 1024]⟩
abbrev S2048x896 : Shape := ⟨2, ![2048, 896]⟩
abbrev S1x1024x896 : Shape := ⟨3, ![1, 1024, 896]⟩
abbrev S1024x896 : Shape := ⟨2, ![1024, 896]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x3584, .f32⟩
  | .hbm, ⟨2, _⟩ => ⟨S4x2048x896, .bf16⟩
  | .local _ .vmem, ⟨0, _⟩ => ⟨S2048x1024, .bf16⟩
  | .local _ .vmem, ⟨1, _⟩ => ⟨S2048x1024, .bf16⟩
  | .local _ .vmem, ⟨2, _⟩ => ⟨S2048x896, .f32⟩
  | .local _ .vmem, ⟨3, _⟩ => ⟨S2048x896, .f32⟩
  | .local _ .vmem, ⟨4, _⟩ => ⟨S1x1024x896, .bf16⟩
  | .local _ .vmem, ⟨5, _⟩ => ⟨S1x1024x896, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x896 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S2048x2048 : Shape := ⟨2, ![2048, 2048]⟩
abbrev S2048x3584 : Shape := ⟨2, ![2048, 3584]⟩
abbrev S_ : Shape := ⟨0, ![]⟩
abbrev S4x2048x896 : Shape := ⟨3, ![4, 2048, 896]⟩
abbrev S2048x4x896 : Shape := ⟨3, ![2048, 4, 896]⟩
abbrev S3584x2048 : Shape := ⟨2, ![3584, 2048]⟩

abbrev nBuf : Space → Nat
  | .hbm => 13
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x3584, .f32⟩
  | .hbm, ⟨2, _⟩ => ⟨S_, .f32⟩
  | .hbm, ⟨3, _⟩ => ⟨S4x2048x896, .f32⟩
  | .hbm, ⟨4, _⟩ => ⟨S2048x2048, .f32⟩
  | .hbm, ⟨5, _⟩ => ⟨S2048x4x896, .f32⟩
  | .hbm, ⟨6, _⟩ => ⟨S2048x3584, .f32⟩
  | .hbm, ⟨7, _⟩ => ⟨S2048x3584, .f32⟩
  | .hbm, ⟨8, _⟩ => ⟨S3584x2048, .f32⟩
  | .hbm, ⟨9, _⟩ => ⟨S2048x3584, .f32⟩
  | .hbm, ⟨10, _⟩ => ⟨S2048x4x896, .f32⟩
  | .hbm, ⟨11, _⟩ => ⟨S4x2048x896, .f32⟩
  | .hbm, ⟨12, _⟩ => ⟨S4x2048x896, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel10.lean ====
abbrev S2048x3584 : Shape := ⟨2, ![2048, 3584]⟩
abbrev S4x2048x896 : Shape := ⟨3, ![4, 2048, 896]⟩
abbrev S2048x2048 : Shape := ⟨2, ![2048, 2048]⟩
abbrev S1024x896 : Shape := ⟨2, ![1024, 896]⟩
abbrev S1x1024x896 : Shape := ⟨3, ![1, 1024, 896]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x3584, .f32⟩
  | .hbm, ⟨1, _⟩ => ⟨S4x2048x896, .bf16⟩
  | .hbm, ⟨2, _⟩ => ⟨S2048x2048, .f32⟩
  | .local _ .vmem, ⟨0, _⟩ => ⟨S1024x896, .f32⟩
  | .local _ .vmem, ⟨1, _⟩ => ⟨S1024x896, .f32⟩
  | .local _ .vmem, ⟨2, _⟩ => ⟨S1x1024x896, .bf16⟩
  | .local _ .vmem, ⟨3, _⟩ => ⟨S1x1024x896, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S2048x3584 : Shape := ⟨2, ![2048, 3584]⟩
abbrev S4x2048x896 : Shape := ⟨3, ![4, 2048, 896]⟩
abbrev S_ : Shape := ⟨0, ![]⟩
abbrev S2048x2048 : Shape := ⟨2, ![2048, 2048]⟩
abbrev S2048x4x896 : Shape := ⟨3, ![2048, 4, 896]⟩

abbrev nBuf : Space → Nat
  | .hbm => 9
  | .vmem => 0
  | .smem => 0
  | _ => 0

abbrev bufTy : (tb : Table) → Fin (tcTables nBuf tb) → BufTy
  | .hbm, ⟨0, _⟩ => ⟨S2048x3584, .f32⟩
  | .hbm, ⟨1, _⟩ => ⟨S4x2048x896, .bf16⟩
  | .hbm, ⟨2, _⟩ => ⟨S_, .f32⟩
  | .hbm, ⟨3, _⟩ => ⟨S2048x2048, .f32⟩
  | .hbm, ⟨4, _⟩ => ⟨S4x2048x896, .f32⟩
  | .hbm, ⟨5, _⟩ => ⟨S2048x4x896, .f32⟩
  | .hbm, ⟨6, _⟩ => ⟨S2048x3584, .f32⟩
  | .hbm, ⟨7, _⟩ => ⟨S2048x3584, .f32⟩
  | .hbm, ⟨8, _⟩ => ⟨S2048x2048, .f32⟩
  | _, _ => ⟨S2048x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 1], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference11Ideal.lean ====
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel12.lean ====
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S2048x2048, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel14.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference14Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 47
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x1, .f32⟩
  | .hbm, ⟨37, _⟩ => ⟨S_, .f32⟩
  | .hbm, ⟨38, _⟩ => ⟨S2048x1, .f32⟩
  | .hbm, ⟨39, _⟩ => ⟨S2048x1, .f32⟩
  | .hbm, ⟨40, _⟩ => ⟨S_, .f32⟩
  | .hbm, ⟨41, _⟩ => ⟨S2048, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel15.lean ====
abbrev S2048x512 : Shape := ⟨2, ![2048, 512]⟩
abbrev S1x2048 : Shape := ⟨2, ![1, 2048]⟩
abbrev S2048x2048 : Shape := ⟨2, ![2048, 2048]⟩
abbrev S256x512 : Shape := ⟨2, ![256, 512]⟩
abbrev S256x2048 : Shape := ⟨2, ![256, 2048]⟩
abbrev S256 : Shape := ⟨1, ![256]⟩
abbrev S256x1 : Shape := ⟨2, ![256, 1]⟩
abbrev S1x512 : Shape := ⟨2, ![1, 512]⟩
abbrev S512 : Shape := ⟨1, ![512]⟩

abbrev nBuf : Space → Nat
  | .hbm => 11
  | .vmem => 20
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S1x2048, .f32⟩
  | .hbm, ⟨5, _⟩ => ⟨S2048x2048, .f32⟩
  | .hbm, ⟨6, _⟩ => ⟨S2048x512, .f32⟩
  | .hbm, ⟨7, _⟩ => ⟨S2048x512, .f32⟩
  | .hbm, ⟨8, _⟩ => ⟨S2048x512, .f32⟩
  | .hbm, ⟨9, _⟩ => ⟨S2048x512, .f32⟩
  | .hbm, ⟨10, _⟩ => ⟨S1x2048, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S1x2048, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference15Ideal.lean ====
abbrev S2048x512 : Shape := ⟨2, ![2048, 512]⟩
abbrev S1x2048 : Shape := ⟨2, ![1, 2048]⟩
abbrev S2048x2048 : Shape := ⟨2, ![2048, 2048]⟩
abbrev S2048x4x512 : Shape := ⟨3, ![2048, 4, 512]⟩
abbrev S_ : Shape := ⟨0, ![]⟩
abbrev S2048x4 : Shape := ⟨2, ![2048, 4]⟩
abbrev S2048x4x1 : Shape := ⟨3, ![2048, 4, 1]⟩
abbrev S2048 : Shape := ⟨1, ![2048]⟩

abbrev nBuf : Space → Nat
  | .hbm => 57
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S1x2048, .f32⟩
  | .hbm, ⟨5, _⟩ => ⟨S2048x2048, .f32⟩
  | .hbm, ⟨6, _⟩ => ⟨S2048x2048, .f32⟩
  | .hbm, ⟨7, _⟩ => ⟨S2048x4x512, .f32⟩
  | .hbm, ⟨8, _⟩ => ⟨S2048x4x512, .f32⟩
  | .hbm, ⟨9, _⟩ => ⟨S_, .f32⟩
  | .hbm, ⟨10, _⟩ => ⟨S2048x4, .f32⟩
  | .hbm, ⟨11, _⟩ => ⟨S2048x4x1, .f32⟩
  | .hbm, ⟨12, _⟩ => ⟨S_, .f32⟩
  | .hbm, ⟨13, _⟩ => ⟨S2048x4x1, .f32⟩
  | .hbm, ⟨14, _⟩ => ⟨S2048x4x1, .f32⟩
  | .hbm, ⟨15, _⟩ => ⟨S_, .f32⟩
  | .hbm, ⟨16, _⟩ => ⟨S2048x4x1, .f32⟩
  | .hbm, ⟨17, _⟩ => ⟨S2048x4x1, .f32⟩
  | .hbm, ⟨18, _⟩ => ⟨S2048x4x1, .f32⟩
  | .hbm, ⟨19, _⟩ => ⟨S2048x4x1, .f32⟩
  | .hbm, ⟨20, _⟩ => ⟨S_, .f32⟩
  | .hbm, ⟨21, _⟩ => ⟨S2048x4x1, .f32⟩
  | .hbm, ⟨22, _⟩ => ⟨S2048x4x1, .f32⟩
  | .hbm, ⟨23, _⟩ => ⟨S2048x4x512, .f32⟩
  | .hbm, ⟨24, _⟩ => ⟨S2048x4x512, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048, .f32⟩
  | .hbm, ⟨31, _⟩ => ⟨S1x2048, .f32⟩
  | .hbm, ⟨32, _⟩ => ⟨S2048x2048, .f32⟩
  | .hbm, ⟨33, _⟩ => ⟨S2048x2048, .f32⟩
  | .hbm, ⟨34, _⟩ => ⟨S2048x4x512, .f32⟩
  | .hbm, ⟨35, _⟩ => ⟨S2048x4x512, .f32⟩
  | .hbm, ⟨36, _⟩ => ⟨S_, .f32⟩
  | .hbm, ⟨37, _⟩ => ⟨S2048x4, .f32⟩
  | .hbm, ⟨38, _⟩ => ⟨S2048x4x1, .f32⟩
  | .hbm, ⟨39, _⟩ => ⟨S2048x4x512, .f32⟩
  | .hbm, ⟨40, _⟩ => ⟨S2048x4x512, .f32⟩
  | .hbm, ⟨41, _⟩ => ⟨S2048x4x1, .f32⟩
  | .hbm, ⟨42, _⟩ => ⟨S_, .f32⟩
  | .hbm, ⟨43, _⟩ => ⟨S2048x4x1, .f32⟩
  | .hbm, ⟨44, _⟩ => ⟨S2048x4x1, .f32⟩
  | .hbm, ⟨45, _⟩ => ⟨S_, .f32⟩
  | .hbm, ⟨46, _⟩ => ⟨S2048x4, .f32⟩
  | .hbm, ⟨47, _⟩ => ⟨S2048x4x512, .f32⟩
  | .hbm, ⟨48, _⟩ => ⟨S2048x4x512, .f32⟩
  | .hbm, ⟨49, _⟩ => ⟨S2048x4x512, .f32⟩
  | .hbm, ⟨50, _⟩ => ⟨S2048x4x512, .f32⟩
  | .hbm, ⟨51, _⟩ => ⟨S2048x4x512, .f32⟩
  | .hbm, ⟨52, _⟩ => ⟨S2048x2048, .f32⟩
  | .hbm, ⟨53, _⟩ => ⟨S2048x512, .f32⟩
  | .hbm, ⟨54, _⟩ => ⟨S2048x512, .f32⟩
  | .hbm, ⟨55, _⟩ => ⟨S2048x512, .f32⟩
  | .hbm, ⟨56, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Kernel17.lean ====
abbrev S2048x512 : Shape := ⟨2, ![2048, 512]⟩
abbrev S1x512 : Shape := ⟨2, ![1, 512]⟩
abbrev S512x512 : Shape := ⟨2, ![512, 512]⟩
abbrev S256x512 : Shape := ⟨2, ![256, 512]⟩
abbrev S256 : Shape := ⟨1, ![256]⟩
abbrev S256x1 : Shape := ⟨2, ![256, 1]⟩
abbrev S512 : Shape := ⟨1, ![512]⟩

abbrev nBuf : Space → Nat
  | .hbm => 9
  | .vmem => 12
  | .smem => 0
  | _ => 0

abbrev bufTy : (tb : Table) → Fin (tcTables nBuf tb) → BufTy
  | .hbm, ⟨0, _⟩ => ⟨S2048x512, .f32⟩
  | .hbm, ⟨1, _⟩ => ⟨S1x512, .f32⟩
  | .hbm, ⟨2, _⟩ => ⟨S1x512, .f32⟩
  | .hbm, ⟨3, _⟩ => ⟨S512x512, .bf16⟩
  | .hbm, ⟨4, _⟩ => ⟨S2048x512, .f32⟩
  | .hbm, ⟨5, _⟩ => ⟨S2048x512, .f32⟩
  | .hbm, ⟨6, _⟩ => ⟨S1x512, .f32⟩
  | .hbm, ⟨7, _⟩ => ⟨S1x512, .f32⟩
  | .hbm, ⟨8, _⟩ => ⟨S512x512, .f32⟩
  | .local _ .vmem, ⟨0, _⟩ => ⟨S256x512, .f32⟩
  | .local _ .vmem, ⟨1, _⟩ => ⟨S256x512, .f32⟩
  | .local _ .vmem, ⟨2, _⟩ => ⟨S1x512, .f32⟩
  | .local _ .vmem, ⟨3, _⟩ => ⟨S1x512, .f32⟩
  | .local _ .vmem, ⟨4, _⟩ => ⟨S512x512, .bf16⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S1x512, .f32⟩
  | .local _ .vmem, ⟨10, _⟩ => ⟨S1x512, .f32⟩
  | .local _ .vmem, ⟨11, _⟩ => ⟨S512x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference17Ideal.lean ====
abbrev S2048x512 : Shape := ⟨2, ![2048, 512]⟩
abbrev S1x512 : Shape := ⟨2, ![1, 512]⟩
abbrev S512x512 : Shape := ⟨2, ![512, 512]⟩
abbrev S_ : Shape := ⟨0, ![]⟩
abbrev S2048 : Shape := ⟨1, ![2048]⟩
abbrev S2048x1 : Shape := ⟨2, ![2048, 1]⟩
abbrev S512 : Shape := ⟨1, ![512]⟩

abbrev nBuf : Space → Nat
  | .hbm => 93
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S1x512, .f32⟩
  | .hbm, ⟨2, _⟩ => ⟨S1x512, .f32⟩
  | .hbm, ⟨3, _⟩ => ⟨S512x512, .bf16⟩
  | .hbm, ⟨4, _⟩ => ⟨S2048x512, .f32⟩
  | .hbm, ⟨5, _⟩ => ⟨S512x512, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x512, .f32⟩
  | .hbm, ⟨13, _⟩ => ⟨S2048x512, .f32⟩
  | .hbm, ⟨14, _⟩ => ⟨S2048x512, .f32⟩
  | .hbm, ⟨15, _⟩ => ⟨S_, .f32⟩
  | .hbm, ⟨16, _⟩ => ⟨S2048, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x1, .f32⟩
  | .hbm, ⟨25, _⟩ => ⟨S2048x1, .f32⟩
  | .hbm, ⟨26, _⟩ => ⟨S_, .f32⟩
  | .hbm, ⟨27, _⟩ => ⟨S2048x1, .f32⟩
  | .hbm, ⟨28, _⟩ => ⟨S2048x1, .f32⟩
  | .hbm, ⟨29, _⟩ => ⟨S2048x512, .f32⟩
  | .hbm, ⟨30, _⟩ => ⟨S2048x512, .f32⟩
  | .hbm, ⟨31, _⟩ => ⟨S2048x512, .f32⟩
  | .hbm, ⟨32, _⟩ => ⟨S2048x512, .f32⟩
  | .hbm, ⟨33, _⟩ => ⟨S2048x512, .f32⟩
  | .hbm, ⟨34, _⟩ => ⟨S2048x512, .f32⟩
  | .hbm, ⟨35, _⟩ => ⟨S2048x512, .f32⟩
  | .hbm, ⟨36, _⟩ => ⟨S2048x512, .f32⟩
  | .hbm, ⟨37, _⟩ => ⟨S_, .f32⟩
  | .hbm, ⟨38, _⟩ => ⟨S2048x512, .f32⟩
  | .hbm, ⟨39, _⟩ => ⟨S2048x512, .f32⟩
  | .hbm, ⟨40, _⟩ => ⟨S_, .f32⟩
  | .hbm, ⟨41, _⟩ => ⟨S2048x512, .f32⟩
  | .hbm, ⟨42, _⟩ => ⟨S2048x512, .f32⟩
  | .hbm, ⟨43, _⟩ => ⟨S_, .f32⟩
  | .hbm, ⟨44, _⟩ => ⟨S2048x512, .f32⟩
  | .hbm, ⟨45, _⟩ => ⟨S2048x512, .f32⟩
  | .hbm, ⟨46, _⟩ => ⟨S2048x512, .f32⟩
  | .hbm, ⟨47, _⟩ => ⟨S2048x512, .f32⟩
  | .hbm, ⟨48, _⟩ => ⟨S2048x512, .f32⟩
  | .hbm, ⟨49, _⟩ => ⟨S512x512, .f32⟩
  | .hbm, ⟨50, _⟩ => ⟨S512x512, .f32⟩
  | .hbm, ⟨51, _⟩ => ⟨S2048x512, .f32⟩
  | .hbm, ⟨52, _⟩ => ⟨S2048x512, .f32⟩
  | .hbm, ⟨53, _⟩ => ⟨S2048x512, .f32⟩
  | .hbm, ⟨54, _⟩ => ⟨S2048x512, .f32⟩
  | .hbm, ⟨55, _⟩ => ⟨S2048x512, .f32⟩
  | .hbm, ⟨56, _⟩ => ⟨S_, .f32⟩
  | .hbm, ⟨57, _⟩ => ⟨S512, .f32⟩
  | .hbm, ⟨58, _⟩ => ⟨S1x512, .f32⟩
  | .hbm, ⟨59, _⟩ => ⟨S2048x512, .f32⟩
  | .hbm, ⟨60, _⟩ => ⟨S_, .f32⟩
  | .hbm, ⟨61, _⟩ => ⟨S512, .f32⟩
  | .hbm, ⟨62, _⟩ => ⟨S1x512, .f32⟩
  | .hbm, ⟨63, _⟩ => ⟨S2048x512, .f32⟩
  | .hbm, ⟨64, _⟩ => ⟨S2048x512, .f32⟩
  | .hbm, ⟨65, _⟩ => ⟨S2048x512, .f32⟩
  | .hbm, ⟨66, _⟩ => ⟨S_, .f32⟩
  | .hbm, ⟨67, _⟩ => ⟨S2048, .f32⟩
  | .hbm, ⟨68, _⟩ => ⟨S2048x1, .f32⟩
  | .hbm, ⟨69, _⟩ => ⟨S2048x512, .f32⟩
  | .hbm, ⟨70, _⟩ => ⟨S2048x512, .f32⟩
  | .hbm, ⟨71, _⟩ => ⟨S2048x1, .f32⟩
  | .hbm, ⟨72, _⟩ => ⟨S_, .f32⟩
  | .hbm, ⟨73, _⟩ => ⟨S2048x1, .f32⟩
  | .hbm, ⟨74, _⟩ => ⟨S2048x1, .f32⟩
  | .hbm, ⟨75, _⟩ => ⟨S_, .f32⟩
  | .hbm, ⟨76, _⟩ => ⟨S2048, .f32⟩
  | .hbm, ⟨77, _⟩ => ⟨S2048x512, .f32⟩
  | .hbm, ⟨78, _⟩ => ⟨S2048x512, .f32⟩
  | .hbm, ⟨79, _⟩ => ⟨S2048x512, .f32⟩
  | .hbm, ⟨80, _⟩ => ⟨S2048x512, .f32⟩
  | .hbm, ⟨81, _⟩ => ⟨S2048x512, .f32⟩
  | .hbm, ⟨82, _⟩ => ⟨S2048x512, .f32⟩
  | .hbm, ⟨83, _⟩ => ⟨S_, .f32⟩
  | .hbm, ⟨84, _⟩ => ⟨S2048, .f32⟩
  | .hbm, ⟨85, _⟩ => ⟨S2048x1, .f32⟩
  | .hbm, ⟨86, _⟩ => ⟨S_, .f32⟩
  | .hbm, ⟨87, _⟩ => ⟨S2048x1, .f32⟩
  | .hbm, ⟨88, _⟩ => ⟨S2048x1, .f32⟩
  | .hbm, ⟨89, _⟩ => ⟨S_, .f32⟩
  | .hbm, ⟨90, _⟩ => ⟨S2048, .f32⟩
  | .hbm, ⟨91, _⟩ => ⟨S2048x512, .f32⟩
  | .hbm, ⟨92, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_v24_2 : Ref sig .tc := ⟨.hbm, 42, rfl⟩
abbrev main_call0_cst_1 : Ref sig .tc := ⟨.hbm, 43, rfl⟩
abbrev main_call0_v6 : Ref sig .tc := ⟨.hbm, 44, rfl⟩
abbrev main_call0_v7 : Ref sig .tc := ⟨.hbm, 45, rfl⟩
abbrev main_v24_1 : Ref sig .tc := ⟨.hbm, 46, rfl⟩
abbrev main_v24_0 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v29 : Ref sig .tc := ⟨.hbm, 55, rfl⟩
abbrev main_cst_5 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_6 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_7 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_8 : Ref sig .tc := ⟨.hbm, 72, rfl⟩
abbrev main_v43 : Ref sig .tc := ⟨.hbm, 73, rfl⟩
abbrev main_v44 : Ref sig .tc := ⟨.hbm, 74, rfl⟩
abbrev main_cst_9 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_10 : Ref sig .tc := ⟨.hbm, 83, rfl⟩
abbrev main_v52 : Ref sig .tc := ⟨.hbm, 84, rfl⟩
abbrev main_v53 : Ref sig .tc := ⟨.hbm, 85, rfl⟩
abbrev main_cst_11 : Ref sig .tc := ⟨.hbm, 86, rfl⟩
abbrev main_v54 : Ref sig .tc := ⟨.hbm, 87, rfl⟩
abbrev main_v55 : Ref sig .tc := ⟨.hbm, 88, rfl⟩
abbrev main_cst_12 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩

abbrev nD : Nat := 1
abbrev τ : Topo := Topo.v7x

variable {F : FTy → Type} [FloatOps F]
-- ==== Kernel18.lean ====
abbrev S2048x512 : Shape := ⟨2, ![2048, 512]⟩
abbrev S256x512 : Shape := ⟨2, ![256, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 4
  | .vmem => 8
  | .smem => 0
  | _ => 0

abbrev bufTy : (tb : Table) → Fin (tcTables nBuf tb) → BufTy
  | .hbm, ⟨0, _⟩ => ⟨S2048x512, .bf16⟩
  | .hbm, ⟨1, _⟩ => ⟨S256x512, .bf16⟩
  | .hbm, ⟨2, _⟩ => ⟨S256x512, .bf16⟩
  | .hbm, ⟨3, _⟩ => ⟨S2048x512, .bf16⟩
  | .local _ .vmem, ⟨0, _⟩ => ⟨S512x128, .bf16⟩
  | .local _ .vmem, ⟨1, _⟩ => ⟨S512x128, .bf16⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S512x128, .bf16⟩
  | .local _ .vmem, ⟨7, _⟩ => ⟨S512x128, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Kernel18Ideal.lean ====
variable {F : FTy → Type} [FloatOps F] [Named F]
def κ : String → Option EReal := fun
  | "s" => some (((Real.sqrt 128)⁻¹ : ℝ) : EReal)
  | _ => none
-- ==== Reference18Ideal.lean ====
abbrev S2048x512 : Shape := ⟨2, ![2048, 512]⟩
abbrev S256x512 : Shape := ⟨2, ![256, 512]⟩
abbrev S2048x4x128 : Shape := ⟨3, ![2048, 4, 128]⟩
abbrev S256x4x128 : Shape := ⟨3, ![256, 4, 128]⟩
abbrev S4x2048x256 : Shape := ⟨3, ![4, 2048, 256]⟩
abbrev S_ : Shape := ⟨0, ![]⟩
abbrev S4x2048 : Shape := ⟨2, ![4, 2048]⟩
abbrev S4x2048x1 : Shape := ⟨3, ![4, 2048, 1]⟩
abbrev S4x128x2048 : Shape := ⟨3, ![4, 128, 2048]⟩

abbrev nBuf : Space → Nat
  | .hbm => 32
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S256x512, .bf16⟩
  | .hbm, ⟨2, _⟩ => ⟨S256x512, .bf16⟩
  | .hbm, ⟨3, _⟩ => ⟨S2048x512, .f32⟩
  | .hbm, ⟨4, _⟩ => ⟨S256x512, .f32⟩
  | .hbm, ⟨5, _⟩ => ⟨S256x512, .f32⟩
  | .hbm, ⟨6, _⟩ => ⟨S2048x4x128, .f32⟩
  | .hbm, ⟨7, _⟩ => ⟨S256x4x128, .f32⟩
  | .hbm, ⟨8, _⟩ => ⟨S256x4x128, .f32⟩
  | .hbm, ⟨9, _⟩ => ⟨S4x2048x256, .f32⟩
  | .hbm, ⟨10, _⟩ => ⟨S_, .f32⟩
  | .hbm, ⟨11, _⟩ => ⟨S_, .f32⟩
  | .hbm, ⟨12, _⟩ => ⟨S4x2048x256, .f32⟩
  | .hbm, ⟨13, _⟩ => ⟨S4x2048x256, .f32⟩
  | .hbm, ⟨14, _⟩ => ⟨S_, .f32⟩
  | .hbm, ⟨15, _⟩ => ⟨S4x2048, .f32⟩
  | .hbm, ⟨16, _⟩ => ⟨S_, .f32⟩
  | .hbm, ⟨17, _⟩ => ⟨S4x2048, .f32⟩
  | .hbm, ⟨18, _⟩ => ⟨S4x2048, .f32⟩
  | .hbm, ⟨19, _⟩ => ⟨S4x2048x1, .f32⟩
  | .hbm, ⟨20, _⟩ => ⟨S4x2048x256, .f32⟩
  | .hbm, ⟨21, _⟩ => ⟨S4x2048x256, .f32⟩
  | .hbm, ⟨22, _⟩ => ⟨S4x2048x256, .f32⟩
  | .hbm, ⟨23, _⟩ => ⟨S_, .f32⟩
  | .hbm, ⟨24, _⟩ => ⟨S4x2048, .f32⟩
  | .hbm, ⟨25, _⟩ => ⟨S4x2048x1, .f32⟩
  | .hbm, ⟨26, _⟩ => ⟨S4x2048x256, .f32⟩
  | .hbm, ⟨27, _⟩ => ⟨S4x2048x256, .f32⟩
  | .hbm, ⟨28, _⟩ => ⟨S4x128x2048, .f32⟩
  | .hbm, ⟨29, _⟩ => ⟨S2048x4x128, .f32⟩
  | .hbm, ⟨30, _⟩ => ⟨S2048x512, .f32⟩
  | .hbm, ⟨31, _⟩ => ⟨S2048x512, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Kernel19.lean ====
abbrev S2048x2048 : Shape := ⟨2, ![2048, 2048]⟩
abbrev S4x512x512 : Shape := ⟨3, ![4, 512, 512]⟩
abbrev S2048x512 : Shape := ⟨2, ![2048, 512]⟩
abbrev S1024x512 : Shape := ⟨2, ![1024, 512]⟩
abbrev S1x512x512 : Shape := ⟨3, ![1, 512, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S4x512x512, .bf16⟩
  | .hbm, ⟨2, _⟩ => ⟨S2048x512, .f32⟩
  | .local _ .vmem, ⟨0, _⟩ => ⟨S1024x512, .f32⟩
  | .local _ .vmem, ⟨1, _⟩ => ⟨S1024x512, .f32⟩
  | .local _ .vmem, ⟨2, _⟩ => ⟨S1x512x512, .bf16⟩
  | .local _ .vmem, ⟨3, _⟩ => ⟨S1x512x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S2048x2048 : Shape := ⟨2, ![2048, 2048]⟩
abbrev S4x512x512 : Shape := ⟨3, ![4, 512, 512]⟩
abbrev S_ : Shape := ⟨0, ![]⟩
abbrev S2048x512 : Shape := ⟨2, ![2048, 512]⟩
abbrev S512x4x512 : Shape := ⟨3, ![512, 4, 512]⟩
abbrev S512x2048 : Shape := ⟨2, ![512, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S4x512x512, .bf16⟩
  | .hbm, ⟨2, _⟩ => ⟨S_, .f32⟩
  | .hbm, ⟨3, _⟩ => ⟨S2048x2048, .f32⟩
  | .hbm, ⟨4, _⟩ => ⟨S_, .f32⟩
  | .hbm, ⟨5, _⟩ => ⟨S2048x512, .f32⟩
  | .hbm, ⟨6, _⟩ => ⟨S4x512x512, .f32⟩
  | .hbm, ⟨7, _⟩ => ⟨S512x4x512, .f32⟩
  | .hbm, ⟨8, _⟩ => ⟨S512x2048, .f32⟩
  | .hbm, ⟨9, _⟩ => ⟨S2048x2048, .f32⟩
  | .hbm, ⟨10, _⟩ => ⟨S2048x2048, .f32⟩
  | .hbm, ⟨11, _⟩ => ⟨S2048x512, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel20.lean ====
abbrev S2048x512 : Shape := ⟨2, ![2048, 512]⟩
abbrev S2048x2048 : Shape := ⟨2, ![2048, 2048]⟩
abbrev S4x512x512 : Shape := ⟨3, ![4, 512, 512]⟩
abbrev S1x512x512 : Shape := ⟨3, ![1, 512, 512]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x512, .bf16⟩
  | .hbm, ⟨1, _⟩ => ⟨S2048x2048, .f32⟩
  | .hbm, ⟨2, _⟩ => ⟨S4x512x512, .bf16⟩
  | .local _ .vmem, ⟨0, _⟩ => ⟨S2048x512, .bf16⟩
  | .local _ .vmem, ⟨1, _⟩ => ⟨S2048x512, .f32⟩
  | .local _ .vmem, ⟨2, _⟩ => ⟨S2048x512, .f32⟩
  | .local _ .vmem, ⟨3, _⟩ => ⟨S1x512x512, .bf16⟩
  | .local _ .vmem, ⟨4, _⟩ => ⟨S1x512x512, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S2048x512 : Shape := ⟨2, ![2048, 512]⟩
abbrev S2048x2048 : Shape := ⟨2, ![2048, 2048]⟩
abbrev S_ : Shape := ⟨0, ![]⟩
abbrev S4x512x512 : Shape := ⟨3, ![4, 512, 512]⟩
abbrev S512x4x512 : Shape := ⟨3, ![512, 4, 512]⟩
abbrev S512x2048 : Shape := ⟨2, ![512, 2048]⟩

abbrev nBuf : Space → Nat
  | .hbm => 16
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S_, .f32⟩
  | .hbm, ⟨5, _⟩ => ⟨S4x512x512, .f32⟩
  | .hbm, ⟨6, _⟩ => ⟨S2048x512, .f32⟩
  | .hbm, ⟨7, _⟩ => ⟨S512x4x512, .f32⟩
  | .hbm, ⟨8, _⟩ => ⟨S512x2048, .f32⟩
  | .hbm, ⟨9, _⟩ => ⟨S2048x2048, .f32⟩
  | .hbm, ⟨10, _⟩ => ⟨S2048x2048, .f32⟩
  | .hbm, ⟨11, _⟩ => ⟨S2048x512, .f32⟩
  | .hbm, ⟨12, _⟩ => ⟨S512x2048, .f32⟩
  | .hbm, ⟨13, _⟩ => ⟨S512x4x512, .f32⟩
  | .hbm, ⟨14, _⟩ => ⟨S4x512x512, .f32⟩
  | .hbm, ⟨15, _⟩ => ⟨S4x512x512, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Kernel21.lean ====
abbrev S2048x2048 : Shape := ⟨2, ![2048, 2048]⟩
abbrev S2048x512 : Shape := ⟨2, ![2048, 512]⟩
abbrev S2048x1024 : Shape := ⟨2, ![2048, 1024]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x512, .f32⟩
  | .hbm, ⟨2, _⟩ => ⟨S2048x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .f32⟩
  | .local _ .vmem, ⟨3, _⟩ => ⟨S1024x512, .bf16⟩
  | .local _ .vmem, ⟨4, _⟩ => ⟨S1024x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S2048x2048 : Shape := ⟨2, ![2048, 2048]⟩
abbrev S2048x512 : Shape := ⟨2, ![2048, 512]⟩
abbrev S_ : Shape := ⟨0, ![]⟩
abbrev S512x2048 : Shape := ⟨2, ![512, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x512, .f32⟩
  | .hbm, ⟨2, _⟩ => ⟨S_, .f32⟩
  | .hbm, ⟨3, _⟩ => ⟨S2048x512, .f32⟩
  | .hbm, ⟨4, _⟩ => ⟨S2048x2048, .f32⟩
  | .hbm, ⟨5, _⟩ => ⟨S2048x512, .f32⟩
  | .hbm, ⟨6, _⟩ => ⟨S512x2048, .f32⟩
  | .hbm, ⟨7, _⟩ => ⟨S2048x512, .f32⟩
  | .hbm, ⟨8, _⟩ => ⟨S2048x512, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel22.lean ====
abbrev S256x2048 : Shape := ⟨2, ![256, 2048]⟩
abbrev S256x512 : Shape := ⟨2, ![256, 512]⟩
abbrev S2048x512 : Shape := ⟨2, ![2048, 512]⟩
abbrev S256x1024 : Shape := ⟨2, ![256, 1024]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S256x2048, .bf16⟩
  | .hbm, ⟨1, _⟩ => ⟨S256x512, .f32⟩
  | .hbm, ⟨2, _⟩ => ⟨S2048x512, .bf16⟩
  | .local _ .vmem, ⟨0, _⟩ => ⟨S256x1024, .bf16⟩
  | .local _ .vmem, ⟨1, _⟩ => ⟨S256x1024, .bf16⟩
  | .local _ .vmem, ⟨2, _⟩ => ⟨S256x512, .f32⟩
  | .local _ .vmem, ⟨3, _⟩ => ⟨S1024x512, .bf16⟩
  | .local _ .vmem, ⟨4, _⟩ => ⟨S1024x512, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S256x2048 : Shape := ⟨2, ![256, 2048]⟩
abbrev S256x512 : Shape := ⟨2, ![256, 512]⟩
abbrev S_ : Shape := ⟨0, ![]⟩
abbrev S2048x512 : Shape := ⟨2, ![2048, 512]⟩
abbrev S512x2048 : Shape := ⟨2, ![512, 2048]⟩

abbrev nBuf : Space → Nat
  | .hbm => 9
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S256x512, .f32⟩
  | .hbm, ⟨2, _⟩ => ⟨S_, .f32⟩
  | .hbm, ⟨3, _⟩ => ⟨S2048x512, .f32⟩
  | .hbm, ⟨4, _⟩ => ⟨S256x2048, .f32⟩
  | .hbm, ⟨5, _⟩ => ⟨S256x512, .f32⟩
  | .hbm, ⟨6, _⟩ => ⟨S512x2048, .f32⟩
  | .hbm, ⟨7, _⟩ => ⟨S2048x512, .f32⟩
  | .hbm, ⟨8, _⟩ => ⟨S2048x512, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel23.lean ====
abbrev S256x512 : Shape := ⟨2, ![256, 512]⟩
abbrev S2048x512 : Shape := ⟨2, ![2048, 512]⟩
abbrev S256x2048 : Shape := ⟨2, ![256, 2048]⟩
abbrev S1024x512 : Shape := ⟨2, ![1024, 512]⟩
abbrev S256x1024 : Shape := ⟨2, ![256, 1024]⟩

abbrev nBuf : Space → Nat
  | .hbm => 4
  | .vmem => 7
  | .smem => 0
  | _ => 0

abbrev bufTy : (tb : Table) → Fin (tcTables nBuf tb) → BufTy
  | .hbm, ⟨0, _⟩ => ⟨S256x512, .f32⟩
  | .hbm, ⟨1, _⟩ => ⟨S2048x512, .bf16⟩
  | .hbm, ⟨2, _⟩ => ⟨S256x2048, .f32⟩
  | .hbm, ⟨3, _⟩ => ⟨S256x2048, .f32⟩
  | .local _ .vmem, ⟨0, _⟩ => ⟨S256x512, .f32⟩
  | .local _ .vmem, ⟨1, _⟩ => ⟨S1024x512, .bf16⟩
  | .local _ .vmem, ⟨2, _⟩ => ⟨S1024x512, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 2, 1], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference23Ideal.lean ====
abbrev S256x512 : Shape := ⟨2, ![256, 512]⟩
abbrev S2048x512 : Shape := ⟨2, ![2048, 512]⟩
abbrev S256x2048 : Shape := ⟨2, ![256, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S2048x512, .bf16⟩
  | .hbm, ⟨2, _⟩ => ⟨S256x2048, .f32⟩
  | .hbm, ⟨3, _⟩ => ⟨S_, .f32⟩
  | .hbm, ⟨4, _⟩ => ⟨S256x2048, .f32⟩
  | .hbm, ⟨5, _⟩ => ⟨S2048x512, .f32⟩
  | .hbm, ⟨6, _⟩ => ⟨S256x512, .f32⟩
  | .hbm, ⟨7, _⟩ => ⟨S256x2048, .f32⟩
  | .hbm, ⟨8, _⟩ => ⟨S256x2048, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel24.lean ====
abbrev S2048x512 : Shape := ⟨2, ![2048, 512]⟩
abbrev S2048x2048 : Shape := ⟨2, ![2048, 2048]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x512, .f32⟩
  | .hbm, ⟨1, _⟩ => ⟨S2048x512, .bf16⟩
  | .hbm, ⟨2, _⟩ => ⟨S2048x2048, .f32⟩
  | .local _ .vmem, ⟨0, _⟩ => ⟨S1024x512, .f32⟩
  | .local _ .vmem, ⟨1, _⟩ => ⟨S1024x512, .f32⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference24Ideal.lean ====
abbrev S2048x512 : Shape := ⟨2, ![2048, 512]⟩
abbrev S_ : Shape := ⟨0, ![]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .bf16⟩
  | .hbm, ⟨2, _⟩ => ⟨S_, .f32⟩
  | .hbm, ⟨3, _⟩ => ⟨S2048x2048, .f32⟩
  | .hbm, ⟨4, _⟩ => ⟨S2048x512, .f32⟩
  | .hbm, ⟨5, _⟩ => ⟨S2048x512, .f32⟩
  | .hbm, ⟨6, _⟩ => ⟨S2048x2048, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel25.lean ====
abbrev S2048x2048 : Shape := ⟨2, ![2048, 2048]⟩
abbrev S2048x512 : Shape := ⟨2, ![2048, 512]⟩
abbrev S1024x2048 : Shape := ⟨2, ![1024, 2048]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x512, .bf16⟩
  | .hbm, ⟨2, _⟩ => ⟨S2048x512, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S1024x512, .bf16⟩
  | .local _ .vmem, ⟨4, _⟩ => ⟨S1024x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference25Ideal.lean ====
abbrev S2048x2048 : Shape := ⟨2, ![2048, 2048]⟩
abbrev S2048x512 : Shape := ⟨2, ![2048, 512]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x512, .bf16⟩
  | .hbm, ⟨2, _⟩ => ⟨S2048x2048, .f32⟩
  | .hbm, ⟨3, _⟩ => ⟨S2048x512, .f32⟩
  | .hbm, ⟨4, _⟩ => ⟨S2048x512, .f32⟩
  | .hbm, ⟨5, _⟩ => ⟨S2048x512, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel26.lean ====
abbrev S256x2048 : Shape := ⟨2, ![256, 2048]⟩
abbrev S2048x512 : Shape := ⟨2, ![2048, 512]⟩
abbrev S256x512 : Shape := ⟨2, ![256, 512]⟩

abbrev nBuf : Space → Nat
  | .hbm => 3
  | .vmem => 3
  | .smem => 0
  | _ => 0

abbrev bufTy : (tb : Table) → Fin (tcTables nBuf tb) → BufTy
  | .hbm, ⟨0, _⟩ => ⟨S256x2048, .bf16⟩
  | .hbm, ⟨1, _⟩ => ⟨S2048x512, .bf16⟩
  | .hbm, ⟨2, _⟩ => ⟨S256x512, .bf16⟩
  | .local _ .vmem, ⟨0, _⟩ => ⟨S256x2048, .bf16⟩
  | .local _ .vmem, ⟨1, _⟩ => ⟨S2048x512, .bf16⟩
  | .local _ .vmem, ⟨2, _⟩ => ⟨S256x512, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference26Ideal.lean ====
abbrev S256x2048 : Shape := ⟨2, ![256, 2048]⟩
abbrev S2048x512 : Shape := ⟨2, ![2048, 512]⟩
abbrev S256x512 : Shape := ⟨2, ![256, 512]⟩

abbrev nBuf : Space → Nat
  | .hbm => 6
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S2048x512, .bf16⟩
  | .hbm, ⟨2, _⟩ => ⟨S256x2048, .f32⟩
  | .hbm, ⟨3, _⟩ => ⟨S2048x512, .f32⟩
  | .hbm, ⟨4, _⟩ => ⟨S256x512, .f32⟩
  | .hbm, ⟨5, _⟩ => ⟨S256x512, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel27.lean ====
abbrev S2048x512 : Shape := ⟨2, ![2048, 512]⟩
abbrev S4x512x512 : Shape := ⟨3, ![4, 512, 512]⟩
abbrev S2048x2048 : Shape := ⟨2, ![2048, 2048]⟩
abbrev S1024x512 : Shape := ⟨2, ![1024, 512]⟩
abbrev S1x512x512 : Shape := ⟨3, ![1, 512, 512]⟩
abbrev S512x512 : Shape := ⟨2, ![512, 512]⟩

abbrev nBuf : Space → Nat
  | .hbm => 4
  | .vmem => 8
  | .smem => 0
  | _ => 0

abbrev bufTy : (tb : Table) → Fin (tcTables nBuf tb) → BufTy
  | .hbm, ⟨0, _⟩ => ⟨S2048x512, .bf16⟩
  | .hbm, ⟨1, _⟩ => ⟨S4x512x512, .bf16⟩
  | .hbm, ⟨2, _⟩ => ⟨S2048x2048, .f32⟩
  | .hbm, ⟨3, _⟩ => ⟨S2048x2048, .f32⟩
  | .local _ .vmem, ⟨0, _⟩ => ⟨S1024x512, .bf16⟩
  | .local _ .vmem, ⟨1, _⟩ => ⟨S1024x512, .bf16⟩
  | .local _ .vmem, ⟨2, _⟩ => ⟨S1x512x512, .bf16⟩
  | .local _ .vmem, ⟨3, _⟩ => ⟨S1x512x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_4 : BitVec 32 := 0#32
  let v6 : BitVec 1 := Scalar.cmpi .ne v5 c0_i32_4
  v6

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference27Ideal.lean ====
abbrev S2048x512 : Shape := ⟨2, ![2048, 512]⟩
abbrev S4x512x512 : Shape := ⟨3, ![4, 512, 512]⟩
abbrev S2048x2048 : Shape := ⟨2, ![2048, 2048]⟩
abbrev S512x4x512 : Shape := ⟨3, ![512, 4, 512]⟩
abbrev S512x2048 : Shape := ⟨2, ![512, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S4x512x512, .bf16⟩
  | .hbm, ⟨2, _⟩ => ⟨S2048x2048, .f32⟩
  | .hbm, ⟨3, _⟩ => ⟨S2048x512, .f32⟩
  | .hbm, ⟨4, _⟩ => ⟨S4x512x512, .f32⟩
  | .hbm, ⟨5, _⟩ => ⟨S512x4x512, .f32⟩
  | .hbm, ⟨6, _⟩ => ⟨S512x2048, .f32⟩
  | .hbm, ⟨7, _⟩ => ⟨S2048x2048, .f32⟩
  | .hbm, ⟨8, _⟩ => ⟨S2048x2048, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel28.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference28Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 18
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel29.lean ====
abbrev S256x2048 : Shape := ⟨2, ![256, 2048]⟩
abbrev S1x2048 : Shape := ⟨2, ![1, 2048]⟩
abbrev S256 : Shape := ⟨1, ![256]⟩
abbrev S256x1 : Shape := ⟨2, ![256, 1]⟩
abbrev S2048 : Shape := ⟨1, ![2048]⟩

abbrev nBuf : Space → Nat
  | .hbm => 5
  | .vmem => 5
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .f32⟩
  | .hbm, ⟨3, _⟩ => ⟨S256x2048, .f32⟩
  | .hbm, ⟨4, _⟩ => ⟨S1x2048, .f32⟩
  | .local _ .vmem, ⟨0, _⟩ => ⟨S256x2048, .f32⟩
  | .local _ .vmem, ⟨1, _⟩ => ⟨S1x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference29Ideal.lean ====
abbrev S256x2048 : Shape := ⟨2, ![256, 2048]⟩
abbrev S1x2048 : Shape := ⟨2, ![1, 2048]⟩
abbrev S_ : Shape := ⟨0, ![]⟩
abbrev S256 : Shape := ⟨1, ![256]⟩
abbrev S256x1 : Shape := ⟨2, ![256, 1]⟩
abbrev S2048 : Shape := ⟨1, ![2048]⟩

abbrev nBuf : Space → Nat
  | .hbm => 45
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .f32⟩
  | .hbm, ⟨3, _⟩ => ⟨S256x2048, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S256x2048, .f32⟩
  | .hbm, ⟨19, _⟩ => ⟨S256x2048, .f32⟩
  | .hbm, ⟨20, _⟩ => ⟨S256x2048, .f32⟩
  | .hbm, ⟨21, _⟩ => ⟨S256x2048, .f32⟩
  | .hbm, ⟨22, _⟩ => ⟨S256x2048, .f32⟩
  | .hbm, ⟨23, _⟩ => ⟨S_, .f32⟩
  | .hbm, ⟨24, _⟩ => ⟨S2048, .f32⟩
  | .hbm, ⟨25, _⟩ => ⟨S1x2048, .f32⟩
  | .hbm, ⟨26, _⟩ => ⟨S256x2048, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S256, .f32⟩
  | .hbm, ⟨31, _⟩ => ⟨S256x1, .f32⟩
  | .hbm, ⟨32, _⟩ => ⟨S256x2048, .f32⟩
  | .hbm, ⟨33, _⟩ => ⟨S256x2048, .f32⟩
  | .hbm, ⟨34, _⟩ => ⟨S256x1, .f32⟩
  | .hbm, ⟨35, _⟩ => ⟨S_, .f32⟩
  | .hbm, ⟨36, _⟩ => ⟨S256x1, .f32⟩
  | .hbm, ⟨37, _⟩ => ⟨S256x1, .f32⟩
  | .hbm, ⟨38, _⟩ => ⟨S_, .f32⟩
  | .hbm, ⟨39, _⟩ => ⟨S256, .f32⟩
  | .hbm, ⟨40, _⟩ => ⟨S256x2048, .f32⟩
  | .hbm, ⟨41, _⟩ => ⟨S256x2048, .f32⟩
  | .hbm, ⟨42, _⟩ => ⟨S256x2048, .f32⟩
  | .hbm, ⟨43, _⟩ => ⟨S256x2048, .f32⟩
  | .hbm, ⟨44, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Kernel30.lean ====
abbrev S256x2048 : Shape := ⟨2, ![256, 2048]⟩
abbrev S1x2048 : Shape := ⟨2, ![1, 2048]⟩
abbrev S256 : Shape := ⟨1, ![256]⟩
abbrev S256x1 : Shape := ⟨2, ![256, 1]⟩

abbrev nBuf : Space → Nat
  | .hbm => 3
  | .vmem => 3
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .bf16⟩
  | .local _ .vmem, ⟨0, _⟩ => ⟨S256x2048, .f32⟩
  | .local _ .vmem, ⟨1, _⟩ => ⟨S1x2048, .f32⟩
  | .local _ .vmem, ⟨2, _⟩ => ⟨S256x2048, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference30Ideal.lean ====
abbrev S256x2048 : Shape := ⟨2, ![256, 2048]⟩
abbrev S1x2048 : Shape := ⟨2, ![1, 2048]⟩
abbrev S_ : Shape := ⟨0, ![]⟩
abbrev S256 : Shape := ⟨1, ![256]⟩
abbrev S256x1 : Shape := ⟨2, ![256, 1]⟩

abbrev nBuf : Space → Nat
  | .hbm => 18
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x2048, .f32⟩
  | .hbm, ⟨14, _⟩ => ⟨S256x2048, .f32⟩
  | .hbm, ⟨15, _⟩ => ⟨S256x2048, .f32⟩
  | .hbm, ⟨16, _⟩ => ⟨S256x2048, .f32⟩
  | .hbm, ⟨17, _⟩ => ⟨S256x2048, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel31.lean ====
abbrev S2048x2048 : Shape := ⟨2, ![2048, 2048]⟩
abbrev S1x2048 : Shape := ⟨2, ![1, 2048]⟩
abbrev S1x1 : Shape := ⟨2, ![1, 1]⟩
abbrev S256x2048 : Shape := ⟨2, ![256, 2048]⟩
abbrev S256 : Shape := ⟨1, ![256]⟩
abbrev S256x1 : Shape := ⟨2, ![256, 1]⟩
abbrev S2048 : Shape := ⟨1, ![2048]⟩
abbrev S1 : Shape := ⟨1, ![1]⟩

abbrev nBuf : Space → Nat
  | .hbm => 6
  | .vmem => 9
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S1x1, .f32⟩
  | .hbm, ⟨4, _⟩ => ⟨S2048x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S1x1, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference31Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩
abbrev S1x1 : Shape := ⟨2, ![1, 1]⟩

abbrev nBuf : Space → Nat
  | .hbm => 69
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048x2048, .f32⟩
  | .hbm, ⟨26, _⟩ => ⟨S2048x2048, .f32⟩
  | .hbm, ⟨27, _⟩ => ⟨S_, .f32⟩
  | .hbm, ⟨28, _⟩ => ⟨S2048, .f32⟩
  | .hbm, ⟨29, _⟩ => ⟨S_, .f32⟩
  | .hbm, ⟨30, _⟩ => ⟨S2048, .f32⟩
  | .hbm, ⟨31, _⟩ => ⟨S2048, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S2048, .f32⟩
  | .hbm, ⟨40, _⟩ => ⟨S_, .f32⟩
  | .hbm, ⟨41, _⟩ => ⟨S2048, .f32⟩
  | .hbm, ⟨42, _⟩ => ⟨S2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S_, .f32⟩
  | .hbm, ⟨53, _⟩ => ⟨S2048, .f32⟩
  | .hbm, ⟨54, _⟩ => ⟨S2048x1, .f32⟩
  | .hbm, ⟨55, _⟩ => ⟨S2048x2048, .f32⟩
  | .hbm, ⟨56, _⟩ => ⟨S2048x2048, .f32⟩
  | .hbm, ⟨57, _⟩ => ⟨S2048x1, .f32⟩
  | .hbm, ⟨58, _⟩ => ⟨S_, .f32⟩
  | .hbm, ⟨59, _⟩ => ⟨S2048x1, .f32⟩
  | .hbm, ⟨60, _⟩ => ⟨S2048x1, .f32⟩
  | .hbm, ⟨61, _⟩ => ⟨S_, .f32⟩
  | .hbm, ⟨62, _⟩ => ⟨S2048, .f32⟩
  | .hbm, ⟨63, _⟩ => ⟨S2048x2048, .f32⟩
  | .hbm, ⟨64, _⟩ => ⟨S2048x2048, .f32⟩
  | .hbm, ⟨65, _⟩ => ⟨S2048x2048, .f32⟩
  | .hbm, ⟨66, _⟩ => ⟨S2048x2048, .f32⟩
  | .hbm, ⟨67, _⟩ => ⟨S2048x2048, .f32⟩
  | .hbm, ⟨68, _⟩ => ⟨S1x1, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== Kernel32.lean ====
abbrev S2048x512 : Shape := ⟨2, ![2048, 512]⟩
abbrev S1x512 : Shape := ⟨2, ![1, 512]⟩
abbrev S512x512 : Shape := ⟨2, ![512, 512]⟩
abbrev S256x512 : Shape := ⟨2, ![256, 512]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S2048x512, .f32⟩
  | .hbm, ⟨1, _⟩ => ⟨S1x512, .f32⟩
  | .hbm, ⟨2, _⟩ => ⟨S1x512, .f32⟩
  | .hbm, ⟨3, _⟩ => ⟨S512x512, .bf16⟩
  | .hbm, ⟨4, _⟩ => ⟨S2048x512, .f32⟩
  | .local _ .vmem, ⟨0, _⟩ => ⟨S256x512, .f32⟩
  | .local _ .vmem, ⟨1, _⟩ => ⟨S256x512, .f32⟩
  | .local _ .vmem, ⟨2, _⟩ => ⟨S1x512, .f32⟩
  | .local _ .vmem, ⟨3, _⟩ => ⟨S1x512, .f32⟩
  | .local _ .vmem, ⟨4, _⟩ => ⟨S512x512, .bf16⟩
  | .local _ .vmem, ⟨5, _⟩ => ⟨S256x512, .f32⟩
  | .local _ .vmem, ⟨6, _⟩ => ⟨S256x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference32Ideal.lean ====
abbrev S2048x512 : Shape := ⟨2, ![2048, 512]⟩
abbrev S1x512 : Shape := ⟨2, ![1, 512]⟩
abbrev S512x512 : Shape := ⟨2, ![512, 512]⟩
abbrev S_ : Shape := ⟨0, ![]⟩
abbrev S2048 : Shape := ⟨1, ![2048]⟩
abbrev S2048x1 : Shape := ⟨2, ![2048, 1]⟩

abbrev nBuf : Space → Nat
  | .hbm => 40
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S1x512, .f32⟩
  | .hbm, ⟨2, _⟩ => ⟨S1x512, .f32⟩
  | .hbm, ⟨3, _⟩ => ⟨S512x512, .bf16⟩
  | .hbm, ⟨4, _⟩ => ⟨S512x512, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S2048x512, .f32⟩
  | .hbm, ⟨12, _⟩ => ⟨S2048x512, .f32⟩
  | .hbm, ⟨13, _⟩ => ⟨S2048x512, .f32⟩
  | .hbm, ⟨14, _⟩ => ⟨S_, .f32⟩
  | .hbm, ⟨15, _⟩ => ⟨S2048, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1, .f32⟩
  | .hbm, ⟨24, _⟩ => ⟨S2048x512, .f32⟩
  | .hbm, ⟨25, _⟩ => ⟨S2048x512, .f32⟩
  | .hbm, ⟨26, _⟩ => ⟨S2048x512, .f32⟩
  | .hbm, ⟨27, _⟩ => ⟨S2048x512, .f32⟩
  | .hbm, ⟨28, _⟩ => ⟨S2048x512, .f32⟩
  | .hbm, ⟨29, _⟩ => ⟨S2048x512, .f32⟩
  | .hbm, ⟨30, _⟩ => ⟨S2048x512, .f32⟩
  | .hbm, ⟨31, _⟩ => ⟨S2048x512, .f32⟩
  | .hbm, ⟨32, _⟩ => ⟨S_, .f32⟩
  | .hbm, ⟨33, _⟩ => ⟨S2048x512, .f32⟩
  | .hbm, ⟨34, _⟩ => ⟨S2048x512, .f32⟩
  | .hbm, ⟨35, _⟩ => ⟨S_, .f32⟩
  | .hbm, ⟨36, _⟩ => ⟨S2048x512, .f32⟩
  | .hbm, ⟨37, _⟩ => ⟨S2048x512, .f32⟩
  | .hbm, ⟨38, _⟩ => ⟨S2048x512, .f32⟩
  | .hbm, ⟨39, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v21 : Ref sig .tc := ⟨.hbm, 38, rfl⟩
abbrev main_v22 : Ref sig .tc := ⟨.hbm, 39, rfl⟩

abbrev nD : Nat := 1
abbrev τ : Topo := Topo.v7x

variable {F : FTy → Type} [FloatOps F]
-- ==== Kernel33.lean ====
abbrev S2048x512 : Shape := ⟨2, ![2048, 512]⟩
abbrev S1x2048 : Shape := ⟨2, ![1, 2048]⟩
abbrev S2048x2048 : Shape := ⟨2, ![2048, 2048]⟩
abbrev S256x512 : Shape := ⟨2, ![256, 512]⟩
abbrev S256x2048 : Shape := ⟨2, ![256, 2048]⟩
abbrev S256 : Shape := ⟨1, ![256]⟩
abbrev S256x1 : Shape := ⟨2, ![256, 1]⟩
abbrev S1x512 : Shape := ⟨2, ![1, 512]⟩

abbrev nBuf : Space → Nat
  | .hbm => 6
  | .vmem => 11
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S1x2048, .f32⟩
  | .hbm, ⟨5, _⟩ => ⟨S2048x2048, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S1x2048, .f32⟩
  | .local _ .vmem, ⟨9, _⟩ => ⟨S256x2048, .bf16⟩
  | .local _ .vmem, ⟨10, _⟩ => ⟨S256x2048, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference33Ideal.lean ====
abbrev S2048x512 : Shape := ⟨2, ![2048, 512]⟩
abbrev S1x2048 : Shape := ⟨2, ![1, 2048]⟩
abbrev S2048x2048 : Shape := ⟨2, ![2048, 2048]⟩
abbrev S2048x4x512 : Shape := ⟨3, ![2048, 4, 512]⟩
abbrev S_ : Shape := ⟨0, ![]⟩
abbrev S2048x4 : Shape := ⟨2, ![2048, 4]⟩
abbrev S2048x4x1 : Shape := ⟨3, ![2048, 4, 1]⟩

abbrev nBuf : Space → Nat
  | .hbm => 24
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S1x2048, .f32⟩
  | .hbm, ⟨5, _⟩ => ⟨S2048x2048, .f32⟩
  | .hbm, ⟨6, _⟩ => ⟨S2048x4x512, .f32⟩
  | .hbm, ⟨7, _⟩ => ⟨S2048x4x512, .f32⟩
  | .hbm, ⟨8, _⟩ => ⟨S_, .f32⟩
  | .hbm, ⟨9, _⟩ => ⟨S2048x4, .f32⟩
  | .hbm, ⟨10, _⟩ => ⟨S2048x4x1, .f32⟩
  | .hbm, ⟨11, _⟩ => ⟨S_, .f32⟩
  | .hbm, ⟨12, _⟩ => ⟨S2048x4x1, .f32⟩
  | .hbm, ⟨13, _⟩ => ⟨S2048x4x1, .f32⟩
  | .hbm, ⟨14, _⟩ => ⟨S_, .f32⟩
  | .hbm, ⟨15, _⟩ => ⟨S2048x4x1, .f32⟩
  | .hbm, ⟨16, _⟩ => ⟨S2048x4x1, .f32⟩
  | .hbm, ⟨17, _⟩ => ⟨S2048x4x1, .f32⟩
  | .hbm, ⟨18, _⟩ => ⟨S2048x4x512, .f32⟩
  | .hbm, ⟨19, _⟩ => ⟨S2048x4x512, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== Kernel34.lean ====
abbrev S1x2x4096x128 : Shape := ⟨4, ![1, 2, 4096, 128]⟩
abbrev S2x4096x128 : Shape := ⟨3, ![2, 4096, 128]⟩
abbrev S1x1x256x128 : Shape := ⟨4, ![1, 1, 256, 128]⟩
abbrev S1x256x128 : Shape := ⟨3, ![1, 256, 128]⟩
abbrev S256x128 : Shape := ⟨2, ![256, 128]⟩

abbrev nBuf : Space → Nat
  | .hbm => 8
  | .vmem => 16
  | .smem => 0
  | _ => 0

abbrev bufTy : (tb : Table) → Fin (tcTables nBuf tb) → BufTy
  | .hbm, ⟨0, _⟩ => ⟨S1x2x4096x128, .f32⟩
  | .hbm, ⟨1, _⟩ => ⟨S1x2x4096x128, .f32⟩
  | .hbm, ⟨2, _⟩ => ⟨S1x2x4096x128, .f32⟩
  | .hbm, ⟨3, _⟩ => ⟨S2x4096x128, .f32⟩
  | .hbm, ⟨4, _⟩ => ⟨S1x2x4096x128, .f32⟩
  | .hbm, ⟨5, _⟩ => ⟨S1x2x4096x128, .f32⟩
  | .hbm, ⟨6, _⟩ => ⟨S1x2x4096x128, .f32⟩
  | .hbm, ⟨7, _⟩ => ⟨S1x2x4096x128, .f32⟩
  | .local _ .vmem, ⟨0, _⟩ => ⟨S1x1x256x128, .f32⟩
  | .local _ .vmem, ⟨1, _⟩ => ⟨S1x1x256x128, .f32⟩
  | .local _ .vmem, ⟨2, _⟩ => ⟨S1x1x256x128, .f32⟩
  | .local _ .vmem, ⟨3, _⟩ => ⟨S1x1x256x128, .f32⟩
  | .local _ .vmem, ⟨4, _⟩ => ⟨S1x1x256x128, .f32⟩
  | .local _ .vmem, ⟨5, _⟩ => ⟨S1x1x256x128, .f32⟩
  | .local _ .vmem, ⟨6, _⟩ => ⟨S1x256x128, .f32⟩
  | .local _ .vmem, ⟨7, _⟩ => ⟨S1x256x128, .f32⟩
  | .local _ .vmem, ⟨8, _⟩ => ⟨S1x1x256x128, .f32⟩
  | .local _ .vmem, ⟨9, _⟩ => ⟨S1x1x256x128, .f32⟩
  | .local _ .vmem, ⟨10, _⟩ => ⟨S1x1x256x128, .f32⟩
  | .local _ .vmem, ⟨11, _⟩ => ⟨S1x1x256x128, .f32⟩
  | .local _ .vmem, ⟨12, _⟩ => ⟨S1x1x256x128, .f32⟩
  | .local _ .vmem, ⟨13, _⟩ => ⟨S1x1x256x128, .f32⟩
  | .local _ .vmem, ⟨14, _⟩ => ⟨S1x1x256x128, .f32⟩
  | .local _ .vmem, ⟨15, _⟩ => ⟨S1x1x256x128, .f32⟩
  | _, _ => ⟨S1x2x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![1, 2, 16], ![false, false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![v0.toNat, arg1.toNat, arg2.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![v0.toNat, arg1.toNat, arg2.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![v0.toNat, arg1.toNat, arg2.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let v2 : BitVec 1 := Scalar.cmpi .eq arg0 c0_i32_1
  let c0_i32_2 : BitVec 32 := 0#32
  let v3 : BitVec 32 := Scalar.select v2 arg2 c0_i32_2
  let c0_i32_3 : BitVec 32 := 0#32
  let c0_i32_4 : BitVec 32 := 0#32
  ![v1.toNat, v3.toNat, c0_i32_3.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![v0.toNat, arg1.toNat, arg2.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![v0.toNat, arg1.toNat, arg2.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![v0.toNat, arg1.toNat, arg2.toNat, c0_i32_0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![v0.toNat, arg1.toNat, arg2.toNat, c0_i32_0.toNat]

abbrev stage0_0 : Fin 2 → Memref sig .tc .vmem S1x1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== Kernel34Ideal.lean ====
variable {F : FTy → Type} [FloatOps F] [Named F]
def κ : String → Option EReal := fun
  | "c1" => some (((5463681 / 8388608)⁻¹ : ℝ) : EReal)
  | "c2" => some (((2672307 / 268435456)⁻¹ : ℝ) : EReal)
  | _ => none
-- ==== Reference34Ideal.lean ====
abbrev S1x2x4096x128 : Shape := ⟨4, ![1, 2, 4096, 128]⟩
abbrev S2x4096x128 : Shape := ⟨3, ![2, 4096, 128]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x2x4096x128, .f32⟩
  | .hbm, ⟨1, _⟩ => ⟨S1x2x4096x128, .f32⟩
  | .hbm, ⟨2, _⟩ => ⟨S1x2x4096x128, .f32⟩
  | .hbm, ⟨3, _⟩ => ⟨S2x4096x128, .f32⟩
  | .hbm, ⟨4, _⟩ => ⟨S1x2x4096x128, .f32⟩
  | .hbm, ⟨5, _⟩ => ⟨S_, .f32⟩
  | .hbm, ⟨6, _⟩ => ⟨S1x2x4096x128, .f32⟩
  | .hbm, ⟨7, _⟩ => ⟨S1x2x4096x128, .f32⟩
  | .hbm, ⟨8, _⟩ => ⟨S_, .f32⟩
  | .hbm, ⟨9, _⟩ => ⟨S1x2x4096x128, .f32⟩
  | .hbm, ⟨10, _⟩ => ⟨S1x2x4096x128, .f32⟩
  | .hbm, ⟨11, _⟩ => ⟨S1x2x4096x128, .f32⟩
  | .hbm, ⟨12, _⟩ => ⟨S_, .f32⟩
  | .hbm, ⟨13, _⟩ => ⟨S1x2x4096x128, .f32⟩
  | .hbm, ⟨14, _⟩ => ⟨S1x2x4096x128, .f32⟩
  | .hbm, ⟨15, _⟩ => ⟨S1x2x4096x128, .f32⟩
  | .hbm, ⟨16, _⟩ => ⟨S_, .f32⟩
  | .hbm, ⟨17, _⟩ => ⟨S1x2x4096x128, .f32⟩
  | .hbm, ⟨18, _⟩ => ⟨S1x2x4096x128, .f32⟩
  | .hbm, ⟨19, _⟩ => ⟨S1x2x4096x128, .f32⟩
  | .hbm, ⟨20, _⟩ => ⟨S_, .f32⟩
  | .hbm, ⟨21, _⟩ => ⟨S1x2x4096x128, .f32⟩
  | .hbm, ⟨22, _⟩ => ⟨S1x2x4096x128, .f32⟩
  | .hbm, ⟨23, _⟩ => ⟨S_, .f32⟩
  | .hbm, ⟨24, _⟩ => ⟨S1x2x4096x128, .f32⟩
  | .hbm, ⟨25, _⟩ => ⟨S1x2x4096x128, .f32⟩
  | .hbm, ⟨26, _⟩ => ⟨S1x2x4096x128, .f32⟩
  | .hbm, ⟨27, _⟩ => ⟨S_, .f32⟩
  | .hbm, ⟨28, _⟩ => ⟨S1x2x4096x128, .f32⟩
  | .hbm, ⟨29, _⟩ => ⟨S1x2x4096x128, .f32⟩
  | .hbm, ⟨30, _⟩ => ⟨S1x2x4096x128, .f32⟩
  | .hbm, ⟨31, _⟩ => ⟨S_, .f32⟩
  | .hbm, ⟨32, _⟩ => ⟨S1x2x4096x128, .f32⟩
  | .hbm, ⟨33, _⟩ => ⟨S1x2x4096x128, .f32⟩
  | .hbm, ⟨34, _⟩ => ⟨S1x2x4096x128, .f32⟩
  | .hbm, ⟨35, _⟩ => ⟨S_, .f32⟩
  | .hbm, ⟨36, _⟩ => ⟨S1x2x4096x128, .f32⟩
  | .hbm, ⟨37, _⟩ => ⟨S1x2x4096x128, .f32⟩
  | _, _ => ⟨S1x2x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Proof.SoftmaxRow.lean ====
/- Hand-written, untrusted: ONE ROW OF A SOFTMAX AND ITS GRADIENT, over the extended reals. `weight` is the softmax of a row of
   scores, `grad` the gradient of the scores as the kernel computes it from the weights and from the gradient `d` of the
   weights, and `gradQuot` the same gradient as the derivative of the quotient gives it. They agree where the scores are real
   numbers (`gradQuot_eq`); `d` may hold infinities. -/
module

public import Idealize.ShloMosaic.PureOps.Ideal
public import Mathlib.Data.EReal.Inv

@[expose] public section

noncomputable section

namespace Cert.Proof.SoftmaxRow

open Idealize.ShloMosaic

variable {n : ℕ} (s d : Fin n → EReal)

/-- The greatest score of the row. -/
def top : EReal := Finset.fold max (Ideal.ofBits .f32 0xFF800000#32) s Finset.univ

/-- The exponential of a score less the greatest one. -/
def num (j : Fin n) : EReal := Ideal.exp (s j - top s)

theorem num_apply (j : Fin n) : num s j = Ideal.exp (s j - top s) := rfl

/-- The sum of the row's exponentials. -/
def den : EReal := ∑ j, num s j

/-- The softmax of the row. -/
def weight (j : Fin n) : EReal := Ideal.div (num s j) (den s)

/-- The gradient of the scores, by the weights. -/
def grad (j : Fin n) : EReal := weight s j * (d j - ∑ x, d x * weight s x)

/-- The gradient of the scores, by the quotient rule. -/
def gradQuot (j : Fin n) : EReal :=
  (Ideal.div (d j) (den s) + -∑ x, d x * Ideal.div 1 (den s * den s) * num s x) * num s j

/-- The word of the greatest score's starting value denotes minus infinity. -/
theorem ofBits_neg_inf : Ideal.ofBits .f32 0xFF800000#32 = ⊥ := by
  simp [Ideal.ofBits, Ideal.ieee]

/-- A maximum with minus infinity changes nothing. -/
theorem max_neg_inf (x : EReal) : max (Ideal.ofBits .f32 0xFF800000#32) x = x := by
  rw [ofBits_neg_inf, max_eq_right bot_le]

variable {s}

/-- The greatest of finitely many real scores is a real number. -/
theorem top_real (hs : ∀ j, ∃ r : ℝ, s j = r) (j : Fin n) : ∃ r : ℝ, top s = r := by
  have hlt : top s < ⊤ := by
    unfold top
    rw [Finset.fold_max_lt, ofBits_neg_inf]
    refine ⟨bot_lt_top, fun x _ => ?_⟩
    obtain ⟨r, hr⟩ := hs x
    rw [hr]; exact EReal.coe_lt_top r
  have hgt : ⊥ < top s := by
    unfold top
    rw [Finset.lt_fold_max]
    refine Or.inr ⟨j, Finset.mem_univ _, ?_⟩
    obtain ⟨r, hr⟩ := hs j
    rw [hr]; exact EReal.bot_lt_coe r
  exact ⟨(top s).toReal, (EReal.coe_toReal hlt.ne hgt.ne').symm⟩

/-- Every exponential of the row is a positive real number. -/
theorem num_real (hs : ∀ j, ∃ r : ℝ, s j = r) (j : Fin n) : ∃ r : ℝ, 0 < r ∧ num s j = r := by
  obtain ⟨t, ht⟩ := top_real hs j
  obtain ⟨r, hr⟩ := hs j
  refine ⟨Real.exp (r - t), Real.exp_pos _, ?_⟩
  rw [num, hr, ht, ← EReal.coe_sub, Ideal.exp_coe]

/-- A sum of real numbers among the extended reals is the sum of the real numbers. -/
theorem sum_real {m : ℕ} (f : Fin m → ℝ) : ∑ j, (f j : EReal) = ((∑ j, f j : ℝ) : EReal) := by
  induction m with
  | zero => simp
  | succ m ih => rw [Fin.sum_univ_succ, Fin.sum_univ_succ, ih, EReal.coe_add]

/-- The row's sum of exponentials is a positive real number. -/
theorem den_real (hs : ∀ j, ∃ r : ℝ, s j = r) (j : Fin n) : ∃ r : ℝ, 0 < r ∧ den s = r := by
  choose f hf hn using num_real hs
  refine ⟨∑ j, f j, Finset.sum_pos (fun j _ => hf j) ⟨j, Finset.mem_univ _⟩, ?_⟩
  rw [den, ← sum_real]
  exact Finset.sum_congr rfl fun j _ => hn j

/-- A nonnegative real factor of every term of a sum is a factor of the sum. -/
theorem mul_sum {m : ℕ} (c : ℝ) (hc : 0 ≤ c) (f : Fin m → EReal) : ∑ j, (c : EReal) * f j = c * ∑ j, f j := by
  induction m with
  | zero => simp
  | succ m ih =>
    rw [Fin.sum_univ_succ, Fin.sum_univ_succ, ih,
      EReal.left_distrib_of_nonneg_of_ne_top (EReal.coe_nonneg.mpr hc) (EReal.coe_ne_top c)]

/-- The two gradients agree where the scores are real numbers. -/
theorem gradQuot_eq (hs : ∀ j, ∃ r : ℝ, s j = r) (j : Fin n) : gradQuot s d j = grad s d j := by
  obtain ⟨z, hz, hden⟩ := den_real hs j
  choose f hf hn using num_real hs
  have hw : ∀ x, weight s x = (z⁻¹ : ℝ) * num s x := fun x => by
    rw [weight, hden, Ideal.div_coe hz.ne', one_div, mul_comm]
  have hsum : ∑ x, d x * Ideal.div 1 (den s * den s) * num s x = (z⁻¹ : ℝ) * ∑ x, d x * weight s x := by
    rw [← mul_sum _ (inv_nonneg.mpr hz.le)]
    refine Finset.sum_congr rfl fun x _ => ?_
    rw [hw, hden, ← EReal.coe_mul, Ideal.div_coe (mul_pos hz hz).ne', one_mul, one_div, mul_inv, EReal.coe_mul, mul_assoc,
      mul_left_comm, mul_assoc, mul_left_comm (d x)]
  rw [gradQuot, grad, hsum, hden, Ideal.div_coe hz.ne', one_div, mul_comm (d j), ← mul_neg,
    ← EReal.left_distrib_of_nonneg_of_ne_top (EReal.coe_nonneg.mpr (inv_nonneg.mpr hz.le)) (EReal.coe_ne_top _), hw,
    ← sub_eq_add_neg, mul_right_comm]

end Cert.Proof.SoftmaxRow

end
-- ==== Proof.XattSpec.lean ====
/- Hand-written, untrusted: THE CROSS-ATTENTION's GRADIENT, ELEMENT BY ELEMENT. The 512 columns of the queries, keys and values are
   four heads of 128. For head `h` and query row `i`, `row` is the row of scores, one for each of the 256 keys, and `drow` the
   gradient of the row's softmax weights. `dq`, `dk` and `dv` are the three results by `SoftmaxRow`'s `weight` and `grad`. -/
module

public import proofs.«01_k».proof.Proof.SoftmaxRow
public import Idealize.ShloMosaic.Lib.Pipeline.ValueKit

@[expose] public section

noncomputable section

namespace Cert.Proof.XattSpec

open Idealize.ShloMosaic SoftmaxRow

/-- Queries, keys (or values), and gradients of the queries' shape. -/
abbrev Rows : Shape := ⟨2, ![2048, 512]⟩
abbrev Keys : Shape := ⟨2, ![256, 512]⟩

variable (q : Rows.Idx → EReal) (k v : Keys.Idx → EReal) (d : Rows.Idx → EReal)

/-- The scale of the scores, the inverse of the root of the head's width. -/
abbrev scale : EReal := (((Real.sqrt 128)⁻¹ : ℝ) : EReal)

theorem ofBits_128 : Ideal.ofBits .f32 0x43000000#32 = ((128 : ℝ) : EReal) := by
  simp [Ideal.ofBits, Ideal.ieee, -EReal.coe_mul]; norm_num

/-- To divide by the root of 128 is to multiply by the scale. -/
theorem div_root (x : EReal) : Ideal.div x (Ideal.sqrt (Ideal.ofBits .f32 0x43000000#32)) = x * scale := by
  rw [ofBits_128, Ideal.sqrt_coe, if_neg (by norm_num), Ideal.div_coe (Real.sqrt_pos.mpr (by norm_num)).ne', one_div]

/-- Column `e` of head `h`. -/
abbrev col (h : Fin 4) (e : Fin 128) : Fin 512 := ⟨h.val * 128 + e.val, by omega⟩

/-- The head of a column. -/
abbrev head (x : Fin 512) : Fin 4 := ⟨x.val / 128, by omega⟩

/-- The scores of query row `i` in head `h`. -/
def row (h : Fin 4) (i : Fin 2048) (j : Fin 256) : EReal := (∑ e, q (ix2 i (col h e)) * k (ix2 j (col h e))) * scale

/-- The gradient of the weights of query row `i` in head `h`. -/
def drow (h : Fin 4) (i : Fin 2048) (j : Fin 256) : EReal := ∑ e, d (ix2 i (col h e)) * v (ix2 j (col h e))

/-- The gradient of the scores before the scale. -/
def ds (h : Fin 4) (i : Fin 2048) (j : Fin 256) : EReal := grad (row q k h i) (drow v d h i) j * scale

/-- The gradient of the queries. -/
def dq (y : Rows.Idx) : EReal := ∑ j, ds q k v d (head (y 1)) (y 0) j * k (ix2 j (y 1))

/-- The gradient of the keys. -/
def dk (y : Keys.Idx) : EReal := ∑ i, ds q k v d (head (y 1)) i (y 0) * q (ix2 i (y 1))

/-- The gradient of the values. -/
def dv (y : Keys.Idx) : EReal := ∑ i, weight (row q k (head (y 1)) i) (y 0) * d (ix2 i (y 1))

theorem head_col (h : Fin 4) (e : Fin 128) : head (col h e) = h :=
  Fin.ext (by show (h.val * 128 + e.val) / 128 = h.val; omega)

theorem dq_at (i : Fin 2048) (h : Fin 4) (e : Fin 128) :
    dq q k v d (ix2 i (col h e)) = ∑ j, ds q k v d h i j * k (ix2 j (col h e)) := by
  show ∑ j, ds q k v d (head (col h e)) i j * k (ix2 j (col h e)) = _
  rw [head_col]

theorem dk_at (j : Fin 256) (h : Fin 4) (e : Fin 128) :
    dk q k v d (ix2 j (col h e)) = ∑ i, ds q k v d h i j * q (ix2 i (col h e)) := by
  show ∑ i, ds q k v d (head (col h e)) i j * q (ix2 i (col h e)) = _
  rw [head_col]

theorem dv_at (j : Fin 256) (h : Fin 4) (e : Fin 128) :
    dv q k d (ix2 j (col h e)) = ∑ i, weight (row q k h i) j * d (ix2 i (col h e)) := by
  show ∑ i, weight (row q k (head (col h e)) i) j * d (ix2 i (col h e)) = _
  rw [head_col]

/-- Where queries and keys are real numbers, so are the scores. -/
theorem row_real (hq : ∀ y, ∃ r : ℝ, q y = r) (hk : ∀ y, ∃ r : ℝ, k y = r) (h : Fin 4) (i : Fin 2048) (j : Fin 256) :
    ∃ r : ℝ, row q k h i j = r := by
  choose f hf using hq
  choose g hg using hk
  refine ⟨(∑ e, f (ix2 i (col h e)) * g (ix2 j (col h e))) * (Real.sqrt 128)⁻¹, ?_⟩
  rw [row, EReal.coe_mul, ← sum_real]
  exact congrArg (· * scale) (Finset.sum_congr rfl fun e _ => by rw [hf, hg, EReal.coe_mul])

end Cert.Proof.XattSpec

end
-- ==== Proof.XattKernel.lean ====
/- Hand-written, untrusted: THE CROSS-ATTENTION's BACKWARD KERNEL (`Kernel`), its three result arrays as functions of its four
   arguments. The sixteen grid points take the four heads in turn and, for each, the four tiles of 512 query rows. A point
   computes the softmax weights of its rows, writes its tile of the queries' gradient, and adds its part to the keys' and the
   values' gradients of its head, which the head's first point sets to zero. -/
module

public import proofs.«01_k».proof.Proof.Gen.KernelIdeal.Value
public import Idealize.ShloMosaic.Lib.Pipeline.ValueKit
public import proofs.«01_k».proof.Proof.XattSpec

@[expose] public section

set_option maxRecDepth 16384

noncomputable section

namespace Cert.Proof.XattKernel

open Cert.KernelIdeal Cert.KernelIdeal.Gen
open Idealize.ShloMosaic Idealize.ShloMosaic.TcCoe Idealize.SL.Sem
open Idealize.ShloMosaic.Pipeline (Dat)
open SoftmaxRow (weight grad)
open XattSpec (scale col row drow ds)

/-- The named scale is the inverse of the root of 128. -/
theorem named_scale : Named.named (F := Ideal) κ "s" (φ := .f32) 0x3DB504F3#32 = scale :=
  IdealRules.named_const.ideal_named_scalar _ _ _ _ rfl

section Blocks

variable (q : FVec Ideal S512x128 .bf16) (k v : FVec Ideal S256x128 .bf16) (d : FVec Ideal S512x128 .f32)

/-- The scores of a block's row. -/
def brow (i : Fin 512) (j : Fin 256) : EReal := (∑ e : Fin 128, q (ix2 i e) * k (ix2 j e)) * scale

/-- The gradient of the weights of a block's row. -/
def bdrow (i : Fin 512) (j : Fin 256) : EReal := ∑ e : Fin 128, d (ix2 i e) * v (ix2 j e)

/-- The gradient of the scores of a block's row. -/
def bds (i : Fin 512) (j : Fin 256) : EReal := grad (brow q k i) (bdrow v d i) j * scale

theorem pay6_apply (y) : k0_pay6 (F := Ideal) q k y = weight (brow q k (y 0)) (y 1) := by
  pointwise [k0_pay6]
  rw [named_scale]
  conv_lhs => rw [← ix2_eta y]
  rfl

theorem pay9_apply (y) : k0_pay9 (F := Ideal) q k v d y = grad (brow q k (y 0)) (bdrow v d (y 0)) (y 1) := by
  pointwise [k0_pay9, k0_pay7]
  simp only [pay6_apply]
  rfl

theorem pay1_apply (y) : k0_pay1 (F := Ideal) (k0_pay9 (F := Ideal) q k v d) k0_pay10 y = bds q k v d (y 0) (y 1) := by
  pointwise [k0_pay1, k0_pay10]
  rw [named_scale, pay9_apply]
  rfl

theorem pay2_apply (y) : k0_pay2 (F := Ideal) k (k0_pay9 (F := Ideal) q k v d) k0_pay10 y = ∑ j : Fin 256, bds q k v d (y 0) j * k (ix2 j (y 1)) := by
  pointwise [k0_pay2]
  simp only [pay1_apply]
  rfl

theorem pay3_apply (old) (y) : k0_pay3 (F := Ideal) q (k0_pay9 (F := Ideal) q k v d) k0_pay10 old y
    = old y + ∑ i : Fin 512, bds q k v d i (y 0) * q (ix2 i (y 1)) := by
  pointwise [k0_pay3]
  simp only [pay1_apply]
  rfl

theorem pay8_apply (old) (y) : k0_pay8 (F := Ideal) q k d old y
    = old y + ∑ i : Fin 512, weight (brow q k i) (y 0) * d (ix2 i (y 1)) := by
  pointwise [k0_pay8, k0_pay7]
  simp only [pay6_apply]
  rfl

end Blocks

variable (m : (ℓ : Loc nD τ sig) → Buf (Elt Ideal) ℓ)

/-- Every window's block at every point. -/
theorem idx : ∀ t : Fin cfg0.N, win0_0.index t = ![t.val % 4, t.val / 4] ∧ win0_1.index t = ![0, t.val / 4]
    ∧ win0_2.index t = ![0, t.val / 4] ∧ win0_3.index t = ![t.val % 4, t.val / 4] ∧ win0_4.index t = ![t.val % 4, t.val / 4]
    ∧ win0_5.index t = ![0, t.val / 4] ∧ win0_6.index t = ![0, t.val / 4] :=
  (by decide +kernel : ∀ t : Fin grid0.N, _)

abbrev argQ (c : Dev nD) : FVec Ideal S2048x512 .bf16 := m ((c : Thread nD τ).loc main_arg0)
abbrev argK (c : Dev nD) : FVec Ideal S256x512 .bf16 := m ((c : Thread nD τ).loc main_arg1)
abbrev argV (c : Dev nD) : FVec Ideal S256x512 .bf16 := m ((c : Thread nD τ).loc main_arg2)
abbrev argD (c : Dev nD) : FVec Ideal S2048x512 .f32 := m ((c : Thread nD τ).loc main_arg3)

abbrev blkQ (c : Dev nD) (t : Fin cfg0.N) : FVec Ideal S512x128 .bf16 := iblk m c 0 t
abbrev blkK (c : Dev nD) (t : Fin cfg0.N) : FVec Ideal S256x128 .bf16 := iblk m c 1 t
abbrev blkV (c : Dev nD) (t : Fin cfg0.N) : FVec Ideal S256x128 .bf16 := iblk m c 2 t
abbrev blkD (c : Dev nD) (t : Fin cfg0.N) : FVec Ideal S512x128 .f32 := iblk m c 3 t

/-- The head of a point. -/
abbrev hd (t : Fin cfg0.N) : Fin 4 := ⟨t.val / 4, by have : t.val < 16 := t.isLt; omega⟩

/-- The query row that a row of a point's block is. -/
abbrev rw_ (t : Fin cfg0.N) (i : Fin 512) : Fin 2048 := ⟨t.val % 4 * 512 + i.val, by omega⟩

theorem blkQ_apply (c : Dev nD) (t : Fin cfg0.N) (i : Fin 512) (e : Fin 128) :
    blkQ m c t (ix2 i e) = argQ m c (ix2 (rw_ t i) (col (hd t) e)) := by
  blk_point [iblk, V, idx t]

theorem blkK_apply (c : Dev nD) (t : Fin cfg0.N) (j : Fin 256) (e : Fin 128) :
    blkK m c t (ix2 j e) = argK m c (ix2 j (col (hd t) e)) := by
  blk_point [iblk, V, idx t]

theorem blkV_apply (c : Dev nD) (t : Fin cfg0.N) (j : Fin 256) (e : Fin 128) :
    blkV m c t (ix2 j e) = argV m c (ix2 j (col (hd t) e)) := by
  blk_point [iblk, V, idx t]

theorem blkD_apply (c : Dev nD) (t : Fin cfg0.N) (i : Fin 512) (e : Fin 128) :
    blkD m c t (ix2 i e) = argD m c (ix2 (rw_ t i) (col (hd t) e)) := by
  blk_point [iblk, V, idx t]

theorem brow_eq (c : Dev nD) (t : Fin cfg0.N) (i : Fin 512) :
    brow (blkQ m c t) (blkK m c t) i = row (argQ m c) (argK m c) (hd t) (rw_ t i) := by
  funext j
  simp only [brow, row, blkQ_apply, blkK_apply]

theorem bdrow_eq (c : Dev nD) (t : Fin cfg0.N) (i : Fin 512) :
    bdrow (blkV m c t) (blkD m c t) i = drow (argV m c) (argD m c) (hd t) (rw_ t i) := by
  funext j
  simp only [bdrow, drow, blkV_apply, blkD_apply]

theorem bds_eq (c : Dev nD) (t : Fin cfg0.N) (i : Fin 512) (j : Fin 256) :
    bds (blkQ m c t) (blkK m c t) (blkV m c t) (blkD m c t) i j
      = ds (argQ m c) (argK m c) (argV m c) (argD m c) (hd t) (rw_ t i) j := by
  rw [bds, ds, brow_eq, bdrow_eq]

/-- A point's tile of the queries' gradient. -/
theorem dq_point (c : Dev nD) (t : Fin cfg0.N) (y : S512x128.Idx) : (outsAt0 m c t.val t.isLt).1 y
    = ∑ j : Fin 256, ds (argQ m c) (argK m c) (argV m c) (argD m c) (hd t) (rw_ t (y 0)) j * argK m c (ix2 j (col (hd t) (y 1))) := by
  have key : k0_pay2 (F := Ideal) (blkK m c t) (k0_pay9 (F := Ideal) (blkQ m c t) (blkK m c t) (blkV m c t) (blkD m c t)) k0_pay10 y
      = ∑ j : Fin 256, ds (argQ m c) (argK m c) (argV m c) (argD m c) (hd t) (rw_ t (y 0)) j * argK m c (ix2 j (col (hd t) (y 1))) := by
    rw [pay2_apply]
    exact Finset.sum_congr rfl fun j _ =>
      congrArg₂ (α := EReal) (β := EReal) (· * ·) (bds_eq m c t (y 0) j) (blkK_apply m c t j (y 1))
  by_cases h : t.val % 4 = 0
  · rw [outsAt0_A m c t h]
    frame_out
    exact key
  · rw [outsAt0_B m c t h]
    frame_out
    exact key

/-- A point's part of the keys' gradient. -/
abbrev termK (c : Dev nD) (t : Fin cfg0.N) (y : S256x128.Idx) : EReal :=
  ∑ i : Fin 512, ds (argQ m c) (argK m c) (argV m c) (argD m c) (hd t) (rw_ t i) (y 0) * argQ m c (ix2 (rw_ t i) (col (hd t) (y 1)))

/-- A point's part of the values' gradient. -/
abbrev termV (c : Dev nD) (t : Fin cfg0.N) (y : S256x128.Idx) : EReal :=
  ∑ i : Fin 512, weight (row (argQ m c) (argK m c) (hd t) (rw_ t i)) (y 0) * argD m c (ix2 (rw_ t i) (col (hd t) (y 1)))

theorem keyK (c : Dev nD) (t : Fin cfg0.N) (old) (y) :
    k0_pay3 (F := Ideal) (blkQ m c t) (k0_pay9 (F := Ideal) (blkQ m c t) (blkK m c t) (blkV m c t) (blkD m c t)) k0_pay10 old y = old y + termK m c t y := by
  rw [pay3_apply]
  exact congrArg (old y + ·) (Finset.sum_congr rfl fun i _ =>
    congrArg₂ (α := EReal) (β := EReal) (· * ·) (bds_eq m c t i (y 0)) (blkQ_apply m c t i (y 1)))

theorem keyV (c : Dev nD) (t : Fin cfg0.N) (old) (y) :
    k0_pay8 (F := Ideal) (blkQ m c t) (blkK m c t) (blkD m c t) old y = old y + termV m c t y := by
  rw [pay8_apply]
  exact congrArg (old y + ·) (Finset.sum_congr rfl fun i _ =>
    congrArg₂ (α := EReal) (β := EReal) (· * ·) (congrArg (weight · (y 0)) (brow_eq m c t i)) (blkD_apply m c t i (y 1)))

theorem zero4 (y) : k0_pay4 (F := Ideal) y = (0 : EReal) := by
  pointwise [k0_pay4]

theorem zero5 (y) : k0_pay5 (F := Ideal) y = (0 : EReal) := by
  pointwise [k0_pay5]

theorem firstK (c : Dev nD) (t : Fin cfg0.N) (h : t.val % 4 = 0) (y : S256x128.Idx) :
    (outsAt0 m c t.val t.isLt).2.1 y = 0 + termK m c t y := by
  rw [outsAt0_A m c t h]
  frame_out
  refine (keyK m c t _ y).trans ?_
  rw [zero4]

theorem firstV (c : Dev nD) (t : Fin cfg0.N) (h : t.val % 4 = 0) (y : S256x128.Idx) :
    (outsAt0 m c t.val t.isLt).2.2 y = 0 + termV m c t y := by
  rw [outsAt0_A m c t h]
  frame_out
  refine (keyV m c t _ y).trans ?_
  rw [zero5]

theorem nextK (c : Dev nD) (t : Fin cfg0.N) (h : ¬t.val % 4 = 0) (y : S256x128.Idx) :
    (outsAt0 m c t.val t.isLt).2.1 y
      = (outsAt0 m c (t.val - 1) (Nat.lt_of_le_of_lt (Nat.sub_le _ _) t.isLt)).2.1 y + termK m c t y := by
  rw [outsAt0_B m c t h]
  frame_out
  exact keyK m c t _ y

theorem nextV (c : Dev nD) (t : Fin cfg0.N) (h : ¬t.val % 4 = 0) (y : S256x128.Idx) :
    (outsAt0 m c t.val t.isLt).2.2 y
      = (outsAt0 m c (t.val - 1) (Nat.lt_of_le_of_lt (Nat.sub_le _ _) t.isLt)).2.2 y + termV m c t y := by
  rw [outsAt0_B m c t h]
  frame_out
  exact keyV m c t _ y

/-- Where an index of a point's block lies in the array. -/
theorem emb4 (t : Fin cfg0.N) (y : S512x128.Idx) : (win0_4.blk t).view.emb y = ix2 (rw_ t (y 0)) (col (hd t) (y 1)) := by
  blk_ext [idx t]

theorem emb5 (t : Fin cfg0.N) (y : S256x128.Idx) : (win0_5.blk t).view.emb y = ix2 (y 0) (col (hd t) (y 1)) := by
  blk_ext [idx t]

theorem emb6 (t : Fin cfg0.N) (y : S256x128.Idx) : (win0_6.blk t).view.emb y = ix2 (y 0) (col (hd t) (y 1)) := by
  blk_ext [idx t]

/-- The queries' gradient after the run. -/
theorem finalQ (c : Dev nD) : (dats m 0 c).arrAt 4 (cfgs 0).N
    = XattSpec.dq (argQ m c) (argK m c) (argV m c) (argD m c) := by
  refine (dats m 0 c).arrAt_eq_of_covers 4 _ (by decide +kernel) fun t hf y => ?_
  blk_simp
  rw [after0_4, dq_point m c t y]
  exact (XattSpec.dq_at _ _ _ _ _ _ _).symm.trans (congrArg _ (emb4 t y).symm)

/-- The point that takes tile `s` of a point's head has that head. -/
theorem hd_run (t : Fin cfg0.N) (s : Fin 4) (h : 4 * (t.val / 4) + s.val < cfg0.N) : hd ⟨4 * (t.val / 4) + s.val, h⟩ = hd t :=
  Fin.ext (by show (4 * (t.val / 4) + s.val) / 4 = t.val / 4; omega)

/-- The keys' gradient after the run. -/
theorem finalK (c : Dev nD) : (dats m 0 c).arrAt 5 (cfgs 0).N
    = XattSpec.dk (argQ m c) (argK m c) (argV m c) (argD m c) := by
  refine (dats m 0 c).arrAt_eq_of_covers 5 _ (by decide +kernel) fun t hf y => ?_
  blk_simp
  have h3 := (flush0_5 t).mp hf
  rw [after0_5, Pipeline.eq_sum_fin_of_reset_step_apply_of_flush (fun n h => (outsAt0 m c n h).2.1) 4
    (fun _ => 0) (termK m c) (firstK m c) (nextK m c) t h3 y, zero_add]
  refine Eq.trans ?_ ((XattSpec.dk_at _ _ _ _ _ _ _).symm.trans (congrArg _ (emb5 t y).symm))
  refine Fin.sum_mul_add_congr fun s k hl => ?_
  have e : rw_ ⟨_, Pipeline.run_point_lt_of_flush t h3 s⟩ k = ⟨s.val * 512 + k.val, hl⟩ :=
    Fin.ext (by show (4 * (t.val / 4) + s.val) % 4 * 512 + k.val = s.val * 512 + k.val; omega)
  rw [hd_run, e]

/-- The values' gradient after the run. -/
theorem finalV (c : Dev nD) : (dats m 0 c).arrAt 6 (cfgs 0).N
    = XattSpec.dv (argQ m c) (argK m c) (argD m c) := by
  refine (dats m 0 c).arrAt_eq_of_covers 6 _ (by decide +kernel) fun t hf y => ?_
  blk_simp
  have h3 := (flush0_6 t).mp hf
  rw [after0_6, Pipeline.eq_sum_fin_of_reset_step_apply_of_flush (fun n h => (outsAt0 m c n h).2.2) 4
    (fun _ => 0) (termV m c) (firstV m c) (nextV m c) t h3 y, zero_add]
  refine Eq.trans ?_ ((XattSpec.dv_at _ _ _ _ _ _).symm.trans (congrArg _ (emb6 t y).symm))
  refine Fin.sum_mul_add_congr fun s k hl => ?_
  have e : rw_ ⟨_, Pipeline.run_point_lt_of_flush t h3 s⟩ k = ⟨s.val * 512 + k.val, hl⟩ :=
    Fin.ext (by show (4 * (t.val / 4) + s.val) % 4 * 512 + k.val = s.val * 512 + k.val; omega)
  rw [hd_run, e]

end Cert.Proof.XattKernel

end
-- ==== Proof.XattReference.lean ====
/- Hand-written, untrusted: THE CROSS-ATTENTION's REFERENCE (`Reference`), stage by stage, and its three results in terms of
   `XattSpec`. The stages are the reference's own operations: the scores, their exponentials, the exponentials' sums, the gradient
   of the weights, the gradient of the scores by the quotient rule, and the three products. -/
module

public import proofs.«01_k».proof.Proof.Gen.ReferenceIdeal.Run
public import proofs.«01_k».proof.Proof.XattSpec

@[expose] public section

set_option maxRecDepth 16384

noncomputable section

namespace Cert.Proof.XattReference

open Cert.ReferenceIdeal Cert.ReferenceIdeal.Gen
open Idealize.ShloMosaic Idealize.ShloMosaic.TcCoe Idealize.SL.Sem
open SoftmaxRow (top num den weight grad gradQuot)
open XattSpec (row drow)

abbrev Q := FVec Ideal S2048x512 .bf16
abbrev K := FVec Ideal S256x512 .bf16
abbrev D := FVec Ideal S2048x512 .f32
/-- One number for every head, query row and key. -/
abbrev Full := FVec Ideal S4x2048x256 .f32

def score (q : Q) (k : K) : Full :=
  Host.divf (Host.dotGeneral dot_S2048x4x128_S256x4x128_S4x2048x256_2_2_0_0_1_1 none
      (shapeCast _ (extf .f32 q bitsLt_bf16_f32) shapeCasts_S2048x512_S2048x4x128)
      (shapeCast _ (extf .f32 k bitsLt_bf16_f32) shapeCasts_S256x512_S256x4x128))
    (broadcastInDim S4x2048x256 ![] bcast_S_S4x2048x256 (Host.sqrt (constant S_ .f32 0x43000000#32)))

def greatest (s : Full) : FVec Ideal S4x2048 .f32 :=
  Host.reduce FloatOps.maximumf s (constant S_ .f32 0xFF800000#32) reducesTo_S4x2048x256_S4x2048_d2 h_S_

def guarded (s : Full) : FVec Ideal S4x2048 .f32 :=
  maximumf (broadcastInDim S4x2048 ![] bcast_S_S4x2048 (constant S_ .f32 0xFF800000#32)) (greatest s)

def expoOf (g : FVec Ideal S4x2048 .f32) (s : Full) : Full :=
  Host.exp (subf s (broadcastInDim S4x2048x256 ![0, 1, 2] bcast_S4x2048x1_S4x2048x256_0_1_2
    (broadcastInDim S4x2048x1 ![0, 1] bcast_S4x2048_S4x2048x1_0_1 g)))

def expo (s : Full) : Full := expoOf (guarded s) s

def total (e : Full) : FVec Ideal S4x2048x1 .f32 :=
  broadcastInDim S4x2048x1 ![0, 1] bcast_S4x2048_S4x2048x1_0_1
    (Host.reduceAdd e (constant S_ .f32 0x00000000#32) reducesTo_S4x2048x256_S4x2048_d2 h_S_)

def dweight (d : D) (v : K) : Full :=
  Host.dotGeneral dot_S4x128x2048_S256x4x128_S4x2048x256_1_2_2_0_0_1 none
    (transpose S4x128x2048 [1, 2, 0] (shapeCast _ d shapeCasts_S2048x512_S2048x4x128) transposes_S2048x4x128_S4x128x2048_1_2_0)
    (shapeCast _ (extf .f32 v bitsLt_bf16_f32) shapeCasts_S256x512_S256x4x128)

def wide (z : FVec Ideal S4x2048x1 .f32) : Full := broadcastInDim S4x2048x256 ![0, 1, 2] bcast_S4x2048x1_S4x2048x256_0_1_2 z

def dscore (e : Full) (dp : Full) : Full :=
  Host.divf (mulf (addf (Host.divf dp (wide (total e)))
    (broadcastInDim S4x2048x256 ![0, 1] bcast_S4x2048_S4x2048x256_0_1
      (Host.reduceAdd (Host.negf (shapeCast S4x2048x1 (Host.reduceAdd
          (mulf (mulf dp (wide (Host.divf (broadcastInDim S4x2048x1 ![] bcast_S_S4x2048x1 (constant S_ .f32 0x3F800000#32))
            (mulf (total e) (total e))))) e)
          (constant S_ .f32 0x00000000#32) reducesTo_S4x2048x256_S4x2048_d2 h_S_) shapeCasts_S4x2048_S4x2048x1))
        (constant S_ .f32 0x00000000#32) reducesTo_S4x2048x1_S4x2048_d2 h_S_))) e)
    (broadcastInDim S4x2048x256 ![] bcast_S_S4x2048x256 (Host.sqrt (constant S_ .f32 0x43000000#32)))

def dq (ds : Full) (k : K) : D :=
  shapeCast _ (transpose S2048x4x128 [1, 0, 2]
    (Host.dotGeneral dot_S4x2048x256_S256x4x128_S4x2048x128_2_0_1_2_0_1 none ds (shapeCast _ (extf .f32 k bitsLt_bf16_f32) shapeCasts_S256x512_S256x4x128))
    transposes_S4x2048x128_S2048x4x128_1_0_2) shapeCasts_S2048x4x128_S2048x512

def dk (ds : Full) (q : Q) : FVec Ideal S256x512 .f32 :=
  shapeCast _ (transpose S256x4x128 [1, 0, 2]
    (Host.dotGeneral dot_S4x2048x256_S2048x4x128_S4x256x128_1_0_2_2_0_1 none ds (shapeCast _ (extf .f32 q bitsLt_bf16_f32) shapeCasts_S2048x512_S2048x4x128))
    transposes_S4x256x128_S256x4x128_1_0_2) shapeCasts_S256x4x128_S256x512

def dv (e : Full) (d : D) : FVec Ideal S256x512 .f32 :=
  shapeCast _ (transpose S256x4x128 [2, 0, 1]
    (Host.dotGeneral dot_S4x128x2048_S4x2048x256_S4x128x256_2_1_1_2_0_0 none
      (transpose S4x128x2048 [1, 2, 0] (shapeCast _ d shapeCasts_S2048x512_S2048x4x128) transposes_S2048x4x128_S4x128x2048_1_2_0)
      (Host.divf e (wide (total e))))
    transposes_S4x128x256_S256x4x128_2_0_1) shapeCasts_S256x4x128_S256x512

variable (q : Q) (k v : K) (d : D) (s e dp ds : Full)

theorem score_apply (y) : score q k y = row q k (y 0) (y 1) (y 2) := by
  pointwise [score]
  rw [XattSpec.div_root]
  rfl

theorem greatest_apply (y) : greatest s y = top fun j => s (ix3 (y 0) (y 1) j) := by
  pointwise [greatest]
  rfl

/-- A maximum with minus infinity changes nothing. -/
theorem maximumf_bot (a b : Ideal .f32) (h : a = (⊥ : EReal)) : FloatOps.maximumf (F := Ideal) a b = b := by
  subst h
  exact max_eq_right (α := EReal) bot_le

theorem floor_apply (y) : (broadcastInDim S4x2048 ![] bcast_S_S4x2048 (constant (F := Ideal) S_ .f32 0xFF800000#32)) y
    = constant (F := Ideal) S_ .f32 0xFF800000#32 ix0 := by
  pointwise []

theorem floor_bot : constant (F := Ideal) S_ .f32 0xFF800000#32 ix0 = (⊥ : EReal) := SoftmaxRow.ofBits_neg_inf

/-- The guard against a greatest score of minus infinity changes nothing. -/
theorem guard_apply (g : FVec Ideal S4x2048 .f32) (y) :
    maximumf (broadcastInDim S4x2048 ![] bcast_S_S4x2048 (constant S_ .f32 0xFF800000#32)) g y = g y :=
  maximumf_bot _ _ ((floor_apply y).trans floor_bot)

theorem guarded_apply (y) : guarded s y = top fun j => s (ix3 (y 0) (y 1) j) :=
  (guard_apply (greatest s) y).trans (greatest_apply s y)

theorem expoOf_apply (g : FVec Ideal S4x2048 .f32) (y) : expoOf g s y = Ideal.exp (s y - g (ix2 (y 0) (y 1))) := by
  pointwise [expoOf]

theorem expo_apply (y) : expo s y = num (fun j => s (ix3 (y 0) (y 1) j)) (y 2) := by
  rw [expo, expoOf_apply, guarded_apply]
  exact congrArg (fun z => Ideal.exp (s z - top fun j => s (ix3 (y 0) (y 1) j))) (ix3_eta y).symm

theorem dweight_apply (y) : dweight d v y = drow v d (y 0) (y 1) (y 2) := by
  pointwise [dweight]
  rfl

theorem dscore_apply (y) : dscore (expo s) dp y
    = gradQuot (fun j => s (ix3 (y 0) (y 1) j)) (fun j => dp (ix3 (y 0) (y 1) j)) (y 2) * XattSpec.scale := by
  pointwise [dscore, wide, total]
  rw [XattSpec.div_root]
  simp only [expo_apply, Fin.sum_univ_one]
  unfold SoftmaxRow.gradQuot
  dsimp only
  rw [ix3_eta]
  rfl

theorem dq_apply (y) : dq ds k y = ∑ j, ds (ix3 (XattSpec.head (y 1)) (y 0) j) * k (ix2 j (y 1)) := by
  pointwise [dq]

theorem dk_apply (y) : dk ds q y = ∑ i, ds (ix3 (XattSpec.head (y 1)) i (y 0)) * q (ix2 i (y 1)) := by
  pointwise [dk]

theorem dv_apply (y) : dv (expo s) d y
    = ∑ i, weight (fun j => s (ix3 (XattSpec.head (y 1)) i j)) (y 0) * d (ix2 i (y 1)) := by
  pointwise [dv, wide, total]
  refine Finset.sum_congr rfl fun i _ => ?_
  simp only [expo_apply]
  rw [mul_comm]
  rfl

end Cert.Proof.XattReference

end
-- ==== Proof.Xatt.lean ====
/- Hand-written, untrusted: THE CROSS-ATTENTION's BACKWARD PASS, kernel against reference. The precondition says that the queries
   and the keys are finite; then every score is a real number, the row's exponentials sum to a positive real number, and the
   reference's quotient rule gives the kernel's gradient of the scores. -/
module

public import proofs.«01_k».proof.Proof.XattKernel
public import proofs.«01_k».proof.Proof.XattReference
public import proofs.«01_k».proof.Proof.Gen.Pre_finite_queries_and_keys
public import Idealize.ShloMosaic.Lib.ReduceAll
public import Idealize.ShloMosaic.Lib.Claim
public import proofs.«01_k».proof.Defs

@[expose] public section

set_option maxRecDepth 16384

noncomputable section

namespace Cert.Proof.Xatt

open Idealize.ShloMosaic Idealize.ShloMosaic.TcCoe Idealize.SL.Sem
open XattReference (Q K D score expo dweight dscore)
open XattSpec (row drow ds)

section Reference

open Cert.ReferenceIdeal Cert.ReferenceIdeal.Gen

variable (m : (ℓ : Loc nD τ sig) → Buf (Elt Ideal) ℓ) (c : Dev nD)

abbrev refQ : Q := m ((c.tc : Thread nD τ).loc main_arg0)
abbrev refK : K := m ((c.tc : Thread nD τ).loc main_arg1)
abbrev refV : K := m ((c.tc : Thread nD τ).loc main_arg2)
abbrev refD : D := m ((c.tc : Thread nD τ).loc main_arg3)

/-- The reference's first result, by its stages. -/
theorem out0_eq : Cert.ReferenceIdeal.Value.res_main_v66 m c
    = XattReference.dq (dscore (expo (score (refQ m c) (refK m c))) (dweight (refD m c) (refV m c))) (refK m c) := by
  unfold Cert.ReferenceIdeal.Value.res_main_v66 XattReference.dq dscore expo XattReference.expoOf XattReference.guarded XattReference.greatest
    XattReference.total XattReference.wide dweight score
  rfl

/-- The reference's second result, by its stages. -/
theorem out1_eq : Cert.ReferenceIdeal.Value.res_main_v65 m c
    = XattReference.dk (dscore (expo (score (refQ m c) (refK m c))) (dweight (refD m c) (refV m c))) (refQ m c) := by
  unfold Cert.ReferenceIdeal.Value.res_main_v65 XattReference.dk dscore expo XattReference.expoOf XattReference.guarded XattReference.greatest
    XattReference.total XattReference.wide dweight score
  rfl

end Reference

variable (q : Q) (k v : K) (d : D)

/-- Where the scores are real, the reference's gradient of the scores is the kernel's. -/
theorem ds_eq (hs : ∀ h i j, ∃ r : ℝ, row q k h i j = r) (h : Fin 4) (i : Fin 2048) (j : Fin 256) :
    dscore (expo (score q k)) (dweight d v) (ix3 h i j) = ds q k v d h i j := by
  rw [XattReference.dscore_apply]
  have e1 : (fun j => score q k (ix3 h i j)) = row q k h i := funext fun j => XattReference.score_apply q k _
  have e2 : (fun j => dweight d v (ix3 h i j)) = drow v d h i := funext fun j => XattReference.dweight_apply v d _
  show SoftmaxRow.gradQuot (fun j => score q k (ix3 h i j)) (fun j => dweight d v (ix3 h i j)) j * XattSpec.scale = _
  rw [e1, e2]
  exact congrArg (· * XattSpec.scale) (SoftmaxRow.gradQuot_eq (drow v d h i) (hs h i) j)

theorem dq_eq (hs : ∀ h i j, ∃ r : ℝ, row q k h i j = r) :
    XattReference.dq (dscore (expo (score q k)) (dweight d v)) k = XattSpec.dq q k v d := by
  funext y
  rw [XattReference.dq_apply]
  exact Finset.sum_congr rfl fun j _ => congrArg (· * k (ix2 j (y 1))) (ds_eq q k v d hs _ _ _)

theorem dk_eq (hs : ∀ h i j, ∃ r : ℝ, row q k h i j = r) :
    XattReference.dk (dscore (expo (score q k)) (dweight d v)) q = XattSpec.dk q k v d := by
  funext y
  rw [XattReference.dk_apply]
  exact Finset.sum_congr rfl fun i _ => congrArg (· * q (ix2 i (y 1))) (ds_eq q k v d hs _ _ _)

theorem dv_eq : XattReference.dv (expo (score q k)) d = XattSpec.dv q k d := by
  funext y
  rw [XattReference.dv_apply]
  have e (i) : (fun j => score q k (ix3 (XattSpec.head (y 1)) i j)) = row q k (XattSpec.head (y 1)) i :=
    funext fun j => XattReference.score_apply q k _
  exact Finset.sum_congr rfl fun i _ => congrArg (fun s => SoftmaxRow.weight s (y 0) * d (ix2 i (y 1))) (e i)

/-- An extended real whose absolute value is below infinity is a real number. -/
theorem real_of_abs (x : EReal) (h : Ideal.cmp .olt (max x (-x)) (Ideal.ofBits .f32 0x7F800000#32) = 1#1) : ∃ r : ℝ, x = r := by
  have hi : (Ideal.ofBits .f32 0x7F800000#32 : EReal) = ⊤ := by
    simp [Ideal.ofBits, Ideal.ieee]
  rw [hi] at h
  induction x using EReal.rec with
  | coe r => exact ⟨r, rfl⟩
  | bot => simp [Ideal.cmp] at h
  | top => simp [Ideal.cmp] at h

/-- What the precondition says of the arguments. -/
theorem finite (h : Cert.Pre_finite_queries_and_keys.fn (F := Ideal) q k v d = fun _ => 1#1) :
    (∀ y, ∃ r : ℝ, q y = r) ∧ ∀ y, ∃ r : ℝ, k y = r := by
  have e := congrFun h ix0
  dsimp only [Cert.Pre_finite_queries_and_keys.fn] at e
  obtain ⟨e1, e2⟩ := IntOp.andi_eq_one.1 e
  exact ⟨fun y => real_of_abs (q y) (Host.reduce_andi_all _ _ _ _ ix0 e1 y),
    fun y => real_of_abs (k y) (Host.reduce_andi_all _ _ _ _ ix0 e2 y)⟩

/-- The kernel and the reference leave the same three gradients. -/
theorem algebraic : Cert.algebraic_KernelIdeal_ReferenceIdeal_pre_finite_queries_and_keys := by
  pair_intro
  · run_from Cert.KernelIdeal.Value.run_blocks m g
  · run_from Cert.ReferenceIdeal.Value.run m' g'
    all_goals
      obtain ⟨h0, h1, h2, h3⟩ := hagree c
      obtain ⟨hq, hk⟩ := finite _ _ _ _ (hpre c)
    · exact (out0_eq m' c).trans (by rw [refQ, refK, refV, refD, h0, h1, h2, h3]; exact (dq_eq _ _ _ _ (XattSpec.row_real _ _ hq hk)).trans (XattKernel.finalQ m c).symm)
    · exact (out1_eq m' c).trans (by rw [refQ, refK, refV, refD, h0, h1, h2, h3]; exact (dk_eq _ _ _ _ (XattSpec.row_real _ _ hq hk)).trans (XattKernel.finalK m c).symm)
    · exact (dv_eq _ _ _).trans (XattKernel.finalV m c).symm

end Cert.Proof.Xatt

end
-- ==== Proof.MlpDownDx.lean ====
/- Hand-written, untrusted: THE GRADIENT AT THE MLP's HIDDEN LAYER (`Kernel2`). The kernel multiplies a block of the incoming
   gradient by a block of the weight, transposed, and then by twice the positive part of the hidden value. The reference is
   the derivative of the square of the positive part: the same product where the hidden value is above zero, and zero
   elsewhere. Where the hidden value is not above zero its positive part is zero, and anything times zero is zero. -/
module

public import proofs.«01_k».proof.Proof.Gen.Kernel2Ideal.Value
public import proofs.«01_k».proof.Proof.Gen.Reference2Ideal.Run
public import Idealize.ShloMosaic.Lib.Pipeline.ValueKit
public import Idealize.ShloMosaic.Lib.Claim
public import proofs.«01_k».proof.Defs

@[expose] public section

set_option maxRecDepth 16384

noncomputable section

namespace Cert.Proof.MlpDownDx

open Cert.Kernel2Ideal Cert.Kernel2Ideal.Gen
open Idealize.ShloMosaic Idealize.ShloMosaic.TcCoe Idealize.SL.Sem
open Idealize.ShloMosaic.Pipeline (Dat)

variable (m : (ℓ : Loc nD τ sig) → Buf (Elt Ideal) ℓ)

/-- The reference's result as a function of its three arguments. -/
abbrev spec (dh : FVec Ideal S2048x2048 .f32) (w : FVec Ideal S8192x2048 .bf16) (up : FVec Ideal S2048x8192 .bf16) :
    FVec Ideal S2048x8192 .bf16 :=
  truncf .bf16 (select (cmpf .ogt (extf .f32 up Cert.Reference2Ideal.Gen.bitsLt_bf16_f32)
      (broadcastInDim Cert.Reference2Ideal.S2048x8192 ![] Cert.Reference2Ideal.Gen.bcast_S_S2048x8192 (constant Cert.Reference2Ideal.S_ .f32 0x00000000#32)))
    (mulf (Host.dotGeneral Cert.Reference2Ideal.dot_S2048x2048_S8192x2048_S2048x8192_1_1_0_0_n_n none dh
        (extf .f32 w Cert.Reference2Ideal.Gen.bitsLt_bf16_f32))
      (mulf (broadcastInDim Cert.Reference2Ideal.S2048x8192 ![] Cert.Reference2Ideal.Gen.bcast_S_S2048x8192 (constant Cert.Reference2Ideal.S_ .f32 0x40000000#32))
        (maximumf (extf .f32 up Cert.Reference2Ideal.Gen.bitsLt_bf16_f32)
          (broadcastInDim Cert.Reference2Ideal.S2048x8192 ![] Cert.Reference2Ideal.Gen.bcast_S_S2048x8192 (constant Cert.Reference2Ideal.S_ .f32 0x00000000#32)))))
    (broadcastInDim Cert.Reference2Ideal.S2048x8192 ![] Cert.Reference2Ideal.Gen.bcast_S_S2048x8192 (constant Cert.Reference2Ideal.S_ .f32 0x00000000#32)))
    Cert.Reference2Ideal.Gen.bitsLt_bf16_f32

theorem idx : ∀ t : Fin cfg0.N, win0_0.index t = ![t.val / 8, 0] ∧ win0_1.index t = ![t.val % 8, 0]
    ∧ win0_2.index t = ![t.val / 8, t.val % 8] ∧ win0_3.index t = ![t.val / 8, t.val % 8] :=
  (by decide +kernel : ∀ t : Fin grid0.N, _)

theorem point (c : Dev nD) (t : Fin cfg0.N) (y) : k0_pay1 (iblk m c 0 t) (iblk m c 1 t) (iblk m c 2 t) y
    = spec (m ((c : Thread nD τ).loc main_arg0)) (m ((c : Thread nD τ).loc main_arg1)) (m ((c : Thread nD τ).loc main_arg2))
      (((cfg0.win 3).blk t).view.emb y) := by
  pointwise [k0_pay1, spec]
  blk_point [iblk, V, idx t]
  rename_i hup _
  have e : V m c main_arg2 ((win0_2.blk t).view.emb y) = m (c.tc.loc main_arg2) (((View.whole main_v0).slice ((win0 3).rect t)).emb y) := by
    blk_ext [V, idx t]
  rw [e, max_eq_right (not_lt.mp hup), mul_zero, mul_zero]

theorem final (c : Dev nD) : (dats m 0 c).arrAt 3 (cfgs 0).N
    = spec (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  unfold outsAt0
  frame_out
  exact point m c t y

/-- The kernel and the reference leave the same result. -/
theorem algebraic : Cert.algebraic_Kernel2Ideal_Reference2Ideal := by
  pair_intro
  · run_from Cert.Kernel2Ideal.Value.run_blocks m g
  · run_from Cert.Reference2Ideal.Value.run m' g'
    rw [final m c]

end Cert.Proof.MlpDownDx

end
-- ==== Proof.MlpDownDw.lean ====
/- Hand-written, untrusted: THE GRADIENT OF THE MLP's SECOND WEIGHT (`Kernel3`). The kernel cuts the 8192 by 2048 result into
   blocks of 1024 by 1024 and computes each block as one product over all 2048 rows. The reference takes one product of the
   whole arrays and transposes it. At `Ideal` both are, at row `r` and column `l`, the sum over the rows `t` of the
   activation at `(t, r)` times the incoming gradient at `(t, l)`; only the order of the two factors differs. -/
module

public import proofs.«01_k».proof.Proof.Gen.Kernel3Ideal.Value
public import proofs.«01_k».proof.Proof.Gen.Reference3Ideal.Run
public import Idealize.ShloMosaic.Lib.Pipeline.ValueKit
public import Idealize.ShloMosaic.Lib.Claim
public import proofs.«01_k».proof.Defs

@[expose] public section

set_option maxRecDepth 16384

noncomputable section

namespace Cert.Proof.MlpDownDw

open Cert.Kernel3Ideal Cert.Kernel3Ideal.Gen
open Idealize.ShloMosaic Idealize.ShloMosaic.TcCoe Idealize.SL.Sem
open Idealize.ShloMosaic.Pipeline (Dat)

variable (m : (ℓ : Loc nD τ sig) → Buf (Elt Ideal) ℓ)

/-- The reference's result as a function of its two arguments. -/
abbrev spec (act : FVec Ideal S2048x8192 .bf16) (dh : FVec Ideal S2048x2048 .f32) : FVec Ideal S8192x2048 .bf16 :=
  truncf .bf16 (transpose Cert.Reference3Ideal.S8192x2048 [1, 0]
    (Host.dotGeneral Cert.Reference3Ideal.dot_S2048x2048_S2048x8192_S2048x8192_0_0_1_1_n_n none dh
      (extf .f32 act Cert.Reference3Ideal.Gen.bitsLt_bf16_f32))
    Cert.Reference3Ideal.Gen.transposes_S2048x8192_S8192x2048_1_0) Cert.Reference3Ideal.Gen.bitsLt_bf16_f32

/-- Every window's block at every point: rows of the result from the first coordinate, columns from the second. -/
theorem idx : ∀ t : Fin cfg0.N, win0_0.index t = ![0, t.val / 2] ∧ win0_1.index t = ![0, t.val % 2]
    ∧ win0_2.index t = ![t.val / 2, t.val % 2] :=
  (by decide +kernel : ∀ t : Fin grid0.N, _)

/-- What a point stores at an index of its block is the reference's result at that index's place. -/
theorem point (c : Dev nD) (t : Fin cfg0.N) (y) : k0_pay1 (iblk m c 0 t) (iblk m c 1 t) y
    = spec (m ((c : Thread nD τ).loc main_arg0)) (m ((c : Thread nD τ).loc main_arg1)) (((cfg0.win 2).blk t).view.emb y) := by
  pointwise [k0_pay1, spec]
  refine Finset.sum_congr rfl fun k _ => ?_
  rw [mul_comm]
  blk_point [iblk, V, idx t]

/-- The result array after the run. -/
theorem final (c : Dev nD) : (dats m 0 c).arrAt 2 (cfgs 0).N
    = spec (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  exact point m c t y

/-- The kernel and the reference leave the same result. -/
theorem algebraic : Cert.algebraic_Kernel3Ideal_Reference3Ideal := by
  pair_intro
  · run_from Cert.Kernel3Ideal.Value.run_blocks m g
  · run_from Cert.Reference3Ideal.Value.run m' g'
    rw [final m c]

end Cert.Proof.MlpDownDw

end
-- ==== Proof.MlpUpDw.lean ====
/- Hand-written, untrusted: THE GRADIENT OF THE MLP's FIRST WEIGHT (`Kernel4`). The weight is stored as four stacked pieces of
   2048 columns each, one for each device of the group, and the kernel writes the gradient in that arrangement: a block of 1024 by
   1024 belongs to the piece in which its columns lie. The reference takes one product of the whole arrays and cuts the
   result into the four pieces. At `Ideal` both are, for piece `p`, row `r` and column `l`, the sum over the rows `t` of the
   input at `(t, r)` times the gradient at `(t, 2048 p + l)`. -/
module

public import proofs.«01_k».proof.Proof.Gen.Kernel4Ideal.Value
public import proofs.«01_k».proof.Proof.Gen.Reference4Ideal.Run
public import Idealize.ShloMosaic.Lib.Pipeline.ValueKit
public import Idealize.ShloMosaic.Lib.Claim
public import proofs.«01_k».proof.Defs

@[expose] public section

set_option maxRecDepth 16384

noncomputable section

namespace Cert.Proof.MlpUpDw

open Cert.Kernel4Ideal Cert.Kernel4Ideal.Gen
open Idealize.ShloMosaic Idealize.ShloMosaic.TcCoe Idealize.SL.Sem
open Idealize.ShloMosaic.Pipeline (Dat)

variable (m : (ℓ : Loc nD τ sig) → Buf (Elt Ideal) ℓ)

/-- The reference's result as a function of its two arguments. -/
abbrev spec (hm : FVec Ideal S2048x2048 .bf16) (dup : FVec Ideal S2048x8192 .bf16) : FVec Ideal S4x2048x2048 .bf16 :=
  truncf .bf16 (transpose Cert.Reference4Ideal.S4x2048x2048 [1, 0, 2]
    (shapeCast Cert.Reference4Ideal.S2048x4x2048
      (transpose Cert.Reference4Ideal.S2048x8192 [1, 0]
        (Host.dotGeneral Cert.Reference4Ideal.dot_S2048x8192_S2048x2048_S8192x2048_0_0_1_1_n_n none
          (extf .f32 dup Cert.Reference4Ideal.Gen.bitsLt_bf16_f32) (extf .f32 hm Cert.Reference4Ideal.Gen.bitsLt_bf16_f32))
        Cert.Reference4Ideal.Gen.transposes_S8192x2048_S2048x8192_1_0)
      Cert.Reference4Ideal.Gen.shapeCasts_S2048x8192_S2048x4x2048)
    Cert.Reference4Ideal.Gen.transposes_S2048x4x2048_S4x2048x2048_1_0_2) Cert.Reference4Ideal.Gen.bitsLt_bf16_f32

/-- Every window's block at every point. -/
theorem idx : ∀ t : Fin cfg0.N, win0_0.index t = ![0, t.val / 8] ∧ win0_1.index t = ![0, t.val % 8]
    ∧ win0_2.index t = ![t.val % 8 / 2, t.val / 8, t.val % 8 % 2] :=
  (by decide +kernel : ∀ t : Fin grid0.N, _)

/-- What a point stores at an index of its block is the reference's result at that index's place. -/
theorem point (c : Dev nD) (t : Fin cfg0.N) (y) : k0_pay1 (iblk m c 0 t) (iblk m c 1 t) y
    = spec (m ((c : Thread nD τ).loc main_arg0)) (m ((c : Thread nD τ).loc main_arg1)) (((cfg0.win 2).blk t).view.emb y) := by
  pointwise [k0_pay1, spec]
  refine Finset.sum_congr rfl fun k _ => ?_
  rw [mul_comm]
  blk_point [iblk, V, idx t]

/-- The result array after the run. -/
theorem final (c : Dev nD) : (dats m 0 c).arrAt 2 (cfgs 0).N
    = spec (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  exact point m c t y

/-- The kernel and the reference leave the same result. -/
theorem algebraic : Cert.algebraic_Kernel4Ideal_Reference4Ideal := by
  pair_intro
  · run_from Cert.Kernel4Ideal.Value.run_blocks m g
  · run_from Cert.Reference4Ideal.Value.run m' g'
    rw [final m c]

end Cert.Proof.MlpUpDw

end
-- ==== Proof.MlpUpDx.lean ====
/- Hand-written, untrusted: THE GRADIENT AT THE MLP's INPUT (`Kernel5`). The weight is stored as four stacked pieces of 2048
   columns each. For every block of 1024 by 1024 of the result the kernel takes four grid points, one for each piece, and adds
   up the four products; the last of the four writes the sum out. The reference lays the pieces side by side and takes one
   product. At `Ideal` both are the sum over all 8192 columns, the kernel's in four stretches of 2048. -/
module

public import proofs.«01_k».proof.Proof.Gen.Kernel5Ideal.Value
public import proofs.«01_k».proof.Proof.Gen.Reference5Ideal.Run
public import Idealize.ShloMosaic.Lib.Pipeline.ValueKit
public import Idealize.ShloMosaic.Lib.Claim
public import proofs.«01_k».proof.Defs

@[expose] public section

set_option maxRecDepth 16384

noncomputable section

namespace Cert.Proof.MlpUpDx

open Cert.Kernel5Ideal Cert.Kernel5Ideal.Gen
open Idealize.ShloMosaic Idealize.ShloMosaic.TcCoe Idealize.SL.Sem
open Idealize.ShloMosaic.Pipeline (Dat)

variable (m : (ℓ : Loc nD τ sig) → Buf (Elt Ideal) ℓ)

/-- The reference's result as a function of its two arguments. -/
abbrev spec (dup : FVec Ideal S2048x8192 .bf16) (w : FVec Ideal S4x2048x2048 .bf16) : FVec Ideal S2048x2048 .f32 :=
  Host.dotGeneral Cert.Reference5Ideal.dot_S2048x8192_S2048x8192_S2048x2048_1_1_0_0_n_n none
    (extf .f32 dup Cert.Reference5Ideal.Gen.bitsLt_bf16_f32)
    (shapeCast Cert.Reference5Ideal.S2048x8192
      (transpose Cert.Reference5Ideal.S2048x4x2048 [1, 0, 2] (extf .f32 w Cert.Reference5Ideal.Gen.bitsLt_bf16_f32)
        Cert.Reference5Ideal.Gen.transposes_S4x2048x2048_S2048x4x2048_1_0_2)
      Cert.Reference5Ideal.Gen.shapeCasts_S2048x4x2048_S2048x8192)

/-- Every window's block at every point. -/
theorem idx : ∀ t : Fin cfg0.N, win0_0.index t = ![t.val / 8, t.val % 4] ∧ win0_1.index t = ![t.val % 4, t.val / 4 % 2, 0]
    ∧ win0_2.index t = ![t.val / 8, t.val / 4 % 2] :=
  (by decide +kernel : ∀ t : Fin grid0.N, _)

/-- The product of one point, at an index of the block. -/
abbrev term (c : Dev nD) (t : Fin cfg0.N) (y : S1024x1024.Idx) : EReal :=
  ∑ k : Fin 2048, (show FVec Ideal S1024x2048 .bf16 from iblk m c 0 t) (ix2 (y 0) k) *
    (show FVec Ideal S1x1024x2048 .bf16 from iblk m c 1 t) (ix3 0 (y 1) k)

theorem pay2_eq (c : Dev nD) (t : Fin cfg0.N) (y) : k0_pay2 (iblk m c 0 t) (iblk m c 1 t) y = 0 + term m c t y := by
  rw [zero_add]
  pointwise [k0_pay2, k0_pay1]

theorem pay3_eq (c : Dev nD) (t : Fin cfg0.N) (old) (y) :
    k0_pay3 (iblk m c 0 t) (iblk m c 1 t) old y = old y + term m c t y := by
  pointwise [k0_pay3, k0_pay1]

/-- A point that starts a block leaves its own product in the scratch. -/
theorem first (c : Dev nD) (t : Fin cfg0.N) (h : t.val % 4 = 0) (y : S1024x1024.Idx) :
    (outsAt0 m c t.val t.isLt).2 y = 0 + term m c t y := by
  rw [outsAt0_A m c t h (by omega) (by omega)]
  frame_out
  exact pay2_eq m c t y

/-- Every other point adds its own product. -/
theorem next (c : Dev nD) (t : Fin cfg0.N) (h : ¬t.val % 4 = 0) (y : S1024x1024.Idx) :
    (outsAt0 m c t.val t.isLt).2 y
      = (outsAt0 m c (t.val - 1) (Nat.lt_of_le_of_lt (Nat.sub_le _ _) t.isLt)).2 y + term m c t y := by
  by_cases h3 : t.val % 4 = 3
  · rw [outsAt0_C m c t h (by omega) h3]
    frame_out
    erw [Memref.IsWhole.read_unread]
    exact pay3_eq m c t _ y
  · rw [outsAt0_B m c t h (by omega) h3]
    frame_out
    erw [Memref.IsWhole.read_unread]
    exact pay3_eq m c t _ y

/-- The last point of a block writes out what it leaves in the scratch. -/
theorem last (c : Dev nD) (t : Fin cfg0.N) (h : t.val % 4 = 3) (y : S1024x1024.Idx) :
    (outsAt0 m c t.val t.isLt).1 y = (outsAt0 m c t.val t.isLt).2 y := by
  rw [outsAt0_C m c t (by omega) (by omega) h]
  frame_out

/-- The result array after the run. -/
theorem final (c : Dev nD) : (dats m 0 c).arrAt 2 (cfgs 0).N
    = spec (m ((c : Thread nD τ).loc main_arg0)) (m ((c : Thread nD τ).loc main_arg1)) := by
  refine (dats m 0 c).arrAt_eq_of_covers 2 _ (by decide +kernel) fun t hf y => ?_
  blk_simp
  have h3 := (flush0_2 t).mp hf
  rw [after0_2, last m c t h3, Pipeline.eq_sum_fin_of_reset_step_apply_of_flush (fun n h => (outsAt0 m c n h).2) 4
    (fun _ => 0) (term m c) (first m c) (next m c) t h3 y, zero_add]
  pointwise [spec]
  refine Fin.sum_mul_add_congr fun s k hl => ?_
  blk_point [iblk, V, idx t, idx ⟨_, Pipeline.run_point_lt_of_flush t h3 s⟩]

/-- The kernel and the reference leave the same result. -/
theorem algebraic : Cert.algebraic_Kernel5Ideal_Reference5Ideal := by
  pair_intro
  · run_from Cert.Kernel5Ideal.Value.run_blocks m g
  · run_from Cert.Reference5Ideal.Value.run m' g'
    rw [final m c]
    rfl

end Cert.Proof.MlpUpDx

end
-- ==== Proof.MlpUp.lean ====
/- Hand-written, untrusted: THE MLP's FIRST PRODUCT AND ITS SQUARED RECTIFIER (`Kernel6`). The weight is stored as four
   stacked pieces of 2048 columns each; a block of 1024 columns of the results belongs to the piece in which its columns lie.
   The kernel writes the product and the square of its positive part. The reference lays the pieces side by side and takes one
   product. -/
module

public import proofs.«01_k».proof.Proof.Gen.Kernel6Ideal.Value
public import proofs.«01_k».proof.Proof.Gen.Reference6Ideal.Run
public import Idealize.ShloMosaic.Lib.Pipeline.ValueKit
public import Idealize.ShloMosaic.Lib.Claim
public import proofs.«01_k».proof.Defs

@[expose] public section

set_option maxRecDepth 16384

noncomputable section

namespace Cert.Proof.MlpUp

open Cert.Kernel6Ideal Cert.Kernel6Ideal.Gen
open Idealize.ShloMosaic Idealize.ShloMosaic.TcCoe Idealize.SL.Sem
open Idealize.ShloMosaic.Pipeline (Dat)

variable (m : (ℓ : Loc nD τ sig) → Buf (Elt Ideal) ℓ)

/-- The reference's product as a function of its two arguments. -/
abbrev prod (hm : FVec Ideal S2048x2048 .bf16) (w : FVec Ideal S4x2048x2048 .bf16) : FVec Ideal S2048x8192 .f32 :=
  Host.dotGeneral Cert.Reference6Ideal.dot_S2048x2048_S2048x8192_S2048x8192_1_0_0_1_n_n none
    (extf .f32 hm Cert.Reference6Ideal.Gen.bitsLt_bf16_f32)
    (shapeCast Cert.Reference6Ideal.S2048x8192
      (transpose Cert.Reference6Ideal.S2048x4x2048 [1, 0, 2] (extf .f32 w Cert.Reference6Ideal.Gen.bitsLt_bf16_f32)
        Cert.Reference6Ideal.Gen.transposes_S4x2048x2048_S2048x4x2048_1_0_2)
      Cert.Reference6Ideal.Gen.shapeCasts_S2048x4x2048_S2048x8192)

/-- The reference's first result. -/
abbrev specUp (hm : FVec Ideal S2048x2048 .bf16) (w : FVec Ideal S4x2048x2048 .bf16) : FVec Ideal S2048x8192 .bf16 :=
  truncf .bf16 (prod hm w) Cert.Reference6Ideal.Gen.bitsLt_bf16_f32

/-- The positive part of the reference's product. -/
abbrev relu (hm : FVec Ideal S2048x2048 .bf16) (w : FVec Ideal S4x2048x2048 .bf16) : FVec Ideal S2048x8192 .f32 :=
  maximumf (prod hm w) (broadcastInDim Cert.Reference6Ideal.S2048x8192 ![] Cert.Reference6Ideal.Gen.bcast_S_S2048x8192
    (constant Cert.Reference6Ideal.S_ .f32 0x00000000#32))

/-- The reference's second result. -/
abbrev specAct (hm : FVec Ideal S2048x2048 .bf16) (w : FVec Ideal S4x2048x2048 .bf16) : FVec Ideal S2048x8192 .bf16 :=
  truncf .bf16 (mulf (relu hm w) (relu hm w)) Cert.Reference6Ideal.Gen.bitsLt_bf16_f32

/-- Every window's block at every point. -/
theorem idx : ∀ t : Fin cfg0.N, win0_0.index t = ![t.val / 8, 0] ∧ win0_1.index t = ![t.val % 8 / 2, 0, t.val % 8 % 2]
    ∧ win0_2.index t = ![t.val / 8, t.val % 8] ∧ win0_3.index t = ![t.val / 8, t.val % 8] :=
  (by decide +kernel : ∀ t : Fin grid0.N, _)

/-- The product that a point takes, at an index of its block of the first result, is the reference's at that index's place. -/
theorem point (c : Dev nD) (t : Fin cfg0.N) (y) : k0_pay1 (F := Ideal) (iblk m c 0 t) (iblk m c 1 t) y
    = prod (m ((c : Thread nD τ).loc main_arg0)) (m ((c : Thread nD τ).loc main_arg1)) (((cfg0.win 2).blk t).view.emb y) := by
  pointwise [k0_pay1, prod]
  refine Finset.sum_congr rfl fun k _ => ?_
  blk_point [iblk, V, idx t]

/-- The two results' blocks lie at the same place. -/
theorem emb_eq (t : Fin cfg0.N) (y) : ((cfg0.win 3).blk t).view.emb y = ((cfg0.win 2).blk t).view.emb y := by
  blk_ext [idx t]

/-- The first result after the run. -/
theorem finalUp (c : Dev nD) : (dats m 0 c).arrAt 2 (cfgs 0).N
    = specUp (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  exact point m c t y

/-- The second result after the run. -/
theorem finalAct (c : Dev nD) : (dats m 0 c).arrAt 3 (cfgs 0).N
    = specAct (m ((c : Thread nD τ).loc main_arg0)) (m ((c : Thread nD τ).loc main_arg1)) := by
  refine (dats m 0 c).arrAt_eq_of_covers 3 _ (by decide +kernel) fun t _ y => ?_
  blk_simp
  rw [after0_3]
  unfold outsAt0
  frame_out
  exact (congrArg (fun x : EReal => max x (Ideal.ofBits .f32 0x00000000#32) * max x (Ideal.ofBits .f32 0x00000000#32))
    (point m c t y)).trans (congrArg (fun i => relu _ _ i * relu _ _ i) (emb_eq t y).symm)

/-- The kernel and the reference leave the same results. -/
theorem algebraic : Cert.algebraic_Kernel6Ideal_Reference6Ideal := by
  pair_intro
  · run_from Cert.Kernel6Ideal.Value.run_blocks m g
  · run_from Cert.Reference6Ideal.Value.run m' g'
    · rw [finalUp m c]
    · rw [finalAct m c]

end Cert.Proof.MlpUp

end
-- ==== Proof.MlpDown.lean ====
/- Hand-written, untrusted: THE MLP's SECOND PRODUCT (`Kernel7`), added to the array that passes by the MLP. For every block of
   1024 by 1024 of the result the kernel takes four grid points, one for each stretch of 2048 hidden columns, and adds up the
   four products; the last of the four adds the block of the third argument and writes the sum out. The reference takes one
   product. -/
module

public import proofs.«01_k».proof.Proof.Gen.Kernel7Ideal.Value
public import proofs.«01_k».proof.Proof.Gen.Reference7Ideal.Run
public import Idealize.ShloMosaic.Lib.Pipeline.ValueKit
public import Idealize.ShloMosaic.Lib.Claim
public import proofs.«01_k».proof.Defs

@[expose] public section

set_option maxRecDepth 16384

noncomputable section

namespace Cert.Proof.MlpDown

open Cert.Kernel7Ideal Cert.Kernel7Ideal.Gen
open Idealize.ShloMosaic Idealize.ShloMosaic.TcCoe Idealize.SL.Sem
open Idealize.ShloMosaic.Pipeline (Dat)

variable (m : (ℓ : Loc nD τ sig) → Buf (Elt Ideal) ℓ)

/-- The reference's result as a function of its three arguments. -/
abbrev spec (act : FVec Ideal S2048x8192 .bf16) (w : FVec Ideal S8192x2048 .bf16) (h : FVec Ideal S2048x2048 .f32) :
    FVec Ideal S2048x2048 .f32 :=
  addf h (Host.dotGeneral Cert.Reference7Ideal.dot_S2048x8192_S8192x2048_S2048x2048_1_0_0_1_n_n none
    (extf .f32 act Cert.Reference7Ideal.Gen.bitsLt_bf16_f32) (extf .f32 w Cert.Reference7Ideal.Gen.bitsLt_bf16_f32))

/-- Every window's block at every point. -/
theorem idx : ∀ t : Fin cfg0.N, win0_0.index t = ![t.val / 8, t.val % 4] ∧ win0_1.index t = ![t.val % 4, t.val / 4 % 2]
    ∧ win0_2.index t = ![t.val / 8, t.val / 4 % 2] ∧ win0_3.index t = ![t.val / 8, t.val / 4 % 2] :=
  (by decide +kernel : ∀ t : Fin grid0.N, _)

/-- The product of one point, at an index of the block. -/
abbrev term (c : Dev nD) (t : Fin cfg0.N) (y : S1024x1024.Idx) : EReal :=
  ∑ k : Fin 2048, (show FVec Ideal S1024x2048 .bf16 from iblk m c 0 t) (ix2 (y 0) k) *
    (show FVec Ideal S2048x1024 .bf16 from iblk m c 1 t) (ix2 k (y 1))

theorem pay2_eq (c : Dev nD) (t : Fin cfg0.N) (y) : k0_pay2 (iblk m c 0 t) (iblk m c 1 t) y = 0 + term m c t y := by
  rw [zero_add]
  pointwise [k0_pay2, k0_pay1]

theorem pay3_eq (c : Dev nD) (t : Fin cfg0.N) (old) (y) :
    k0_pay3 (iblk m c 0 t) (iblk m c 1 t) old y = old y + term m c t y := by
  pointwise [k0_pay3, k0_pay1]

/-- A point that starts a block leaves its own product in the scratch. -/
theorem first (c : Dev nD) (t : Fin cfg0.N) (h : t.val % 4 = 0) (y : S1024x1024.Idx) :
    (outsAt0 m c t.val t.isLt).2 y = 0 + term m c t y := by
  rw [outsAt0_A m c t h (by omega) (by omega)]
  frame_out
  exact pay2_eq m c t y

/-- Every other point adds its own product. -/
theorem next (c : Dev nD) (t : Fin cfg0.N) (h : ¬t.val % 4 = 0) (y : S1024x1024.Idx) :
    (outsAt0 m c t.val t.isLt).2 y
      = (outsAt0 m c (t.val - 1) (Nat.lt_of_le_of_lt (Nat.sub_le _ _) t.isLt)).2 y + term m c t y := by
  by_cases h3 : t.val % 4 = 3
  · rw [outsAt0_C m c t h (by omega) h3]
    frame_out
    erw [Memref.IsWhole.read_unread]
    exact pay3_eq m c t _ y
  · rw [outsAt0_B m c t h (by omega) h3]
    frame_out
    erw [Memref.IsWhole.read_unread]
    exact pay3_eq m c t _ y

/-- The last point of a block writes out what it leaves in the scratch, plus the third argument's block. -/
theorem last (c : Dev nD) (t : Fin cfg0.N) (h : t.val % 4 = 3) (y : S1024x1024.Idx) :
    (outsAt0 m c t.val t.isLt).1 y = (outsAt0 m c t.val t.isLt).2 y + (show FVec Ideal S1024x1024 .f32 from iblk m c 2 t) y := by
  rw [outsAt0_C m c t (by omega) (by omega) h]
  frame_out
  rfl

/-- The result array after the run. -/
theorem final (c : Dev nD) : (dats m 0 c).arrAt 3 (cfgs 0).N
    = spec (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  have h3 := (flush0_3 t).mp hf
  rw [after0_3, last m c t h3, Pipeline.eq_sum_fin_of_reset_step_apply_of_flush (fun n h => (outsAt0 m c n h).2) 4
    (fun _ => 0) (term m c) (first m c) (next m c) t h3 y, zero_add, add_comm]
  pointwise [spec]
  refine congrArg₂ (α := EReal) (β := EReal) (· + ·) ?_ (Fin.sum_mul_add_congr fun s k hl => ?_)
  · blk_point [iblk, V, idx t]
  · blk_point [iblk, V, idx t, idx ⟨_, Pipeline.run_point_lt_of_flush t h3 s⟩]

/-- The kernel and the reference leave the same result. -/
theorem algebraic : Cert.algebraic_Kernel7Ideal_Reference7Ideal := by
  pair_intro
  · run_from Cert.Kernel7Ideal.Value.run_blocks m g
  · run_from Cert.Reference7Ideal.Value.run m' g'
    rw [final m c]

end Cert.Proof.MlpDown

end
-- ==== Proof.ProjIn.lean ====
/- Hand-written, untrusted: THE FIRST PROJECTION (`Kernel8`). Its weight is stored as four stacked pieces of 896 columns each;
   the kernel takes one piece for every block of the result, the reference lays the pieces side by side and takes one product. -/
module

public import proofs.«01_k».proof.Proof.Gen.Kernel8Ideal.Value
public import proofs.«01_k».proof.Proof.Gen.Reference8Ideal.Run
public import Idealize.ShloMosaic.Lib.Pipeline.ValueKit
public import Idealize.ShloMosaic.Lib.Claim
public import proofs.«01_k».proof.Defs

@[expose] public section

set_option maxRecDepth 16384

noncomputable section

namespace Cert.Proof.ProjIn

open Cert.Kernel8Ideal Cert.Kernel8Ideal.Gen
open Idealize.ShloMosaic Idealize.ShloMosaic.TcCoe Idealize.SL.Sem
open Idealize.ShloMosaic.Pipeline (Dat)

variable (m : (ℓ : Loc nD τ sig) → Buf (Elt Ideal) ℓ)

/-- The reference's result as a function of its arguments. -/
abbrev spec (xn : FVec Ideal S2048x2048 .bf16) (w : FVec Ideal S4x2048x896 .bf16) : FVec Ideal S2048x3584 .f32 :=
  Host.dotGeneral Cert.Reference8Ideal.dot_S2048x2048_S2048x3584_S2048x3584_1_0_0_1_n_n none (extf .f32 xn Cert.Reference8Ideal.Gen.bitsLt_bf16_f32)
    (shapeCast Cert.Reference8Ideal.S2048x3584
      (transpose Cert.Reference8Ideal.S2048x4x896 [1, 0, 2] (extf .f32 w Cert.Reference8Ideal.Gen.bitsLt_bf16_f32) Cert.Reference8Ideal.Gen.transposes_S4x2048x896_S2048x4x896_1_0_2)
      Cert.Reference8Ideal.Gen.shapeCasts_S2048x4x896_S2048x3584)

/-- Every window's block at every point. -/
theorem idx : ∀ t : Fin cfg0.N, win0_0.index t = ![t.val / 4, 0] ∧ win0_1.index t = ![t.val % 4, 0, 0]
    ∧ win0_2.index t = ![t.val / 4, t.val % 4] :=
  (by decide +kernel : ∀ t : Fin grid0.N, _)

/-- What a point stores at an index of its block is the reference's result at that index's place. -/
theorem point (c : Dev nD) (t : Fin cfg0.N) (y) : k0_pay1 (F := Ideal) (iblk m c 0 t) (iblk m c 1 t) y
    = spec (m ((c : Thread nD τ).loc main_arg0)) (m ((c : Thread nD τ).loc main_arg1)) (((cfg0.win 2).blk t).view.emb y) := by
  pointwise [k0_pay1, spec]
  refine Finset.sum_congr rfl fun k _ => ?_
  blk_point [iblk, V, idx t]

/-- The result array after the run. -/
theorem final (c : Dev nD) : (dats m 0 c).arrAt 2 (cfgs 0).N
    = spec (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  exact point m c t y

/-- The kernel and the reference leave the same result. -/
theorem algebraic : Cert.algebraic_Kernel8Ideal_Reference8Ideal := by
  pair_intro
  · run_from Cert.Kernel8Ideal.Value.run_blocks m g
  · run_from Cert.Reference8Ideal.Value.run m' g'
    rw [final m c]
    rfl

end Cert.Proof.ProjIn

end
-- ==== Proof.ProjInDw.lean ====
/- Hand-written, untrusted: THE GRADIENT OF THE FIRST PROJECTION's WEIGHT (`Kernel9`), written as four stacked pieces of 896
   columns each, as the weight lies. The reference takes one product of the whole arrays and cuts it into the four pieces. -/
module

public import proofs.«01_k».proof.Proof.Gen.Kernel9Ideal.Value
public import proofs.«01_k».proof.Proof.Gen.Reference9Ideal.Run
public import Idealize.ShloMosaic.Lib.Pipeline.ValueKit
public import Idealize.ShloMosaic.Lib.Claim
public import proofs.«01_k».proof.Defs

@[expose] public section

set_option maxRecDepth 16384

noncomputable section

namespace Cert.Proof.ProjInDw

open Cert.Kernel9Ideal Cert.Kernel9Ideal.Gen
open Idealize.ShloMosaic Idealize.ShloMosaic.TcCoe Idealize.SL.Sem
open Idealize.ShloMosaic.Pipeline (Dat)

variable (m : (ℓ : Loc nD τ sig) → Buf (Elt Ideal) ℓ)

/-- The reference's result as a function of its arguments. -/
abbrev spec (xn : FVec Ideal S2048x2048 .bf16) (d : FVec Ideal S2048x3584 .f32) : FVec Ideal S4x2048x896 .bf16 :=
  truncf .bf16 (transpose Cert.Reference9Ideal.S4x2048x896 [1, 0, 2]
    (shapeCast Cert.Reference9Ideal.S2048x4x896
      (transpose Cert.Reference9Ideal.S2048x3584 [1, 0]
        (Host.dotGeneral Cert.Reference9Ideal.dot_S2048x3584_S2048x2048_S3584x2048_0_0_1_1_n_n none d (extf .f32 xn Cert.Reference9Ideal.Gen.bitsLt_bf16_f32))
        Cert.Reference9Ideal.Gen.transposes_S3584x2048_S2048x3584_1_0)
      Cert.Reference9Ideal.Gen.shapeCasts_S2048x3584_S2048x4x896)
    Cert.Reference9Ideal.Gen.transposes_S2048x4x896_S4x2048x896_1_0_2) Cert.Reference9Ideal.Gen.bitsLt_bf16_f32

/-- Every window's block at every point. -/
theorem idx : ∀ t : Fin cfg0.N, win0_0.index t = ![0, t.val / 4] ∧ win0_1.index t = ![0, t.val % 4]
    ∧ win0_2.index t = ![t.val % 4, t.val / 4, 0] :=
  (by decide +kernel : ∀ t : Fin grid0.N, _)

/-- What a point stores at an index of its block is the reference's result at that index's place. -/
theorem point (c : Dev nD) (t : Fin cfg0.N) (y) : k0_pay1 (F := Ideal) (iblk m c 0 t) (iblk m c 1 t) y
    = spec (m ((c : Thread nD τ).loc main_arg0)) (m ((c : Thread nD τ).loc main_arg1)) (((cfg0.win 2).blk t).view.emb y) := by
  pointwise [k0_pay1, spec]
  refine Finset.sum_congr rfl fun k _ => ?_
  rw [mul_comm]
  blk_point [iblk, V, idx t]

/-- The result array after the run. -/
theorem final (c : Dev nD) : (dats m 0 c).arrAt 2 (cfgs 0).N
    = spec (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  exact point m c t y

/-- The kernel and the reference leave the same result. -/
theorem algebraic : Cert.algebraic_Kernel9Ideal_Reference9Ideal := by
  pair_intro
  · run_from Cert.Kernel9Ideal.Value.run_blocks m g
  · run_from Cert.Reference9Ideal.Value.run m' g'
    rw [final m c]

end Cert.Proof.ProjInDw

end
-- ==== Proof.ProjInDx.lean ====
/- Hand-written, untrusted: THE GRADIENT AT THE FIRST PROJECTION's INPUT (`Kernel10`). The weight is stored as four stacked pieces
   of 896 columns each. For every block of 1024 by 1024 of the result the kernel takes four grid points, one for each piece, and
   adds up the four products; the last of the four writes the sum out. The reference lays the pieces side by side and takes one
   product. At `Ideal` both are the sum over all 3584 columns. -/
module

public import proofs.«01_k».proof.Proof.Gen.Kernel10Ideal.Value
public import proofs.«01_k».proof.Proof.Gen.Reference10Ideal.Run
public import Idealize.ShloMosaic.Lib.Pipeline.ValueKit
public import Idealize.ShloMosaic.Lib.Claim
public import proofs.«01_k».proof.Defs

@[expose] public section

set_option maxRecDepth 16384

noncomputable section

namespace Cert.Proof.ProjInDx

open Cert.Kernel10Ideal Cert.Kernel10Ideal.Gen
open Idealize.ShloMosaic Idealize.ShloMosaic.TcCoe Idealize.SL.Sem
open Idealize.ShloMosaic.Pipeline (Dat)

variable (m : (ℓ : Loc nD τ sig) → Buf (Elt Ideal) ℓ)

/-- The reference's result as a function of its two arguments. -/
abbrev spec (d : FVec Ideal S2048x3584 .f32) (w : FVec Ideal S4x2048x896 .bf16) : FVec Ideal S2048x2048 .f32 :=
  Host.dotGeneral Cert.Reference10Ideal.dot_S2048x3584_S2048x3584_S2048x2048_1_1_0_0_n_n none d
    (shapeCast Cert.Reference10Ideal.S2048x3584
      (transpose Cert.Reference10Ideal.S2048x4x896 [1, 0, 2] (extf .f32 w Cert.Reference10Ideal.Gen.bitsLt_bf16_f32) Cert.Reference10Ideal.Gen.transposes_S4x2048x896_S2048x4x896_1_0_2)
      Cert.Reference10Ideal.Gen.shapeCasts_S2048x4x896_S2048x3584)

/-- Every window's block at every point. -/
theorem idx : ∀ t : Fin cfg0.N, win0_0.index t = ![t.val / 8, t.val % 4] ∧ win0_1.index t = ![t.val % 4, t.val / 4 % 2, 0]
    ∧ win0_2.index t = ![t.val / 8, t.val / 4 % 2] :=
  (by decide +kernel : ∀ t : Fin grid0.N, _)

/-- The product of one point, at an index of the block. -/
abbrev term (c : Dev nD) (t : Fin cfg0.N) (y : S1024x1024.Idx) : EReal :=
  ∑ k : Fin 896, (show FVec Ideal S1024x896 .f32 from iblk m c 0 t) (ix2 (y 0) k) *
    (show FVec Ideal S1x1024x896 .bf16 from iblk m c 1 t) (ix3 0 (y 1) k)

theorem pay2_eq (c : Dev nD) (t : Fin cfg0.N) (y) : k0_pay2 (iblk m c 0 t) (iblk m c 1 t) y = 0 + term m c t y := by
  rw [zero_add]
  pointwise [k0_pay2, k0_pay1]

theorem pay3_eq (c : Dev nD) (t : Fin cfg0.N) (old) (y) :
    k0_pay3 (iblk m c 0 t) (iblk m c 1 t) old y = old y + term m c t y := by
  pointwise [k0_pay3, k0_pay1]

/-- A point that starts a block leaves its own product in the scratch. -/
theorem first (c : Dev nD) (t : Fin cfg0.N) (h : t.val % 4 = 0) (y : S1024x1024.Idx) :
    (outsAt0 m c t.val t.isLt).2 y = 0 + term m c t y := by
  rw [outsAt0_A m c t h (by omega) (by omega)]
  frame_out
  exact pay2_eq m c t y

/-- Every other point adds its own product. -/
theorem next (c : Dev nD) (t : Fin cfg0.N) (h : ¬t.val % 4 = 0) (y : S1024x1024.Idx) :
    (outsAt0 m c t.val t.isLt).2 y
      = (outsAt0 m c (t.val - 1) (Nat.lt_of_le_of_lt (Nat.sub_le _ _) t.isLt)).2 y + term m c t y := by
  by_cases h3 : t.val % 4 = 3
  · rw [outsAt0_C m c t h (by omega) h3]
    frame_out
    erw [Memref.IsWhole.read_unread]
    exact pay3_eq m c t _ y
  · rw [outsAt0_B m c t h (by omega) h3]
    frame_out
    erw [Memref.IsWhole.read_unread]
    exact pay3_eq m c t _ y

/-- The last point of a block writes out what it leaves in the scratch. -/
theorem last (c : Dev nD) (t : Fin cfg0.N) (h : t.val % 4 = 3) (y : S1024x1024.Idx) :
    (outsAt0 m c t.val t.isLt).1 y = (outsAt0 m c t.val t.isLt).2 y := by
  rw [outsAt0_C m c t (by omega) (by omega) h]
  frame_out

/-- The result array after the run. -/
theorem final (c : Dev nD) : (dats m 0 c).arrAt 2 (cfgs 0).N
    = spec (m ((c : Thread nD τ).loc main_arg0)) (m ((c : Thread nD τ).loc main_arg1)) := by
  refine (dats m 0 c).arrAt_eq_of_covers 2 _ (by decide +kernel) fun t hf y => ?_
  blk_simp
  have h3 := (flush0_2 t).mp hf
  rw [after0_2, last m c t h3, Pipeline.eq_sum_fin_of_reset_step_apply_of_flush (fun n h => (outsAt0 m c n h).2) 4
    (fun _ => 0) (term m c) (first m c) (next m c) t h3 y, zero_add]
  pointwise [spec]
  refine Fin.sum_mul_add_congr fun s k hl => ?_
  blk_point [iblk, V, idx t, idx ⟨_, Pipeline.run_point_lt_of_flush t h3 s⟩]

/-- The kernel and the reference leave the same result. -/
theorem algebraic : Cert.algebraic_Kernel10Ideal_Reference10Ideal := by
  pair_intro
  · run_from Cert.Kernel10Ideal.Value.run_blocks m g
  · run_from Cert.Reference10Ideal.Value.run m' g'
    rw [final m c]
    rfl

end Cert.Proof.ProjInDx

end
-- ==== Proof.ProjOut.lean ====
/- Hand-written, untrusted: THE PROJECTION OF THE MIXERS' RESULT (`Kernel11`), added to the array that passes by the mixers, in
   blocks of 1024 by 1024. -/
module

public import proofs.«01_k».proof.Proof.Gen.Kernel11Ideal.Value
public import proofs.«01_k».proof.Proof.Gen.Reference11Ideal.Run
public import Idealize.ShloMosaic.Lib.Pipeline.ValueKit
public import Idealize.ShloMosaic.Lib.Claim
public import proofs.«01_k».proof.Defs

@[expose] public section

set_option maxRecDepth 16384

noncomputable section

namespace Cert.Proof.ProjOut

open Cert.Kernel11Ideal Cert.Kernel11Ideal.Gen
open Idealize.ShloMosaic Idealize.ShloMosaic.TcCoe Idealize.SL.Sem
open Idealize.ShloMosaic.Pipeline (Dat)

variable (m : (ℓ : Loc nD τ sig) → Buf (Elt Ideal) ℓ)

/-- The reference's result as a function of its arguments. -/
abbrev spec (yn w : FVec Ideal S2048x2048 .bf16) (h : FVec Ideal S2048x2048 .f32) : FVec Ideal S2048x2048 .f32 :=
  addf h (Host.dotGeneral Cert.Reference11Ideal.dot_S2048x2048_S2048x2048_S2048x2048_1_0_0_1_n_n none (extf .f32 yn Cert.Reference11Ideal.Gen.bitsLt_bf16_f32)
    (extf .f32 w Cert.Reference11Ideal.Gen.bitsLt_bf16_f32))

/-- Every window's block at every point. -/
theorem idx : ∀ t : Fin cfg0.N, win0_0.index t = ![t.val / 2, 0] ∧ win0_1.index t = ![0, t.val % 2]
    ∧ win0_2.index t = ![t.val / 2, t.val % 2] ∧ win0_3.index t = ![t.val / 2, t.val % 2] :=
  (by decide +kernel : ∀ t : Fin grid0.N, _)

/-- What a point stores at an index of its block is the reference's result at that index's place. -/
theorem point (c : Dev nD) (t : Fin cfg0.N) (y) : k0_pay1 (F := Ideal) (iblk m c 0 t) (iblk m c 1 t) (iblk m c 2 t) y
    = spec (m ((c : Thread nD τ).loc main_arg0)) (m ((c : Thread nD τ).loc main_arg1)) (m ((c : Thread nD τ).loc main_arg2)) (((cfg0.win 3).blk t).view.emb y) := by
  pointwise [k0_pay1, spec]
  rw [add_comm]
  refine congrArg₂ (α := EReal) (β := EReal) (· + ·) ?_ (Finset.sum_congr rfl fun k _ => ?_)
  · blk_point [iblk, V, idx t]
  · blk_point [iblk, V, idx t]

/-- The result array after the run. -/
theorem final (c : Dev nD) : (dats m 0 c).arrAt 3 (cfgs 0).N
    = spec (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  unfold outsAt0
  frame_out
  exact point m c t y

/-- The kernel and the reference leave the same result. -/
theorem algebraic : Cert.algebraic_Kernel11Ideal_Reference11Ideal := by
  pair_intro
  · run_from Cert.Kernel11Ideal.Value.run_blocks m g
  · run_from Cert.Reference11Ideal.Value.run m' g'
    rw [final m c]

end Cert.Proof.ProjOut

end
-- ==== Proof.ProjOutDx.lean ====
/- Hand-written, untrusted: THE GRADIENT AT THE INPUT OF THE MIXERS' LAST PROJECTION (`Kernel12`), in blocks of 1024 by 1024. -/
module

public import proofs.«01_k».proof.Proof.Gen.Kernel12Ideal.Value
public import proofs.«01_k».proof.Proof.Gen.Reference12Ideal.Run
public import Idealize.ShloMosaic.Lib.Pipeline.ValueKit
public import Idealize.ShloMosaic.Lib.Claim
public import proofs.«01_k».proof.Defs

@[expose] public section

set_option maxRecDepth 16384

noncomputable section

namespace Cert.Proof.ProjOutDx

open Cert.Kernel12Ideal Cert.Kernel12Ideal.Gen
open Idealize.ShloMosaic Idealize.ShloMosaic.TcCoe Idealize.SL.Sem
open Idealize.ShloMosaic.Pipeline (Dat)

variable (m : (ℓ : Loc nD τ sig) → Buf (Elt Ideal) ℓ)

/-- The reference's result as a function of its arguments. -/
abbrev spec (d : FVec Ideal S2048x2048 .f32) (w : FVec Ideal S2048x2048 .bf16) : FVec Ideal S2048x2048 .f32 :=
  Host.dotGeneral Cert.Reference12Ideal.dot_S2048x2048_S2048x2048_S2048x2048_1_1_0_0_n_n none d (extf .f32 w Cert.Reference12Ideal.Gen.bitsLt_bf16_f32)

/-- Every window's block at every point. -/
theorem idx : ∀ t : Fin cfg0.N, win0_0.index t = ![t.val / 2, 0] ∧ win0_1.index t = ![t.val % 2, 0]
    ∧ win0_2.index t = ![t.val / 2, t.val % 2] :=
  (by decide +kernel : ∀ t : Fin grid0.N, _)

/-- What a point stores at an index of its block is the reference's result at that index's place. -/
theorem point (c : Dev nD) (t : Fin cfg0.N) (y) : k0_pay1 (F := Ideal) (iblk m c 0 t) (iblk m c 1 t) y
    = spec (m ((c : Thread nD τ).loc main_arg0)) (m ((c : Thread nD τ).loc main_arg1)) (((cfg0.win 2).blk t).view.emb y) := by
  pointwise [k0_pay1, spec]
  refine Finset.sum_congr rfl fun k _ => ?_
  blk_point [iblk, V, idx t]

/-- The result array after the run. -/
theorem final (c : Dev nD) : (dats m 0 c).arrAt 2 (cfgs 0).N
    = spec (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  exact point m c t y

/-- The kernel and the reference leave the same result. -/
theorem algebraic : Cert.algebraic_Kernel12Ideal_Reference12Ideal := by
  pair_intro
  · run_from Cert.Kernel12Ideal.Value.run_blocks m g
  · run_from Cert.Reference12Ideal.Value.run m' g'
    rw [final m c]
    rfl

end Cert.Proof.ProjOutDx

end
-- ==== Proof.ProjOutDw.lean ====
/- Hand-written, untrusted: THE GRADIENT OF THE WEIGHT OF THE MIXERS' LAST PROJECTION (`Kernel13`), in blocks of 1024 by 1024. -/
module

public import proofs.«01_k».proof.Proof.Gen.Kernel13Ideal.Value
public import proofs.«01_k».proof.Proof.Gen.Reference13Ideal.Run
public import Idealize.ShloMosaic.Lib.Pipeline.ValueKit
public import Idealize.ShloMosaic.Lib.Claim
public import proofs.«01_k».proof.Defs

@[expose] public section

set_option maxRecDepth 16384

noncomputable section

namespace Cert.Proof.ProjOutDw

open Cert.Kernel13Ideal Cert.Kernel13Ideal.Gen
open Idealize.ShloMosaic Idealize.ShloMosaic.TcCoe Idealize.SL.Sem
open Idealize.ShloMosaic.Pipeline (Dat)

variable (m : (ℓ : Loc nD τ sig) → Buf (Elt Ideal) ℓ)

/-- The reference's result as a function of its arguments. -/
abbrev spec (yn : FVec Ideal S2048x2048 .bf16) (d : FVec Ideal S2048x2048 .f32) : FVec Ideal S2048x2048 .bf16 :=
  truncf .bf16 (transpose Cert.Reference13Ideal.S2048x2048 [1, 0]
    (Host.dotGeneral Cert.Reference13Ideal.dot_S2048x2048_S2048x2048_S2048x2048_0_0_1_1_n_n none d (extf .f32 yn Cert.Reference13Ideal.Gen.bitsLt_bf16_f32))
    Cert.Reference13Ideal.Gen.transposes_S2048x2048_S2048x2048_1_0) Cert.Reference13Ideal.Gen.bitsLt_bf16_f32

/-- Every window's block at every point. -/
theorem idx : ∀ t : Fin cfg0.N, win0_0.index t = ![0, t.val / 2] ∧ win0_1.index t = ![0, t.val % 2]
    ∧ win0_2.index t = ![t.val / 2, t.val % 2] :=
  (by decide +kernel : ∀ t : Fin grid0.N, _)

/-- What a point stores at an index of its block is the reference's result at that index's place. -/
theorem point (c : Dev nD) (t : Fin cfg0.N) (y) : k0_pay1 (F := Ideal) (iblk m c 0 t) (iblk m c 1 t) y
    = spec (m ((c : Thread nD τ).loc main_arg0)) (m ((c : Thread nD τ).loc main_arg1)) (((cfg0.win 2).blk t).view.emb y) := by
  pointwise [k0_pay1, spec]
  refine Finset.sum_congr rfl fun k _ => ?_
  rw [mul_comm]
  blk_point [iblk, V, idx t]

/-- The result array after the run. -/
theorem final (c : Dev nD) : (dats m 0 c).arrAt 2 (cfgs 0).N
    = spec (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  exact point m c t y

/-- The kernel and the reference leave the same result. -/
theorem algebraic : Cert.algebraic_Kernel13Ideal_Reference13Ideal := by
  pair_intro
  · run_from Cert.Kernel13Ideal.Value.run_blocks m g
  · run_from Cert.Reference13Ideal.Value.run m' g'
    rw [final m c]

end Cert.Proof.ProjOutDw

end
-- ==== Proof.NormRow.lean ====
/- Hand-written, untrusted: ONE ROW OF A ROOT-MEAN-SQUARE NORM AND ITS GRADIENT, over the extended reals. `inv` is the inverse root
   of a row's mean square, `grad` the gradient of the row as the kernel computes it from the gradient `d` of the normed row, and
   `gradChain` the same gradient as the chain rule gives it, through the product, the mean square and the inverse root. They agree
   for every row and every `d`, infinities too (`gradChain_eq`): a row with an infinity has the inverse root 0 and the gradient 0. -/
module

public import Idealize.ShloMosaic.PureOps.Ideal
public import Mathlib.Data.EReal.Inv
public import proofs.«01_k».proof.Proof.SoftmaxRow

@[expose] public section

noncomputable section

namespace Cert.Proof.NormRow

open Idealize.ShloMosaic

variable {n : ℕ} (N : EReal) (x d : Fin n → EReal)

/-- The small number under the root. -/
abbrev eps : EReal := Ideal.ofBits .f32 0x358637BD#32

/-- Minus one half. -/
abbrev mhalf : EReal := Ideal.ofBits .f32 0xBF000000#32

/-- The mean square of a row, and the small number. -/
def msq : EReal := Ideal.div (∑ k, x k * x k) N + eps

/-- The inverse root of the mean square. -/
def inv : EReal := Ideal.rsqrt (msq N x)

/-- The gradient of the row, as the kernel computes it. -/
def grad (j : Fin n) : EReal := inv N x * (d j - x j * inv N x * Ideal.div (∑ k, d k * (x k * inv N x)) N)

/-- The gradient of the mean square, with the factor 1/n of the mean. -/
def dmsq : EReal := Ideal.div ((∑ k, x k * d k) * (mhalf * Ideal.div (inv N x) (msq N x))) N

/-- The gradient of the row by the chain rule: the square is a product, so its gradient comes twice. -/
def gradChain (j : Fin n) : EReal := d j * inv N x + (x j * dmsq N x d + dmsq N x d * x j)

theorem eps_pos : ∃ e : ℝ, 0 < e ∧ eps = e := by
  refine ⟨8796093 * 2 ^ (-43 : ℤ), by positivity, ?_⟩
  simp [eps, Ideal.ofBits, Ideal.ieee, -EReal.coe_mul]
  try norm_num

theorem mhalf_eq : mhalf = ((-(1 / 2) : ℝ) : EReal) := by
  simp [mhalf, Ideal.ofBits, Ideal.ieee, -EReal.coe_mul]
  norm_num

/-- A square is not negative. -/
theorem mul_self_nonneg (a : EReal) : 0 ≤ a * a := by
  induction a using EReal.rec with
  | coe r => rw [← EReal.coe_mul]; exact EReal.coe_nonneg.mpr (_root_.mul_self_nonneg r)
  | bot => simp
  | top => simp

variable {N}

/-- The mean square is plus infinity or a positive real number. -/
theorem msq_cases (c : ℝ) (hc : 0 < c) (hN : N = c) : msq N x = ⊤ ∨ ∃ r : ℝ, 0 < r ∧ msq N x = r := by
  obtain ⟨e, he, hee⟩ := eps_pos
  have h0 : (0 : EReal) ≤ Ideal.div (∑ k, x k * x k) N := by
    rw [hN, Ideal.div_coe hc.ne']
    exact mul_nonneg (Finset.sum_nonneg fun k _ => mul_self_nonneg (x k)) (EReal.coe_nonneg.mpr (by positivity))
  unfold msq
  rw [hee]
  generalize Ideal.div (∑ k, x k * x k) N = a at h0
  induction a using EReal.rec with
  | coe r =>
    right
    have : 0 ≤ r := EReal.coe_nonneg.mp h0
    exact ⟨r + e, by linarith, (EReal.coe_add r e).symm⟩
  | bot => exact absurd h0 (by simp)
  | top => left; simp

/-- The two gradients agree. -/
theorem gradChain_eq (c : ℝ) (hc : 0 < c) (hN : N = c) (j : Fin n) : gradChain N x d j = grad N x d j := by
  rcases msq_cases x c hc hN with h | ⟨r, hr, h⟩
  · have hi : inv N x = 0 := by rw [inv, h, Ideal.rsqrt_top]
    have hd : dmsq N x d = 0 := by
      have : Ideal.div (0 : EReal) ⊤ = 0 := by simp [Ideal.div]
      rw [dmsq, hi, h, this, mul_zero, mul_zero, hN, Ideal.div_coe hc.ne', zero_mul]
    simp [gradChain, grad, hi, hd]
  · have hs : inv N x = ((Real.sqrt r)⁻¹ : ℝ) := by
      rw [inv, h, Ideal.rsqrt_coe, if_neg (not_lt.mpr hr.le), if_neg hr.ne']
    have hsq : (Real.sqrt r)⁻¹ * (Real.sqrt r)⁻¹ = 1 / r := by
      rw [← mul_inv, Real.mul_self_sqrt hr.le, one_div]
    have hs0 : 0 ≤ (Real.sqrt r)⁻¹ := inv_nonneg.mpr (Real.sqrt_nonneg r)
    generalize (Real.sqrt r)⁻¹ = s at hs hsq hs0
    have hsum : ∑ k, d k * (x k * (s : EReal)) = s * ∑ k, x k * d k := by
      rw [← SoftmaxRow.mul_sum s hs0]
      exact Finset.sum_congr rfl fun k _ => by rw [mul_comm (s : EReal), mul_left_comm, mul_assoc]
    have hT : dmsq N x d = (s * (s * s) * (1 / c) * (1 / 2) : ℝ) * -∑ k, x k * d k := by
      rw [dmsq, h, hs, hN, Ideal.div_coe hr.ne', Ideal.div_coe hc.ne', mhalf_eq, hsq, ← EReal.coe_mul, ← EReal.coe_mul,
        mul_assoc, ← EReal.coe_mul, mul_neg, ← neg_mul, ← EReal.coe_neg, mul_comm]
      congr 2
      ring
    have ht0 : 0 ≤ s * (s * s) * (1 / c) * (1 / 2) := by positivity
    rw [gradChain, grad, hT, hs, hsum, hN, Ideal.div_coe hc.ne']
    generalize (∑ k, x k * d k) = S
    rw [sub_eq_add_neg, EReal.left_distrib_of_nonneg_of_ne_top (EReal.coe_nonneg.mpr hs0) (EReal.coe_ne_top s), mul_comm (d j)]
    congr 1
    have e1 : x j * (((s * (s * s) * (1 / c) * (1 / 2) : ℝ) : EReal) * -S) = ((s * (s * s) * (1 / c) * (1 / 2) : ℝ) : EReal) * -(x j * S) := by
      rw [mul_left_comm, mul_neg]
    rw [mul_comm _ (x j), e1, ← EReal.right_distrib_of_nonneg (EReal.coe_nonneg.mpr ht0) (EReal.coe_nonneg.mpr ht0), ← EReal.coe_add, mul_neg, mul_neg]
    congr 1
    have e2 : s * (s * s) * (1 / c) * (1 / 2) + s * (s * s) * (1 / c) * (1 / 2) = s * (s * (s * (1 / c))) := by ring
    rw [e2, EReal.coe_mul, EReal.coe_mul, EReal.coe_mul, mul_assoc, mul_assoc, mul_assoc]
    congr 1
    rw [mul_comm (s : EReal) S, mul_comm (x j) S]
    simp only [mul_assoc, mul_comm, mul_left_comm]

end Cert.Proof.NormRow

end
-- ==== Proof.NormBwd.lean ====
/- Hand-written, untrusted: THE GRADIENT OF A NORM AND OF THE PASSING ARRAY (`Kernel14`), kernel against reference. The eight grid
   points take 256 rows each. A point writes its rows of the first result, and adds its part of the gain's gradient to the second,
   which the first point sets to zero. -/
module

public import proofs.«01_k».proof.Proof.Gen.Kernel14Ideal.Value
public import proofs.«01_k».proof.Proof.Gen.Reference14Ideal.Run
public import Idealize.ShloMosaic.Lib.Pipeline.ValueKit
public import Idealize.ShloMosaic.Lib.Claim
public import proofs.«01_k».proof.Proof.NormRow
public import proofs.«01_k».proof.Defs

@[expose] public section

set_option maxRecDepth 16384

noncomputable section

namespace Cert.Proof.NormBwd

open Idealize.ShloMosaic Idealize.ShloMosaic.TcCoe Idealize.SL.Sem
open Idealize.ShloMosaic.Pipeline (Dat)

/-- The length of a row. -/
abbrev len : EReal := Ideal.ofBits .f32 0x45000000#32

theorem len_eq : len = ((2048 : ℝ) : EReal) := by
  simp [len, Ideal.ofBits, Ideal.ieee, -EReal.coe_mul]; norm_num

section Kernel

open Cert.Kernel14Ideal Cert.Kernel14Ideal.Gen

section Blocks

variable (x dy dres : FVec Ideal S256x2048 .f32) (g : FVec Ideal S1x2048 .f32)

theorem pay1_apply (y) : k0_pay1 (F := Ideal) x y = NormRow.inv len fun k => x (ix2 (y 0) k) := by
  pointwise [k0_pay1]
  rfl

theorem pay2_apply (y) : k0_pay2 (F := Ideal) x y = x y * NormRow.inv len fun k => x (ix2 (y 0) k) := by
  pointwise [k0_pay2]
  rw [pay1_apply]
  rfl

theorem pay3_apply (i j) : k0_pay3 (F := Ideal) x dy g dres (ix2 i j)
    = NormRow.grad len (fun k => x (ix2 i k)) (fun k => dy (ix2 i k) * g (ix2 0 k)) j + dres (ix2 i j) := by
  pointwise [k0_pay3]
  simp only [pay1_apply, pay2_apply]
  unfold NormRow.grad
  rfl

theorem pay5_apply (old : FVec Ideal S1x2048 .f32) (z j) : k0_pay5 (F := Ideal) x dy old (ix2 z j)
    = old (ix2 z j) + ∑ i : Fin 256, dy (ix2 i j) * (x (ix2 i j) * NormRow.inv len fun k => x (ix2 i k)) := by
  pointwise [k0_pay5]
  simp only [pay2_apply]
  rfl

theorem pay4_apply (y) : k0_pay4 (F := Ideal) y = (0 : EReal) := by
  pointwise [k0_pay4]

end Blocks

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] :=
  (by decide +kernel : ∀ t : Fin grid0.N, _)

abbrev argX (c : Dev nD) : FVec Ideal S2048x2048 .f32 := m ((c : Thread nD τ).loc main_arg0)
abbrev argG (c : Dev nD) : FVec Ideal S1x2048 .f32 := m ((c : Thread nD τ).loc main_arg1)
abbrev argY (c : Dev nD) : FVec Ideal S2048x2048 .f32 := m ((c : Thread nD τ).loc main_arg2)
abbrev argR (c : Dev nD) : FVec Ideal S2048x2048 .f32 := m ((c : Thread nD τ).loc main_arg3)

end Kernel

/-- The two results, by rows. -/
abbrev Sq : Shape := ⟨2, ![2048, 2048]⟩
abbrev Ln : Shape := ⟨2, ![1, 2048]⟩

/-- The gradient of the array, with that of the passing one. -/
def dx (x : Sq.Idx → EReal) (g : Ln.Idx → EReal) (dy dres : Sq.Idx → EReal) (y : Sq.Idx) : EReal :=
  NormRow.grad len (fun k : Fin 2048 => x (ix2 (y 0) k)) (fun k => dy (ix2 (y 0) k) * g (ix2 0 k)) (y 1) + dres y

/-- The gradient of the gain. -/
def dg (x dy : Sq.Idx → EReal) (y : Ln.Idx) : EReal :=
  ∑ i : Fin 2048, dy (ix2 i (y 1)) * (x (ix2 i (y 1)) * NormRow.inv len fun k : Fin 2048 => x (ix2 i k))

section Kernel

open Cert.Kernel14Ideal Cert.Kernel14Ideal.Gen

variable (m : (ℓ : Loc nD τ sig) → Buf (Elt Ideal) ℓ)

/-- The row of the array that a row of a point's block is. -/
abbrev rw_ (t : Fin cfg0.N) (i : Fin 256) : Fin 2048 := ⟨t.val * 256 + i.val, by have : t.val < 8 := t.isLt; omega⟩

abbrev blkX (c : Dev nD) (t : Fin cfg0.N) : FVec Ideal S256x2048 .f32 := iblk m c 0 t
abbrev blkG (c : Dev nD) (t : Fin cfg0.N) : FVec Ideal S1x2048 .f32 := iblk m c 1 t
abbrev blkY (c : Dev nD) (t : Fin cfg0.N) : FVec Ideal S256x2048 .f32 := iblk m c 2 t
abbrev blkR (c : Dev nD) (t : Fin cfg0.N) : FVec Ideal S256x2048 .f32 := iblk m c 3 t

theorem blkX_apply (c : Dev nD) (t : Fin cfg0.N) (i k) : blkX m c t (ix2 i k) = argX m c (ix2 (rw_ t i) k) := by
  blk_point [iblk, V, idx t]

theorem blkG_apply (c : Dev nD) (t : Fin cfg0.N) (k) : blkG m c t (ix2 0 k) = argG m c (ix2 0 k) := by
  blk_point [iblk, V, idx t]

theorem blkY_apply (c : Dev nD) (t : Fin cfg0.N) (i k) : blkY m c t (ix2 i k) = argY m c (ix2 (rw_ t i) k) := by
  blk_point [iblk, V, idx t]

theorem blkR_apply (c : Dev nD) (t : Fin cfg0.N) (i k) : blkR m c t (ix2 i k) = argR m c (ix2 (rw_ t i) k) := by
  blk_point [iblk, V, idx t]

theorem keyX (c : Dev nD) (t : Fin cfg0.N) (y : S256x2048.Idx) :
    k0_pay3 (F := Ideal) (blkX m c t) (blkY m c t) (blkG m c t) (blkR m c t) y
      = dx (argX m c) (argG m c) (argY m c) (argR m c) (ix2 (rw_ t (y 0)) (y 1)) := by
  obtain ⟨i, j, rfl⟩ : ∃ i j, y = ix2 i j := ⟨y 0, y 1, (ix2_eta y).symm⟩
  rw [pay3_apply]
  simp only [blkX_apply, blkY_apply, blkG_apply, blkR_apply]
  rfl

abbrev termG (c : Dev nD) (t : Fin cfg0.N) (y : S1x2048.Idx) : EReal :=
  ∑ i : Fin 256, argY m c (ix2 (rw_ t i) (y 1)) * (argX m c (ix2 (rw_ t i) (y 1)) * NormRow.inv len fun k : Fin 2048 => argX m c (ix2 (rw_ t i) k))

theorem keyG (c : Dev nD) (t : Fin cfg0.N) (old) (y) :
    k0_pay5 (F := Ideal) (blkX m c t) (blkY m c t) old y = old y + termG m c t y := by
  obtain ⟨i, j, rfl⟩ : ∃ i j, y = ix2 i j := ⟨y 0, y 1, (ix2_eta y).symm⟩
  rw [pay5_apply]
  simp only [blkX_apply, blkY_apply]
  rfl

theorem pointX (c : Dev nD) (t : Fin cfg0.N) (y : S256x2048.Idx) : (outsAt0 m c t.val t.isLt).1 y
    = dx (argX m c) (argG m c) (argY m c) (argR m c) (ix2 (rw_ t (y 0)) (y 1)) := by
  by_cases h : t.val % 8 = 0
  · rw [outsAt0_A m c t h]
    frame_out
    exact keyX m c t y
  · rw [outsAt0_B m c t h]
    frame_out
    exact keyX m c t y

theorem firstG (c : Dev nD) (t : Fin cfg0.N) (h : t.val % 8 = 0) (y : S1x2048.Idx) :
    (outsAt0 m c t.val t.isLt).2 y = 0 + termG m c t y := by
  rw [outsAt0_A m c t h]
  frame_out
  refine (keyG m c t _ y).trans ?_
  rw [pay4_apply]

theorem nextG (c : Dev nD) (t : Fin cfg0.N) (h : ¬t.val % 8 = 0) (y : S1x2048.Idx) :
    (outsAt0 m c t.val t.isLt).2 y
      = (outsAt0 m c (t.val - 1) (Nat.lt_of_le_of_lt (Nat.sub_le _ _) t.isLt)).2 y + termG m c t y := by
  rw [outsAt0_B m c t h]
  frame_out
  exact keyG m c t _ y

theorem emb4 (t : Fin cfg0.N) (y : S256x2048.Idx) : (win0_4.blk t).view.emb y = ix2 (rw_ t (y 0)) (y 1) := by
  blk_ext [idx t]

theorem emb5 (t : Fin cfg0.N) (y : S1x2048.Idx) : (win0_5.blk t).view.emb y = y := by
  blk_ext [idx t]

theorem finalX (c : Dev nD) : (dats m 0 c).arrAt 4 (cfgs 0).N = dx (argX m c) (argG m c) (argY m c) (argR m c) := by
  refine (dats m 0 c).arrAt_eq_of_covers 4 _ (by decide +kernel) fun t hf y => ?_
  blk_simp
  rw [after0_4, pointX m c t y]
  exact congrArg _ (emb4 t y).symm

theorem finalG (c : Dev nD) : (dats m 0 c).arrAt 5 (cfgs 0).N = dg (argX m c) (argY m c) := by
  refine (dats m 0 c).arrAt_eq_of_covers 5 _ (by decide +kernel) fun t hf y => ?_
  blk_simp
  have h3 := (flush0_5 t).mp hf
  rw [after0_5, Pipeline.eq_sum_fin_of_reset_step_apply_of_flush (fun n h => (outsAt0 m c n h).2) 8
    (fun _ => 0) (termG m c) (firstG m c) (nextG m c) t h3 y, zero_add]
  refine Eq.trans ?_ (congrArg (dg (argX m c) (argY m c)) (emb5 t y).symm)
  refine Fin.sum_mul_add_congr fun s k hl => ?_
  have e : rw_ ⟨_, Pipeline.run_point_lt_of_flush t h3 s⟩ k = ⟨s.val * 256 + k.val, hl⟩ :=
    Fin.ext (by show (8 * (t.val / 8) + s.val) * 256 + k.val = s.val * 256 + k.val; have : t.val < 8 := t.isLt; omega)
  rw [e]

end Kernel

section Reference

open Cert.Reference14Ideal Cert.Reference14Ideal.Gen

variable (x dy dres : FVec Ideal S2048x2048 .f32) (g : FVec Ideal S1x2048 .f32)

/-- The reference's mean square and small number, of every row. -/
def rmsq : FVec Ideal S2048x1 .f32 :=
  addf (Host.divf (broadcastInDim S2048x1 ![0] bcast_S2048_S2048x1_0 (Host.reduceAdd (mulf x x) (constant S_ .f32 0x00000000#32) reducesTo_S2048x2048_S2048_d1 h_S_))
    (broadcastInDim S2048x1 ![] bcast_S_S2048x1 (constant S_ .f32 0x45000000#32))) (broadcastInDim S2048x1 ![] bcast_S_S2048x1 (constant S_ .f32 0x358637BD#32))

/-- The gradient of the normed row. -/
def rdyg : FVec Ideal S2048x2048 .f32 := mulf dy (broadcastInDim S2048x2048 ![0, 1] bcast_S1x2048_S2048x2048_0_1 g)

/-- The gradient of the mean square, with the factor of the mean. -/
def rdmsq (z : FVec Ideal S2048x1 .f32) (d : FVec Ideal S2048x2048 .f32) : FVec Ideal S2048x2048 .f32 :=
  broadcastInDim S2048x2048 ![0] bcast_S2048_S2048x2048_0 (Host.reduceAdd (Host.divf (mulf (shapeCast _ (Host.reduceAdd (mulf x d)
    (constant S_ .f32 0x00000000#32) reducesTo_S2048x2048_S2048_d1 h_S_) shapeCasts_S2048_S2048x1)
    (mulf (broadcastInDim S2048x1 ![] bcast_S_S2048x1 (constant S_ .f32 0xBF000000#32)) (Host.divf (Host.rsqrt z) z)))
    (broadcastInDim S2048x1 ![] bcast_S_S2048x1 (constant S_ .f32 0x45000000#32))) (constant S_ .f32 0x00000000#32) reducesTo_S2048x1_S2048_d1 h_S_)

def rdx : FVec Ideal S2048x2048 .f32 :=
  addf (addf (addf dres (mulf (rdyg dy g) (broadcastInDim S2048x2048 ![0, 1] bcast_S2048x1_S2048x2048_0_1 (Host.rsqrt (rmsq x)))))
    (mulf x (rdmsq x (rmsq x) (rdyg dy g)))) (mulf (rdmsq x (rmsq x) (rdyg dy g)) x)

def rdg : FVec Ideal S1x2048 .f32 :=
  shapeCast _ (Host.reduceAdd (mulf (mulf x (broadcastInDim S2048x2048 ![0, 1] bcast_S2048x1_S2048x2048_0_1 (Host.rsqrt (rmsq x)))) dy)
    (constant S_ .f32 0x00000000#32) reducesTo_S2048x2048_S2048_d0 h_S_) shapeCasts_S2048_S1x2048

theorem rmsq_apply (y) : rmsq x y = NormRow.msq len fun k : Fin 2048 => x (ix2 (y 0) k) := by
  pointwise [rmsq]
  rfl

theorem rdyg_apply (i j) : rdyg dy g (ix2 i j) = dy (ix2 i j) * g (ix2 0 j) := by
  pointwise [rdyg]

theorem rdmsq_apply (i j) : rdmsq x (rmsq x) (rdyg dy g) (ix2 i j)
    = NormRow.dmsq len (fun k : Fin 2048 => x (ix2 i k)) (fun k => dy (ix2 i k) * g (ix2 0 k)) := by
  pointwise [rdmsq]
  simp only [rmsq_apply, rdyg_apply, Fin.sum_univ_one]
  rfl

theorem rdx_apply (i j) : rdx x dy dres g (ix2 i j)
    = dres (ix2 i j) + dy (ix2 i j) * g (ix2 0 j) * NormRow.inv len (fun k : Fin 2048 => x (ix2 i k))
      + x (ix2 i j) * NormRow.dmsq len (fun k : Fin 2048 => x (ix2 i k)) (fun k => dy (ix2 i k) * g (ix2 0 k))
      + NormRow.dmsq len (fun k : Fin 2048 => x (ix2 i k)) (fun k => dy (ix2 i k) * g (ix2 0 k)) * x (ix2 i j) := by
  pointwise [rdx]
  simp only [rmsq_apply, rdyg_apply, rdmsq_apply]
  rfl

theorem rdx_eq : rdx x dy dres g = dx x g dy dres := by
  funext y
  obtain ⟨i, j, rfl⟩ : ∃ i j, y = ix2 i j := ⟨y 0, y 1, (ix2_eta y).symm⟩
  have e := NormRow.gradChain_eq (fun k : Fin 2048 => x (ix2 i k)) (fun k => dy (ix2 i k) * g (ix2 0 k)) 2048 (by norm_num) len_eq j
  rw [rdx_apply]
  refine Eq.trans ?_ (congrArg (· + dres (ix2 i j)) e)
  unfold NormRow.gradChain
  rw [add_assoc, add_assoc, add_comm]

theorem rdg_eq : rdg x dy = dg x dy := by
  funext y
  pointwise [rdg]
  simp only [rmsq_apply]
  exact Finset.sum_congr rfl fun i _ => mul_comm _ _

variable (m : (ℓ : Loc nD τ sig) → Buf (Elt Ideal) ℓ) (ρ : Dev nD → PrngReg)

/-- The reference's run, its two results by their stages. -/
theorem run_stages : θ_run defs (onTc (τ := τ) (main (F := Ideal))) ⟨m, fun _ => 0, ρ⟩ fun r => ∀ c : Dev nD,
    r.2.mem ((c.tc : Thread nD τ).loc main_v34) = rdx (m ((c.tc : Thread nD τ).loc main_arg0)) (m ((c.tc : Thread nD τ).loc main_arg2))
        (m ((c.tc : Thread nD τ).loc main_arg3)) (m ((c.tc : Thread nD τ).loc main_arg1))
    ∧ r.2.mem ((c.tc : Thread nD τ).loc main_v17) = rdg (m ((c.tc : Thread nD τ).loc main_arg0)) (m ((c.tc : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  refine (θ_run _ _ _).mono (fun r h c => ⟨(h c).1.trans ?_, (h c).2.1.trans ?_, (h c).2.2⟩) (Cert.Reference14Ideal.Value.run m ρ)
  · unfold rdx rdmsq rdyg rmsq
    rfl
  · unfold rdg rmsq
    rfl

end Reference

/-- The kernel and the reference leave the same two gradients. -/
theorem algebraic : Cert.algebraic_Kernel14Ideal_Reference14Ideal := by
  pair_intro
  · run_from Cert.Kernel14Ideal.Value.run_blocks m g
  · run_from run_stages m' g'
    · exact (rdx_eq _ _ _ _).trans (finalX m c).symm
    · exact (rdg_eq _ _).trans (finalG m c).symm

end Cert.Proof.NormBwd

end
-- ==== Proof.GrpBwd.lean ====
/- Hand-written, untrusted: THE GRADIENT OF THE NORM OF THE MIXERS' RESULTS (`Kernel15`), kernel against reference. The norm is taken
   in each of four groups of 512 columns, the results of the four mixers. The eight grid points take 256 rows each. A point writes its
   rows of the four arrays' gradients, and adds its part of the gain's gradient to the last result, group by group; the first point
   sets it to zero before. -/
module

public import proofs.«01_k».proof.Proof.Gen.Kernel15Ideal.Value
public import proofs.«01_k».proof.Proof.Gen.Reference15Ideal.Run
public import Idealize.ShloMosaic.Lib.Pipeline.ValueKit
public import Idealize.ShloMosaic.Lib.Claim
public import proofs.«01_k».proof.Proof.NormRow
public import proofs.«01_k».proof.Defs

@[expose] public section

set_option maxRecDepth 16384

noncomputable section

namespace Cert.Proof.GrpBwd

open Idealize.ShloMosaic Idealize.ShloMosaic.TcCoe Idealize.SL.Sem
open Idealize.ShloMosaic.Pipeline (Dat)

/-- The length of a group. -/
abbrev len : EReal := Ideal.ofBits .f32 0x44000000#32

theorem len_eq : len = ((512 : ℝ) : EReal) := by
  simp [len, Ideal.ofBits, Ideal.ieee, -EReal.coe_mul]; norm_num

/-- The shapes of the arrays. -/
abbrev Sq : Shape := ⟨2, ![2048, 2048]⟩
abbrev Bk : Shape := ⟨2, ![2048, 512]⟩
abbrev Ln : Shape := ⟨2, ![1, 2048]⟩

/-- The column of a group's entry, and a column's group and place in it. -/
def col (q : Fin 4) (k : Fin 512) : Fin 2048 := ⟨q.val * 512 + k.val, by omega⟩
def grp (j : Fin 2048) : Fin 4 := ⟨j.val / 512, by omega⟩
def pos (j : Fin 2048) : Fin 512 := ⟨j.val % 512, by omega⟩

theorem col_grp (j : Fin 2048) : col (grp j) (pos j) = j := Fin.ext (by show j.val / 512 * 512 + j.val % 512 = j.val; omega)
theorem grp_col (q : Fin 4) (k : Fin 512) : grp (col q k) = q := Fin.ext (by show (q.val * 512 + k.val) / 512 = q.val; omega)
theorem pos_col (q : Fin 4) (k : Fin 512) : pos (col q k) = k := Fin.ext (by show (q.val * 512 + k.val) % 512 = k.val; omega)

/-- The gradient of one mixer's result. -/
def dx (x : Bk.Idx → EReal) (g : Ln.Idx → EReal) (dy : Sq.Idx → EReal) (q : Fin 4) (y : Bk.Idx) : EReal :=
  NormRow.grad len (fun k : Fin 512 => x (ix2 (y 0) k)) (fun k => dy (ix2 (y 0) (col q k)) * g (ix2 0 (col q k))) (y 1)

/-- One row's part of the gradient of the gain, in a group. -/
def dgRow (x : Bk.Idx → EReal) (dy : Sq.Idx → EReal) (q : Fin 4) (k : Fin 512) (i : Fin 2048) : EReal :=
  dy (ix2 i (col q k)) * (x (ix2 i k) * NormRow.inv len fun k : Fin 512 => x (ix2 i k))

/-- The gradient of the gain. -/
def dg (x : Fin 4 → Bk.Idx → EReal) (dy : Sq.Idx → EReal) (y : Ln.Idx) : EReal :=
  ∑ i : Fin 2048, dgRow (x (grp (y 1))) dy (grp (y 1)) (pos (y 1)) i

section Kernel

open Cert.Kernel15Ideal Cert.Kernel15Ideal.Gen

section Blocks

variable (x dy : FVec Ideal S256x512 .f32) (g : FVec Ideal S1x512 .f32)

theorem pay5_apply (y) : k0_pay5 (F := Ideal) x y = NormRow.inv len fun k => x (ix2 (y 0) k) := by
  pointwise [k0_pay5]
  rfl

theorem pay6_apply (y) : k0_pay6 (F := Ideal) x y = x y * NormRow.inv len fun k => x (ix2 (y 0) k) := by
  pointwise [k0_pay6]
  rw [pay5_apply]
  rfl

theorem pay7_apply (i j) : k0_pay7 (F := Ideal) x dy g (ix2 i j)
    = NormRow.grad len (fun k => x (ix2 i k)) (fun k => dy (ix2 i k) * g (ix2 0 k)) j := by
  pointwise [k0_pay7]
  simp only [pay5_apply, pay6_apply]
  unfold NormRow.grad
  rfl

theorem pay8_apply (old : FVec Ideal S1x512 .f32) (z j) : k0_pay8 (F := Ideal) x dy old (ix2 z j)
    = old (ix2 z j) + ∑ i : Fin 256, dy (ix2 i j) * (x (ix2 i j) * NormRow.inv len fun k => x (ix2 i k)) := by
  pointwise [k0_pay8]
  simp only [pay6_apply]
  rfl

theorem pay4_apply (y) : k0_pay4 (F := Ideal) y = (0 : EReal) := by
  pointwise [k0_pay4]

end Blocks

/-- A written group at its own entry. -/
theorem hit (o : ℕ) (inb : ∀ a : Fin S1x2048.rank, (![0, o] : Fin S1x2048.rank → ℕ) a + S1x512.size a ≤ S1x2048.size a)
    (p : S1x512.Idx → EReal) (L : List (View.Piece (Elt Ideal) S1x2048 .f32)) (q : Fin 4) (ho : o = q.val * 512) (z : Fin 1) (k : Fin 512) :
    View.canon (Val := Elt Ideal) (e := .f32) (⟨Rect.unit (s := S1x2048) ![0, o] S1x512.size inb, p⟩ :: L) (ix2 z (col q k)) = p (ix2 z k) := by
  have e : (Rect.unit (s := S1x2048) ![0, o] S1x512.size inb).emb (ix2 z k) = ix2 z (col q k) := by
    subst ho
    exact funext fun a => Fin.ext ((Rect.idx_unit_val _ _ inb (ix2 z k) a).trans
      (match a with | ⟨0, _⟩ => Nat.zero_add _ | ⟨1, _⟩ => rfl))
  rw [← e]
  exact View.canon_cons_emb _ _ _ _

/-- A written group at an entry of an earlier group. -/
theorem miss (o : ℕ) (inb : ∀ a : Fin S1x2048.rank, (![0, o] : Fin S1x2048.rank → ℕ) a + S1x512.size a ≤ S1x2048.size a)
    (p : S1x512.Idx → EReal) (L : List (View.Piece (Elt Ideal) S1x2048 .f32)) (q : Fin 4) (ho : q.val * 512 + 512 ≤ o) (z : Fin 1) (k : Fin 512) :
    View.canon (Val := Elt Ideal) (e := .f32) (⟨Rect.unit (s := S1x2048) ![0, o] S1x512.size inb, p⟩ :: L) (ix2 z (col q k))
      = View.canon (Val := Elt Ideal) (e := .f32) L (ix2 z (col q k)) := by
  refine View.canon_cons_of_not_mem _ _ fun h => ?_
  have h2 : o ≤ q.val * 512 + k.val := ((Rect.mem_set_unit (inb := inb)).mp h 1).1
  have := k.isLt
  omega

/-- A row of 2048 entries after the four groups are written is, in each group, the group's. -/
theorem canon_apply (p0 p1 p2 p3 : S1x512.Idx → EReal) (L : List (View.Piece (Elt Ideal) S1x2048 .f32)) (z : Fin 1) (q : Fin 4) (k : Fin 512) :
    View.canon (Val := Elt Ideal) (e := .f32)
      (⟨(Rect.unit (s := S1x2048) ![0, 1536] S1x512.size inb_S1x2048_S1x512_0_1536), p3⟩
        :: ⟨(Rect.unit (s := S1x2048) ![0, 1024] S1x512.size inb_S1x2048_S1x512_0_1024), p2⟩
        :: ⟨(Rect.unit (s := S1x2048) ![0, 512] S1x512.size inb_S1x2048_S1x512_0_512), p1⟩
        :: ⟨(Rect.unit (s := S1x2048) ![0, 0] S1x512.size inb_S1x2048_S1x512_0_0), p0⟩ :: L) (ix2 z (col q k))
      = (![p0, p1, p2, p3] : Fin 4 → S1x512.Idx → EReal) q (ix2 z k) := by
  match q with
  | ⟨0, _⟩ =>
    exact (miss 1536 _ _ _ 0 (by decide) z k).trans ((miss 1024 _ _ _ 0 (by decide) z k).trans ((miss 512 _ _ _ 0 (by decide) z k).trans
      (hit 0 _ _ _ 0 rfl z k)))
  | ⟨1, _⟩ => exact (miss 1536 _ _ _ 1 (by decide) z k).trans ((miss 1024 _ _ _ 1 (by decide) z k).trans (hit 512 _ _ _ 1 rfl z k))
  | ⟨2, _⟩ => exact (miss 1536 _ _ _ 2 (by decide) z k).trans (hit 1024 _ _ _ 2 rfl z k)
  | ⟨3, _⟩ => exact hit 1536 _ _ _ 3 rfl z k

/-- A group read from the row set to zero, with other groups written since. -/
theorem zero_apply (v : View sig .tc .vmem S1x2048 .f32) (o inb x) :
    v.readCov (Val := Elt Ideal) [⟨Rect.unit (s := S1x2048) ![0, 0] S1x2048.size inb_S1x2048_S1x2048_0_0, k0_pay4 (F := Ideal)⟩]
      (Rect.unit (s := S1x2048) ![0, o] S1x512.size inb).toLoadRect x = (0 : EReal) := by
  rw [View.readCov_eq_canon']
  refine (congrFun (View.canon_cons_unit_lit (Val := Elt Ideal) _ _ _ (fun a => match a with | ⟨0, _⟩ => rfl | ⟨1, _⟩ => rfl)) _).trans ?_
  exact pay4_apply _

theorem skip (v : View sig .tc .vmem S1x2048 .f32) (o o' inb inb') (h : o + 512 ≤ o') (p : S1x512.Idx → EReal) (L) :
    v.readCov (Val := Elt Ideal) (⟨Rect.unit (s := S1x2048) ![0, o] S1x512.size inb, p⟩ :: L)
      (Rect.unit (s := S1x2048) ![0, o'] S1x512.size inb').toLoadRect
    = v.readCov (Val := Elt Ideal) L (Rect.unit (s := S1x2048) ![0, o'] S1x512.size inb').toLoadRect :=
  View.readCov_cons_of_disjoint _ _ _ _ (Rect.unit_disjoint (inb := inb) (inb' := inb') 1 (Or.inl h))

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![t.val, 0] ∧ win0_4.index t = ![0, 0] ∧ win0_5.index t = ![t.val, 0] ∧ win0_6.index t = ![t.val, 0] ∧ win0_7.index t = ![t.val, 0] ∧ win0_8.index t = ![t.val, 0] ∧ win0_9.index t = ![t.val, 0] ∧ win0_10.index t = ![0, 0] :=
  (by decide +kernel : ∀ t : Fin grid0.N, _)

abbrev argX (c : Dev nD) : Fin 4 → FVec Ideal S2048x512 .f32 :=
  ![m ((c : Thread nD τ).loc main_arg0), m ((c : Thread nD τ).loc main_arg1), m ((c : Thread nD τ).loc main_arg2), m ((c : Thread nD τ).loc main_arg3)]
abbrev argG (c : Dev nD) : FVec Ideal S1x2048 .f32 := m ((c : Thread nD τ).loc main_arg4)
abbrev argY (c : Dev nD) : FVec Ideal S2048x2048 .f32 := m ((c : Thread nD τ).loc main_arg5)

/-- The row of the array that a row of a point's block is. -/
abbrev rw_ (t : Fin cfg0.N) (i : Fin 256) : Fin 2048 := ⟨t.val * 256 + i.val, by have : t.val < 8 := t.isLt; omega⟩

abbrev blkX0 (c : Dev nD) (t : Fin cfg0.N) : FVec Ideal S256x512 .f32 := iblk m c 0 t
abbrev blkX1 (c : Dev nD) (t : Fin cfg0.N) : FVec Ideal S256x512 .f32 := iblk m c 1 t
abbrev blkX2 (c : Dev nD) (t : Fin cfg0.N) : FVec Ideal S256x512 .f32 := iblk m c 2 t
abbrev blkX3 (c : Dev nD) (t : Fin cfg0.N) : FVec Ideal S256x512 .f32 := iblk m c 3 t
abbrev blkG (c : Dev nD) (t : Fin cfg0.N) : FVec Ideal S1x2048 .f32 := iblk m c 4 t
abbrev blkY (c : Dev nD) (t : Fin cfg0.N) : FVec Ideal S256x2048 .f32 := iblk m c 5 t

theorem blkX0_apply (c : Dev nD) (t : Fin cfg0.N) (i k) : blkX0 m c t (ix2 i k) = argX m c 0 (ix2 (rw_ t i) k) := by
  show blkX0 m c t (ix2 i k) = (m ((c : Thread nD τ).loc main_arg0) : FVec Ideal S2048x512 .f32) (ix2 (rw_ t i) k)
  blk_point [iblk, V, idx t]

theorem blkX1_apply (c : Dev nD) (t : Fin cfg0.N) (i k) : blkX1 m c t (ix2 i k) = argX m c 1 (ix2 (rw_ t i) k) := by
  show blkX1 m c t (ix2 i k) = (m ((c : Thread nD τ).loc main_arg1) : FVec Ideal S2048x512 .f32) (ix2 (rw_ t i) k)
  blk_point [iblk, V, idx t]

theorem blkX2_apply (c : Dev nD) (t : Fin cfg0.N) (i k) : blkX2 m c t (ix2 i k) = argX m c 2 (ix2 (rw_ t i) k) := by
  show blkX2 m c t (ix2 i k) = (m ((c : Thread nD τ).loc main_arg2) : FVec Ideal S2048x512 .f32) (ix2 (rw_ t i) k)
  blk_point [iblk, V, idx t]

theorem blkX3_apply (c : Dev nD) (t : Fin cfg0.N) (i k) : blkX3 m c t (ix2 i k) = argX m c 3 (ix2 (rw_ t i) k) := by
  show blkX3 m c t (ix2 i k) = (m ((c : Thread nD τ).loc main_arg3) : FVec Ideal S2048x512 .f32) (ix2 (rw_ t i) k)
  blk_point [iblk, V, idx t]

theorem blkG_apply (c : Dev nD) (t : Fin cfg0.N) (k) : blkG m c t (ix2 0 k) = argG m c (ix2 0 k) := by
  blk_point [iblk, V, idx t]

theorem blkY_apply (c : Dev nD) (t : Fin cfg0.N) (i k) : blkY m c t (ix2 i k) = argY m c (ix2 (rw_ t i) k) := by
  blk_point [iblk, V, idx t]

/-- A group's columns of a point's rows of the arriving gradient, and a group's gains. -/
abbrev dyS (c : Dev nD) (t : Fin cfg0.N) (o : ℕ)
    (inb : ∀ a : Fin S256x2048.rank, (![0, o] : Fin S256x2048.rank → ℕ) a + S256x512.size a ≤ S256x2048.size a) : FVec Ideal S256x512 .f32 :=
  View.ld (Val := Elt Ideal) (e' := .f32) (blkY m c t) (Rect.unit (s := S256x2048) ![0, o] S256x512.size inb)
abbrev gS (c : Dev nD) (t : Fin cfg0.N) (o : ℕ)
    (inb : ∀ a : Fin S1x2048.rank, (![0, o] : Fin S1x2048.rank → ℕ) a + S1x512.size a ≤ S1x2048.size a) : FVec Ideal S1x512 .f32 :=
  View.ld (Val := Elt Ideal) (e' := .f32) (blkG m c t) (Rect.unit (s := S1x2048) ![0, o] S1x512.size inb)

theorem dyS_apply (c : Dev nD) (t : Fin cfg0.N) (q : Fin 4) (o inb) (ho : o = q.val * 512) (i k) :
    dyS m c t o inb (ix2 i k) = argY m c (ix2 (rw_ t i) (col q k)) := by
  refine (View.ld_unit_apply_of (Val := Elt Ideal) (e := .f32) (blkY m c t) _ _ _ _ (ix2 i (col q k)) ?_).trans (blkY_apply m c t i _)
  subst ho
  exact fun a => match a with | ⟨0, _⟩ => (Nat.zero_add _).symm | ⟨1, _⟩ => rfl

theorem gS_apply (c : Dev nD) (t : Fin cfg0.N) (q : Fin 4) (o inb) (ho : o = q.val * 512) (k) :
    gS m c t o inb (ix2 0 k) = argG m c (ix2 0 (col q k)) := by
  refine (View.ld_unit_apply_of (Val := Elt Ideal) (e := .f32) (blkG m c t) _ _ _ _ (ix2 0 (col q k)) ?_).trans (blkG_apply m c t _)
  subst ho
  exact fun a => match a with | ⟨0, _⟩ => (Nat.zero_add _).symm | ⟨1, _⟩ => rfl

theorem keyX (c : Dev nD) (t : Fin cfg0.N) (q : Fin 4) (o inb inb') (ho : o = q.val * 512) (b : FVec Ideal S256x512 .f32)
    (hb : ∀ i k, b (ix2 i k) = argX m c q (ix2 (rw_ t i) k)) (y : S256x512.Idx) :
    k0_pay7 (F := Ideal) b (dyS m c t o inb) (gS m c t o inb') y = dx (argX m c q) (argG m c) (argY m c) q (ix2 (rw_ t (y 0)) (y 1)) := by
  obtain ⟨i, j, rfl⟩ : ∃ i j, y = ix2 i j := ⟨y 0, y 1, (ix2_eta y).symm⟩
  rw [pay7_apply]
  simp only [hb, dyS_apply m c t q o inb ho, gS_apply m c t q o inb' ho]
  rfl

/-- A point's part of the gain's gradient, in a group. -/
abbrev termQ (c : Dev nD) (t : Fin cfg0.N) (q : Fin 4) (k : Fin 512) : EReal :=
  ∑ i : Fin 256, dgRow (argX m c q) (argY m c) q k (rw_ t i)

abbrev termG (c : Dev nD) (t : Fin cfg0.N) (y : S1x2048.Idx) : EReal := termQ m c t (grp (y 1)) (pos (y 1))

theorem keyG (c : Dev nD) (t : Fin cfg0.N) (q : Fin 4) (o inb) (ho : o = q.val * 512) (b : FVec Ideal S256x512 .f32)
    (hb : ∀ i k, b (ix2 i k) = argX m c q (ix2 (rw_ t i) k)) (old : FVec Ideal S1x512 .f32) (z k) :
    k0_pay8 (F := Ideal) b (dyS m c t o inb) old (ix2 z k) = old (ix2 z k) + termQ m c t q k := by
  rw [pay8_apply]
  simp only [hb, dyS_apply m c t q o inb ho]
  rfl

theorem pointX0 (c : Dev nD) (t : Fin cfg0.N) (y : S256x512.Idx) : (outsAt0 m c t.val t.isLt).1 y
    = dx (argX m c 0) (argG m c) (argY m c) 0 (ix2 (rw_ t (y 0)) (y 1)) := by
  by_cases h : t.val % 8 = 0
  · rw [outsAt0_A m c t h]
    frame_out
    exact keyX m c t 0 0 _ _ rfl (blkX0 m c t) (blkX0_apply m c t) y
  · rw [outsAt0_B m c t h]
    frame_out
    exact keyX m c t 0 0 _ _ rfl (blkX0 m c t) (blkX0_apply m c t) y

theorem pointX1 (c : Dev nD) (t : Fin cfg0.N) (y : S256x512.Idx) : (outsAt0 m c t.val t.isLt).2.1 y
    = dx (argX m c 1) (argG m c) (argY m c) 1 (ix2 (rw_ t (y 0)) (y 1)) := by
  by_cases h : t.val % 8 = 0
  · rw [outsAt0_A m c t h]
    frame_out
    exact keyX m c t 1 512 _ _ rfl (blkX1 m c t) (blkX1_apply m c t) y
  · rw [outsAt0_B m c t h]
    frame_out
    exact keyX m c t 1 512 _ _ rfl (blkX1 m c t) (blkX1_apply m c t) y

theorem pointX2 (c : Dev nD) (t : Fin cfg0.N) (y : S256x512.Idx) : (outsAt0 m c t.val t.isLt).2.2.1 y
    = dx (argX m c 2) (argG m c) (argY m c) 2 (ix2 (rw_ t (y 0)) (y 1)) := by
  by_cases h : t.val % 8 = 0
  · rw [outsAt0_A m c t h]
    frame_out
    exact keyX m c t 2 1024 _ _ rfl (blkX2 m c t) (blkX2_apply m c t) y
  · rw [outsAt0_B m c t h]
    frame_out
    exact keyX m c t 2 1024 _ _ rfl (blkX2 m c t) (blkX2_apply m c t) y

theorem pointX3 (c : Dev nD) (t : Fin cfg0.N) (y : S256x512.Idx) : (outsAt0 m c t.val t.isLt).2.2.2.1 y
    = dx (argX m c 3) (argG m c) (argY m c) 3 (ix2 (rw_ t (y 0)) (y 1)) := by
  by_cases h : t.val % 8 = 0
  · rw [outsAt0_A m c t h]
    frame_out
    exact keyX m c t 3 1536 _ _ rfl (blkX3 m c t) (blkX3_apply m c t) y
  · rw [outsAt0_B m c t h]
    frame_out
    exact keyX m c t 3 1536 _ _ rfl (blkX3 m c t) (blkX3_apply m c t) y

theorem firstG (c : Dev nD) (t : Fin cfg0.N) (h : t.val % 8 = 0) (y : S1x2048.Idx) :
    (outsAt0 m c t.val t.isLt).2.2.2.2 y = 0 + termG m c t y := by
  obtain ⟨z, q, k, rfl⟩ : ∃ z q k, y = ix2 z (col q k) := ⟨y 0, grp (y 1), pos (y 1), (ix2_eta y).symm.trans (congrArg (ix2 (y 0)) (col_grp (y 1)).symm)⟩
  show _ = 0 + termQ m c t (grp (col q k)) (pos (col q k))
  rw [grp_col, pos_col, outsAt0_A m c t h]
  frame_out
  refine (canon_apply _ _ _ _ _ z q k).trans ?_
  match q with
  | ⟨0, _⟩ =>
    refine (keyG m c t 0 0 _ rfl (blkX0 m c t) (blkX0_apply m c t) _ z k).trans (congrArg (· + _) ?_)
    rw [zero_apply]
  | ⟨1, _⟩ =>
    refine (keyG m c t 1 512 _ rfl (blkX1 m c t) (blkX1_apply m c t) _ z k).trans (congrArg (· + _) ?_)
    rw [skip _ _ _ _ _ (by decide), zero_apply]
  | ⟨2, _⟩ =>
    refine (keyG m c t 2 1024 _ rfl (blkX2 m c t) (blkX2_apply m c t) _ z k).trans (congrArg (· + _) ?_)
    rw [skip _ _ _ _ _ (by decide), skip _ _ _ _ _ (by decide), zero_apply]
  | ⟨3, _⟩ =>
    refine (keyG m c t 3 1536 _ rfl (blkX3 m c t) (blkX3_apply m c t) _ z k).trans (congrArg (· + _) ?_)
    rw [skip _ _ _ _ _ (by decide), skip _ _ _ _ _ (by decide), skip _ _ _ _ _ (by decide), zero_apply]

theorem nextG (c : Dev nD) (t : Fin cfg0.N) (h : ¬t.val % 8 = 0) (y : S1x2048.Idx) :
    (outsAt0 m c t.val t.isLt).2.2.2.2 y
      = (outsAt0 m c (t.val - 1) (Nat.lt_of_le_of_lt (Nat.sub_le _ _) t.isLt)).2.2.2.2 y + termG m c t y := by
  obtain ⟨z, q, k, rfl⟩ : ∃ z q k, y = ix2 z (col q k) := ⟨y 0, grp (y 1), pos (y 1), (ix2_eta y).symm.trans (congrArg (ix2 (y 0)) (col_grp (y 1)).symm)⟩
  show _ = _ + termQ m c t (grp (col q k)) (pos (col q k))
  rw [grp_col, pos_col, outsAt0_B m c t h]
  frame_out
  refine (canon_apply _ _ _ _ _ z q k).trans ?_
  generalize (outsAt0 m c (t.val - 1) (Nat.lt_of_le_of_lt (Nat.sub_le _ _) t.isLt)).2.2.2.2 = old
  match q with
  | ⟨0, _⟩ =>
    refine (keyG m c t 0 0 _ rfl (blkX0 m c t) (blkX0_apply m c t) _ z k).trans (congrArg (· + _) ?_)
    exact View.ld_unit_apply_of (Val := Elt Ideal) (e := .f32) old _ _ _ _ (ix2 z (col 0 k)) (fun a => match a with | ⟨0, _⟩ => (Nat.zero_add _).symm | ⟨1, _⟩ => rfl)
  | ⟨1, _⟩ =>
    refine (keyG m c t 1 512 _ rfl (blkX1 m c t) (blkX1_apply m c t) _ z k).trans (congrArg (· + _) ?_)
    exact View.ld_unit_apply_of (Val := Elt Ideal) (e := .f32) old _ _ _ _ (ix2 z (col 1 k)) (fun a => match a with | ⟨0, _⟩ => (Nat.zero_add _).symm | ⟨1, _⟩ => rfl)
  | ⟨2, _⟩ =>
    refine (keyG m c t 2 1024 _ rfl (blkX2 m c t) (blkX2_apply m c t) _ z k).trans (congrArg (· + _) ?_)
    exact View.ld_unit_apply_of (Val := Elt Ideal) (e := .f32) old _ _ _ _ (ix2 z (col 2 k)) (fun a => match a with | ⟨0, _⟩ => (Nat.zero_add _).symm | ⟨1, _⟩ => rfl)
  | ⟨3, _⟩ =>
    refine (keyG m c t 3 1536 _ rfl (blkX3 m c t) (blkX3_apply m c t) _ z k).trans (congrArg (· + _) ?_)
    exact View.ld_unit_apply_of (Val := Elt Ideal) (e := .f32) old _ _ _ _ (ix2 z (col 3 k)) (fun a => match a with | ⟨0, _⟩ => (Nat.zero_add _).symm | ⟨1, _⟩ => rfl)

theorem emb6 (t : Fin cfg0.N) (y : S256x512.Idx) : (win0_6.blk t).view.emb y = ix2 (rw_ t (y 0)) (y 1) := by
  blk_ext [idx t]

theorem emb7 (t : Fin cfg0.N) (y : S256x512.Idx) : (win0_7.blk t).view.emb y = ix2 (rw_ t (y 0)) (y 1) := by
  blk_ext [idx t]

theorem emb8 (t : Fin cfg0.N) (y : S256x512.Idx) : (win0_8.blk t).view.emb y = ix2 (rw_ t (y 0)) (y 1) := by
  blk_ext [idx t]

theorem emb9 (t : Fin cfg0.N) (y : S256x512.Idx) : (win0_9.blk t).view.emb y = ix2 (rw_ t (y 0)) (y 1) := by
  blk_ext [idx t]

theorem emb10 (t : Fin cfg0.N) (y : S1x2048.Idx) : (win0_10.blk t).view.emb y = y := by
  blk_ext [idx t]

theorem finalX0 (c : Dev nD) : (dats m 0 c).arrAt 6 (cfgs 0).N = dx (argX m c 0) (argG m c) (argY m c) 0 := by
  refine (dats m 0 c).arrAt_eq_of_covers 6 _ (by decide +kernel) fun t hf y => ?_
  blk_simp
  rw [after0_6, pointX0 m c t y]
  exact congrArg _ (emb6 t y).symm

theorem finalX1 (c : Dev nD) : (dats m 0 c).arrAt 7 (cfgs 0).N = dx (argX m c 1) (argG m c) (argY m c) 1 := by
  refine (dats m 0 c).arrAt_eq_of_covers 7 _ (by decide +kernel) fun t hf y => ?_
  blk_simp
  rw [after0_7, pointX1 m c t y]
  exact congrArg _ (emb7 t y).symm

theorem finalX2 (c : Dev nD) : (dats m 0 c).arrAt 8 (cfgs 0).N = dx (argX m c 2) (argG m c) (argY m c) 2 := by
  refine (dats m 0 c).arrAt_eq_of_covers 8 _ (by decide +kernel) fun t hf y => ?_
  blk_simp
  rw [after0_8, pointX2 m c t y]
  exact congrArg _ (emb8 t y).symm

theorem finalX3 (c : Dev nD) : (dats m 0 c).arrAt 9 (cfgs 0).N = dx (argX m c 3) (argG m c) (argY m c) 3 := by
  refine (dats m 0 c).arrAt_eq_of_covers 9 _ (by decide +kernel) fun t hf y => ?_
  blk_simp
  rw [after0_9, pointX3 m c t y]
  exact congrArg _ (emb9 t y).symm

theorem finalG (c : Dev nD) : (dats m 0 c).arrAt 10 (cfgs 0).N = dg (argX m c) (argY m c) := by
  refine (dats m 0 c).arrAt_eq_of_covers 10 _ (by decide +kernel) fun t hf y => ?_
  blk_simp
  have h3 := (flush0_10 t).mp hf
  rw [after0_10, Pipeline.eq_sum_fin_of_reset_step_apply_of_flush (fun n h => (outsAt0 m c n h).2.2.2.2) 8
    (fun _ => 0) (termG m c) (firstG m c) (nextG m c) t h3 y, zero_add]
  refine Eq.trans ?_ (congrArg (dg (argX m c) (argY m c)) (emb10 t y).symm)
  refine Fin.sum_mul_add_congr fun s k hl => ?_
  have e : rw_ ⟨_, Pipeline.run_point_lt_of_flush t h3 s⟩ k = ⟨s.val * 256 + k.val, hl⟩ :=
    Fin.ext (by show (8 * (t.val / 8) + s.val) * 256 + k.val = s.val * 256 + k.val; have : t.val < 8 := t.isLt; omega)
  rw [e]

end Kernel

section Reference

open Cert.Reference15Ideal Cert.Reference15Ideal.Gen

section Groups

variable (x : FVec Ideal S2048x4x512 .f32) (dy : FVec Ideal S2048x2048 .f32) (g : FVec Ideal S1x2048 .f32)

/-- The four arrays side by side, as groups. -/
def cat (a b c d : FVec Ideal S2048x512 .f32) : FVec Ideal S2048x4x512 .f32 :=
  shapeCast _ (concatenate S2048x2048 1 [⟨S2048x512, a⟩, ⟨S2048x512, b⟩, ⟨S2048x512, c⟩, ⟨S2048x512, d⟩]
    concatenates_S2048x512_S2048x512_S2048x512_S2048x512_S2048x2048_d1) shapeCasts_S2048x2048_S2048x4x512

/-- The reference's mean square and small number, of every group of every row. -/
def rmsq : FVec Ideal S2048x4x1 .f32 :=
  addf (Host.divf (broadcastInDim S2048x4x1 ![0, 1] bcast_S2048x4_S2048x4x1_0_1 (Host.reduceAdd (mulf x x) (constant S_ .f32 0x00000000#32) reducesTo_S2048x4x512_S2048x4_d2 h_S_))
    (broadcastInDim S2048x4x1 ![] bcast_S_S2048x4x1 (constant S_ .f32 0x44000000#32))) (broadcastInDim S2048x4x1 ![] bcast_S_S2048x4x1 (constant S_ .f32 0x358637BD#32))

/-- The gradient of the normed groups. -/
def rdyg : FVec Ideal S2048x4x512 .f32 :=
  shapeCast _ (mulf dy (broadcastInDim S2048x2048 ![0, 1] bcast_S1x2048_S2048x2048_0_1 g)) shapeCasts_S2048x2048_S2048x4x512

/-- The gradient of the mean square, with the factor of the mean. -/
def rdmsq (z : FVec Ideal S2048x4x1 .f32) (d : FVec Ideal S2048x4x512 .f32) : FVec Ideal S2048x4x512 .f32 :=
  broadcastInDim S2048x4x512 ![0, 1] bcast_S2048x4_S2048x4x512_0_1 (Host.reduceAdd (Host.divf (mulf (shapeCast _ (Host.reduceAdd (mulf x d)
    (constant S_ .f32 0x00000000#32) reducesTo_S2048x4x512_S2048x4_d2 h_S_) shapeCasts_S2048x4_S2048x4x1)
    (mulf (broadcastInDim S2048x4x1 ![] bcast_S_S2048x4x1 (constant S_ .f32 0xBF000000#32)) (Host.divf (Host.rsqrt z) z)))
    (broadcastInDim S2048x4x1 ![] bcast_S_S2048x4x1 (constant S_ .f32 0x44000000#32))) (constant S_ .f32 0x00000000#32) reducesTo_S2048x4x1_S2048x4_d2 h_S_)

def rdx : FVec Ideal S2048x2048 .f32 :=
  shapeCast _ (addf (addf (mulf (rdyg dy g) (broadcastInDim S2048x4x512 ![0, 1, 2] bcast_S2048x4x1_S2048x4x512_0_1_2 (Host.rsqrt (rmsq x))))
    (mulf x (rdmsq x (rmsq x) (rdyg dy g)))) (mulf (rdmsq x (rmsq x) (rdyg dy g)) x)) shapeCasts_S2048x4x512_S2048x2048

def rdg : FVec Ideal S1x2048 .f32 :=
  shapeCast _ (Host.reduceAdd (mulf (shapeCast _ (mulf x (broadcastInDim S2048x4x512 ![0, 1, 2] bcast_S2048x4x1_S2048x4x512_0_1_2 (Host.rsqrt (rmsq x))))
    shapeCasts_S2048x4x512_S2048x2048) dy) (constant S_ .f32 0x00000000#32) reducesTo_S2048x2048_S2048_d0 h_S_) shapeCasts_S2048_S1x2048

theorem rmsq_apply (y) : rmsq x y = NormRow.msq len fun k : Fin 512 => x (ix3 (y 0) (y 1) k) := by
  pointwise [rmsq]
  rfl

theorem rdyg_apply (i q k) : rdyg dy g (ix3 i q k) = dy (ix2 i (col q k)) * g (ix2 0 (col q k)) := by
  pointwise [rdyg]
  rfl

theorem rdmsq_apply (d : FVec Ideal S2048x4x512 .f32) (i q k) : rdmsq x (rmsq x) d (ix3 i q k)
    = NormRow.dmsq len (fun k : Fin 512 => x (ix3 i q k)) (fun k => d (ix3 i q k)) := by
  pointwise [rdmsq]
  simp only [rmsq_apply, Fin.sum_univ_one]
  rfl

theorem rdx_at (i j) : rdx x dy g (ix2 i j)
    = NormRow.grad len (fun k : Fin 512 => x (ix3 i (grp j) k)) (fun k => dy (ix2 i (col (grp j) k)) * g (ix2 0 (col (grp j) k))) (pos j) := by
  refine Eq.trans ?_ (NormRow.gradChain_eq (fun k : Fin 512 => x (ix3 i (grp j) k)) (fun k => dy (ix2 i (col (grp j) k)) * g (ix2 0 (col (grp j) k)))
    512 (by norm_num) len_eq (pos j))
  pointwise [rdx]
  simp only [rmsq_apply, rdmsq_apply, rdyg_apply]
  exact add_assoc _ _ _

theorem rdx_apply (i q k) : rdx x dy g (ix2 i (col q k))
    = NormRow.grad len (fun k : Fin 512 => x (ix3 i q k)) (fun k => dy (ix2 i (col q k)) * g (ix2 0 (col q k))) k := by
  rw [rdx_at, grp_col, pos_col]

theorem rdg_at (z j) : rdg x dy (ix2 z j)
    = ∑ i : Fin 2048, dy (ix2 i j) * (x (ix3 i (grp j) (pos j)) * NormRow.inv len fun k : Fin 512 => x (ix3 i (grp j) k)) := by
  pointwise [rdg]
  simp only [rmsq_apply]
  exact Finset.sum_congr rfl fun i _ => mul_comm _ _

theorem rdg_apply (z q k) : rdg x dy (ix2 z (col q k))
    = ∑ i : Fin 2048, dy (ix2 i (col q k)) * (x (ix3 i q k) * NormRow.inv len fun k : Fin 512 => x (ix3 i q k)) := by
  rw [rdg_at, grp_col, pos_col]

end Groups

variable (a b c d : FVec Ideal S2048x512 .f32) (dy : FVec Ideal S2048x2048 .f32) (g : FVec Ideal S1x2048 .f32)

theorem cat_apply (i q k) : cat a b c d (ix3 i q k) = (![a, b, c, d] : Fin 4 → FVec Ideal S2048x512 .f32) q (ix2 i k) := by
  have hk := k.isLt
  pointwise [cat]
  match q with
  | ⟨0, _⟩ =>
    rw [dif_pos (show 0 * 512 + k.val < 512 by omega)]
    exact congrArg a (congrArg (ix2 i) (Fin.ext (show 0 * 512 + k.val = k.val by omega)))
  | ⟨1, _⟩ =>
    rw [dif_neg (show ¬1 * 512 + k.val < 512 by omega), dif_pos (show 1 * 512 + k.val - 512 < 512 by omega)]
    exact congrArg b (congrArg (ix2 i) (Fin.ext (show 1 * 512 + k.val - 512 = k.val by omega)))
  | ⟨2, _⟩ =>
    rw [dif_neg (show ¬2 * 512 + k.val < 512 by omega), dif_neg (show ¬2 * 512 + k.val - 512 < 512 by omega),
      dif_pos (show 2 * 512 + k.val - 512 - 512 < 512 by omega)]
    exact congrArg c (congrArg (ix2 i) (Fin.ext (show 2 * 512 + k.val - 512 - 512 = k.val by omega)))
  | ⟨3, _⟩ =>
    rw [dif_neg (show ¬3 * 512 + k.val < 512 by omega), dif_neg (show ¬3 * 512 + k.val - 512 < 512 by omega),
      dif_neg (show ¬3 * 512 + k.val - 512 - 512 < 512 by omega)]
    exact congrArg d (congrArg (ix2 i) (Fin.ext (show 3 * 512 + k.val - 512 - 512 - 512 = k.val by omega)))

theorem rdx0_eq : extractStridedSlice S2048x512 ![0, 0] (rdx (cat a b c d) dy g) slices_S2048x2048_S2048x512_0_0 = dx a g dy 0 := by
  funext y
  obtain ⟨i, k, rfl⟩ : ∃ i k, y = ix2 i k := ⟨y 0, y 1, (ix2_eta y).symm⟩
  refine Eq.trans ?_ ((rdx_apply (cat a b c d) dy g i 0 k).trans ?_)
  · pointwise
    exact congrArg (rdx (cat a b c d) dy g) (congrArg (ix2 i) (Fin.ext (show k.val = 0 * 512 + k.val by omega)))
  · simp only [cat_apply]
    rfl

theorem rdx1_eq : extractStridedSlice S2048x512 ![0, 512] (rdx (cat a b c d) dy g) slices_S2048x2048_S2048x512_0_512 = dx b g dy 1 := by
  funext y
  obtain ⟨i, k, rfl⟩ : ∃ i k, y = ix2 i k := ⟨y 0, y 1, (ix2_eta y).symm⟩
  refine Eq.trans ?_ ((rdx_apply (cat a b c d) dy g i 1 k).trans ?_)
  · pointwise
    exact congrArg (rdx (cat a b c d) dy g) (congrArg (ix2 i) (Fin.ext (show 512 + k.val = 1 * 512 + k.val by omega)))
  · simp only [cat_apply]
    rfl

theorem rdx2_eq : extractStridedSlice S2048x512 ![0, 1024] (rdx (cat a b c d) dy g) slices_S2048x2048_S2048x512_0_1024 = dx c g dy 2 := by
  funext y
  obtain ⟨i, k, rfl⟩ : ∃ i k, y = ix2 i k := ⟨y 0, y 1, (ix2_eta y).symm⟩
  refine Eq.trans ?_ ((rdx_apply (cat a b c d) dy g i 2 k).trans ?_)
  · pointwise
    exact congrArg (rdx (cat a b c d) dy g) (congrArg (ix2 i) (Fin.ext (show 1024 + k.val = 2 * 512 + k.val by omega)))
  · simp only [cat_apply]
    rfl

theorem rdx3_eq : extractStridedSlice S2048x512 ![0, 1536] (rdx (cat a b c d) dy g) slices_S2048x2048_S2048x512_0_1536 = dx d g dy 3 := by
  funext y
  obtain ⟨i, k, rfl⟩ : ∃ i k, y = ix2 i k := ⟨y 0, y 1, (ix2_eta y).symm⟩
  refine Eq.trans ?_ ((rdx_apply (cat a b c d) dy g i 3 k).trans ?_)
  · pointwise
    exact congrArg (rdx (cat a b c d) dy g) (congrArg (ix2 i) (Fin.ext (show 1536 + k.val = 3 * 512 + k.val by omega)))
  · simp only [cat_apply]
    rfl

theorem rdg_eq : rdg (cat a b c d) dy = dg ![a, b, c, d] dy := by
  funext y
  obtain ⟨z, q, k, rfl⟩ : ∃ z q k, y = ix2 z (col q k) := ⟨y 0, grp (y 1), pos (y 1), (ix2_eta y).symm.trans (congrArg (ix2 (y 0)) (col_grp (y 1)).symm)⟩
  rw [rdg_apply]
  simp only [cat_apply]
  show _ = ∑ i : Fin 2048, dgRow (![a, b, c, d] (grp (col q k))) dy (grp (col q k)) (pos (col q k)) i
  simp only [dgRow, grp_col, pos_col]

variable (m : (ℓ : Loc nD τ sig) → Buf (Elt Ideal) ℓ) (ρ : Dev nD → PrngReg)

/-- The reference's run, its five results by their stages. -/
theorem run_stages : θ_run defs (onTc (τ := τ) (main (F := Ideal))) ⟨m, fun _ => 0, ρ⟩ fun r => ∀ c : Dev nD,
    r.2.mem ((c.tc : Thread nD τ).loc main_v39) = extractStridedSlice S2048x512 ![0, 0]
        (rdx (cat (m ((c.tc : Thread nD τ).loc main_arg0)) (m ((c.tc : Thread nD τ).loc main_arg1)) (m ((c.tc : Thread nD τ).loc main_arg2)) (m ((c.tc : Thread nD τ).loc main_arg3)))
          (m ((c.tc : Thread nD τ).loc main_arg5)) (m ((c.tc : Thread nD τ).loc main_arg4))) slices_S2048x2048_S2048x512_0_0
    ∧ r.2.mem ((c.tc : Thread nD τ).loc main_v40) = extractStridedSlice S2048x512 ![0, 512]
        (rdx (cat (m ((c.tc : Thread nD τ).loc main_arg0)) (m ((c.tc : Thread nD τ).loc main_arg1)) (m ((c.tc : Thread nD τ).loc main_arg2)) (m ((c.tc : Thread nD τ).loc main_arg3)))
          (m ((c.tc : Thread nD τ).loc main_arg5)) (m ((c.tc : Thread nD τ).loc main_arg4))) slices_S2048x2048_S2048x512_0_512
    ∧ r.2.mem ((c.tc : Thread nD τ).loc main_v41) = extractStridedSlice S2048x512 ![0, 1024]
        (rdx (cat (m ((c.tc : Thread nD τ).loc main_arg0)) (m ((c.tc : Thread nD τ).loc main_arg1)) (m ((c.tc : Thread nD τ).loc main_arg2)) (m ((c.tc : Thread nD τ).loc main_arg3)))
          (m ((c.tc : Thread nD τ).loc main_arg5)) (m ((c.tc : Thread nD τ).loc main_arg4))) slices_S2048x2048_S2048x512_0_1024
    ∧ r.2.mem ((c.tc : Thread nD τ).loc main_v42) = extractStridedSlice S2048x512 ![0, 1536]
        (rdx (cat (m ((c.tc : Thread nD τ).loc main_arg0)) (m ((c.tc : Thread nD τ).loc main_arg1)) (m ((c.tc : Thread nD τ).loc main_arg2)) (m ((c.tc : Thread nD τ).loc main_arg3)))
          (m ((c.tc : Thread nD τ).loc main_arg5)) (m ((c.tc : Thread nD τ).loc main_arg4))) slices_S2048x2048_S2048x512_0_1536
    ∧ r.2.mem ((c.tc : Thread nD τ).loc main_v20) = rdg (cat (m ((c.tc : Thread nD τ).loc main_arg0)) (m ((c.tc : Thread nD τ).loc main_arg1)) (m ((c.tc : Thread nD τ).loc main_arg2)) (m ((c.tc : Thread nD τ).loc main_arg3)))
        (m ((c.tc : Thread nD τ).loc main_arg5))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) := by
  refine (θ_run _ _ _).mono (fun r h c => ⟨(h c).1.trans ?_, (h c).2.1.trans ?_, (h c).2.2.1.trans ?_, (h c).2.2.2.1.trans ?_, (h c).2.2.2.2.1.trans ?_, (h c).2.2.2.2.2⟩)
    (Cert.Reference15Ideal.Value.run m ρ)
  · unfold Cert.Reference15Ideal.Value.res_main_v39 rdx rdmsq rdyg rmsq cat
    rfl
  · unfold Cert.Reference15Ideal.Value.res_main_v40 rdx rdmsq rdyg rmsq cat
    rfl
  · unfold Cert.Reference15Ideal.Value.res_main_v41 rdx rdmsq rdyg rmsq cat
    rfl
  · unfold Cert.Reference15Ideal.Value.res_main_v42 rdx rdmsq rdyg rmsq cat
    rfl
  · unfold rdg rmsq cat
    rfl

end Reference

/-- The kernel and the reference leave the same five gradients. -/
theorem algebraic : Cert.algebraic_Kernel15Ideal_Reference15Ideal := by
  pair_intro
  · run_from Cert.Kernel15Ideal.Value.run_blocks m g
  · run_from run_stages m' g'
    · exact (rdx0_eq _ _ _ _ _ _).trans (finalX0 m c).symm
    · exact (rdx1_eq _ _ _ _ _ _).trans (finalX1 m c).symm
    · exact (rdx2_eq _ _ _ _ _ _).trans (finalX2 m c).symm
    · exact (rdx3_eq _ _ _ _ _ _).trans (finalX3 m c).symm
    · exact (rdg_eq _ _ _ _ _).trans (finalG m c).symm

end Cert.Proof.GrpBwd

end
-- ==== Proof.LnRow.lean ====
/- Hand-written, untrusted: one row of a layer norm, its gradient in two forms, and the gradient of the gate behind it. The chain
   rule takes the gradient of the centred row (Proof/NormRow.lean) and adds the mean of its negation; the kernel subtracts from the
   arriving gradient its mean and the normed row times the mean of their product. The two are equal when the arriving gradient is
   finite; of the row itself nothing is assumed. -/
module

public import proofs.«01_k».proof.Proof.NormRow

@[expose] public section

noncomputable section

namespace Cert.Proof.LnRow

open Idealize.ShloMosaic

variable {n : ℕ} (N : EReal) (x d : Fin n → EReal)

/-- The mean of a row. -/
def mean (f : Fin n → EReal) : EReal := Ideal.div (∑ k, f k) N

/-- The centred row. -/
def cen (j : Fin n) : EReal := x j - mean N x

/-- The normed row. -/
def hat (j : Fin n) : EReal := cen N x j * NormRow.inv N (cen N x)

/-- The gradient of the row, as the kernel computes it. -/
def grad (j : Fin n) : EReal :=
  NormRow.inv N (cen N x) * (d j - mean N d - hat N x j * mean N fun k => d k * hat N x k)

/-- The gradient of the row by the chain rule. -/
def gradChain (j : Fin n) : EReal :=
  NormRow.gradChain N (cen N x) d j + mean N fun k => -NormRow.gradChain N (cen N x) d k

variable {N}

/-- With an infinite entry the inverse root is zero. -/
theorem inv_zero (c : ℝ) (hc : 0 < c) (hN : N = c) (j : Fin n) (h : ¬∃ r : ℝ, x j = r) : NormRow.inv N (cen N x) = 0 := by
  have hx : x j = ⊤ ∨ x j = ⊥ := by
    generalize x j = a at h
    induction a using EReal.rec with
    | coe r => exact absurd ⟨r, rfl⟩ h
    | bot => exact Or.inr rfl
    | top => exact Or.inl rfl
  have hcen : cen N x j = ⊤ ∨ cen N x j = ⊥ := by
    unfold cen
    generalize mean N x = a
    rcases hx with hx | hx <;> rw [hx]
    · induction a using EReal.rec with
      | coe r => left; simp
      | bot => left; simp
      | top => right; simp
    · right; simp
  have hsq : cen N x j * cen N x j = ⊤ := by
    rcases hcen with h | h <;> rw [h] <;> simp
  have hsum : ∑ k, cen N x k * cen N x k = ⊤ :=
    top_le_iff.mp (hsq ▸ Finset.single_le_sum (fun k _ => NormRow.mul_self_nonneg (cen N x k)) (Finset.mem_univ j))
  obtain ⟨e, -, he⟩ := NormRow.eps_pos
  have hm : NormRow.msq N (cen N x) = ⊤ := by
    rw [NormRow.msq, hsum, hN, Ideal.div_coe hc.ne', he, EReal.top_mul_coe_of_pos (by positivity)]
    simp
  rw [NormRow.inv, hm, Ideal.rsqrt_top]

/-- With the inverse root zero both gradients are zero. -/
theorem gradChain_eq_of_inv (c : ℝ) (hc : 0 < c) (hN : N = c) (j : Fin n) (h : NormRow.inv N (cen N x) = 0) :
    gradChain N x d j = grad N x d j := by
  have h1 : ∀ k, NormRow.gradChain N (cen N x) d k = 0 := fun k => by
    rw [NormRow.gradChain_eq (cen N x) d c hc hN k, NormRow.grad, h, zero_mul]
  rw [gradChain, grad, h, zero_mul, h1, zero_add]
  simp only [h1, neg_zero, mean, Finset.sum_const_zero]
  rw [hN, Ideal.div_coe hc.ne', zero_mul]

/-- The two gradients agree. -/
theorem gradChain_eq (c : ℝ) (hc : 0 < c) (hN : N = c) (hn : (n : ℝ) = c) (hd : ∀ k, ∃ r : ℝ, d k = r) (j : Fin n) :
    gradChain N x d j = grad N x d j := by
  by_cases hx : ∀ k, ∃ r : ℝ, x k = r
  · rcases NormRow.msq_cases (cen N x) c hc hN with h | ⟨r, hr, h⟩
    · exact gradChain_eq_of_inv x d c hc hN j (by rw [NormRow.inv, h, Ideal.rsqrt_top])
    · have hs : NormRow.inv N (cen N x) = ((Real.sqrt r)⁻¹ : ℝ) := by
        rw [NormRow.inv, h, Ideal.rsqrt_coe, if_neg (not_lt.mpr hr.le), if_neg hr.ne']
      generalize (Real.sqrt r)⁻¹ = s at hs
      choose a ha using hx
      choose b hb using hd
      have hmean : ∀ f : Fin n → ℝ, mean N (fun k => (f k : EReal)) = (((∑ k, f k) * (1 / c) : ℝ) : EReal) := fun f => by
        rw [mean, hN, Ideal.div_coe hc.ne', SoftmaxRow.sum_real, ← EReal.coe_mul]
      have hu : ∀ k, cen N x k = ((a k - (∑ k, a k) * (1 / c) : ℝ) : EReal) := fun k => by
        rw [cen, show x = fun k => (a k : EReal) from funext ha, hmean, ← EReal.coe_sub]
      have hu0 : ∑ k, (a k - (∑ k, a k) * (1 / c)) = 0 := by
        rw [Finset.sum_sub_distrib, Finset.sum_const, Finset.card_univ, Fintype.card_fin, nsmul_eq_mul, hn]
        field_simp
        ring
      generalize hU : (fun k => a k - (∑ k, a k) * (1 / c)) = u at hu0
      have hu' : ∀ k, cen N x k = (u k : EReal) := fun k => by rw [hu k, ← hU]
      have hh : ∀ k, hat N x k = ((u k * s : ℝ) : EReal) := fun k => by rw [hat, hs, hu' k, ← EReal.coe_mul]
      have hm : mean N (fun k => d k * hat N x k) = (((∑ k, b k * (u k * s)) * (1 / c) : ℝ) : EReal) := by
        rw [← hmean]
        congr 1
        exact funext fun k => by rw [hh k, hb k, ← EReal.coe_mul]
      generalize (∑ k, b k * (u k * s)) * (1 / c) = q at hm
      have hG : ∀ k, NormRow.gradChain N (cen N x) d k = ((s * (b k - u k * s * q) : ℝ) : EReal) := fun k => by
        rw [NormRow.gradChain_eq (cen N x) d c hc hN k, NormRow.grad]
        show NormRow.inv N (cen N x) * (d k - hat N x k * mean N fun k => d k * hat N x k) = _
        rw [hs, hh, hm, hb, ← EReal.coe_mul, ← EReal.coe_sub, ← EReal.coe_mul]
      have hm2 : mean N (fun k => -NormRow.gradChain N (cen N x) d k) = (((∑ k, -(s * (b k - u k * s * q))) * (1 / c) : ℝ) : EReal) := by
        rw [← hmean]
        congr 1
        exact funext fun k => by rw [hG k, ← EReal.coe_neg]
      have hm3 : mean N d = (((∑ k, b k) * (1 / c) : ℝ) : EReal) := by
        rw [← hmean]
        congr 1
        exact funext hb
      rw [gradChain, grad, hm2, hG, hm, hm3, hh, hs, hb, ← EReal.coe_add, ← EReal.coe_sub, ← EReal.coe_mul, ← EReal.coe_sub, ← EReal.coe_mul]
      congr 1
      have e : ∑ k, -(s * (b k - u k * s * q)) = -(s * ∑ k, b k) + s * s * q * ∑ k, u k := by
        rw [Finset.mul_sum, Finset.mul_sum, ← Finset.sum_neg_distrib, ← Finset.sum_add_distrib]
        exact Finset.sum_congr rfl fun k _ => by ring
      rw [e, show ∑ k, u k = 0 from hu0]
      ring
  · obtain ⟨k, hk⟩ := not_forall.mp hx
    exact gradChain_eq_of_inv x d c hc hN j (inv_zero x c hc hN k hk)

/-- The gradient of a gated entry `a · logistic a` in its two forms, for a finite arriving gradient: both are one real number. -/
theorem gate (a : EReal) (p : ℝ) : ∃ r : ℝ,
    (p : EReal) * (Ideal.logistic a + a * Ideal.logistic a * (1 - Ideal.logistic a)) = r
    ∧ (p : EReal) * Ideal.logistic a + a * p * (Ideal.logistic a * (1 - Ideal.logistic a)) = r := by
  have h11 : (1 : EReal) - 1 = 0 := by
    rw [← EReal.coe_one, ← EReal.coe_sub, sub_self, EReal.coe_zero]
  induction a using EReal.rec with
  | coe a =>
    rw [Ideal.logistic_coe]
    generalize (1 + Real.exp (-a))⁻¹ = l
    refine ⟨p * (l + a * l * (1 - l)), ?_, ?_⟩
    · rw [← EReal.coe_one]; simp only [← EReal.coe_sub, ← EReal.coe_mul, ← EReal.coe_add]
    · rw [← EReal.coe_one]; simp only [← EReal.coe_sub, ← EReal.coe_mul, ← EReal.coe_add]
      congr 1
      ring
  | bot => exact ⟨0, by simp, by simp⟩
  | top => exact ⟨p, by simp [h11], by simp [h11]⟩

end Cert.Proof.LnRow

end
-- ==== Proof.ConvBwd.lean ====
/- Hand-written, untrusted: THE GRADIENT OF THE CONVOLUTION MIXER'S SECOND HALF (`Kernel17`: layer norm, gate, product with a
   weight), kernel against reference. The eight grid points take 256 rows each. A point writes its rows of the input's gradient and
   adds its parts to the gradients of the gain, the offset and the weight; the first point sets these to zero before. -/
module

public import proofs.«01_k».proof.Proof.Gen.Kernel17Ideal.Value
public import proofs.«01_k».proof.Proof.Gen.Reference17Ideal.Run
public import Idealize.ShloMosaic.Lib.Pipeline.ValueKit
public import Idealize.ShloMosaic.Lib.Claim
public import proofs.«01_k».proof.Proof.LnRow
public import proofs.«01_k».proof.Proof.Gen.Pre_finite_conv
public import proofs.«01_k».proof.Proof.Xatt
public import proofs.«01_k».proof.Defs

@[expose] public section

set_option maxRecDepth 16384

noncomputable section

namespace Cert.Proof.ConvBwd

open Idealize.ShloMosaic Idealize.ShloMosaic.TcCoe Idealize.SL.Sem
open Idealize.ShloMosaic.Pipeline (Dat)

/-- The length of a row. -/
abbrev len : EReal := Ideal.ofBits .f32 0x44000000#32

theorem len_eq : len = ((512 : ℝ) : EReal) := by
  simp [len, Ideal.ofBits, Ideal.ieee, -EReal.coe_mul]; norm_num

/-- The literal one. -/
theorem one_eq : Ideal.ofBits .f32 0x3F800000#32 = (1 : EReal) := by
  simp [Ideal.ofBits, Ideal.ieee, -EReal.coe_mul]; norm_num

/-- The shapes of the arrays. -/
abbrev Sx : Shape := ⟨2, ![2048, 512]⟩
abbrev Sg : Shape := ⟨2, ![1, 512]⟩
abbrev Sw : Shape := ⟨2, ![512, 512]⟩

section Spec

variable (x : Sx.Idx → EReal) (g b : Sg.Idx → EReal) (w : Sw.Idx → EReal) (dy : Sx.Idx → EReal)

/-- The normed entry, with gain and offset, and the gate's value. -/
def hat (i : Fin 2048) (k : Fin 512) : EReal := LnRow.hat len (fun k : Fin 512 => x (ix2 i k)) k
def act (i : Fin 2048) (k : Fin 512) : EReal := hat x i k * g (ix2 0 k) + b (ix2 0 k)
def gate (i : Fin 2048) (k : Fin 512) : EReal := Ideal.logistic (act x g b i k)

/-- The gradient behind the weight, and that before the gate. -/
def dz (i : Fin 2048) (k : Fin 512) : EReal := ∑ j : Fin 512, dy (ix2 i j) * w (ix2 k j)
def da (i : Fin 2048) (k : Fin 512) : EReal :=
  dz w dy i k * (gate x g b i k + act x g b i k * gate x g b i k * (1 - gate x g b i k))

/-- The four gradients. -/
def dx (y : Sx.Idx) : EReal :=
  LnRow.grad len (fun k : Fin 512 => x (ix2 (y 0) k)) (fun k => da x g b w dy (y 0) k * g (ix2 0 k)) (y 1)
def dg (y : Sg.Idx) : EReal := ∑ i : Fin 2048, da x g b w dy i (y 1) * hat x i (y 1)
def db (y : Sg.Idx) : EReal := ∑ i : Fin 2048, da x g b w dy i (y 1)
def dw (y : Sw.Idx) : EReal := ∑ i : Fin 2048, act x g b i (y 0) * gate x g b i (y 0) * dy (ix2 i (y 1))

end Spec

section Kernel

open Cert.Kernel17Ideal Cert.Kernel17Ideal.Gen

section Blocks

variable (x dy : FVec Ideal S256x512 .f32) (g b : FVec Ideal S1x512 .f32) (w : FVec Ideal S512x512 .bf16)

/-- The same, of a block of 256 rows. -/
def bhat (i : Fin 256) (k : Fin 512) : EReal := LnRow.hat len (fun k : Fin 512 => x (ix2 i k)) k
def bact (i : Fin 256) (k : Fin 512) : EReal := bhat x i k * g (ix2 0 k) + b (ix2 0 k)
def bgate (i : Fin 256) (k : Fin 512) : EReal := Ideal.logistic (bact x g b i k)
def bda (i : Fin 256) (k : Fin 512) : EReal :=
  (∑ j : Fin 512, dy (ix2 i j) * w (ix2 k j)) * (bgate x g b i k + bact x g b i k * bgate x g b i k * (1 - bgate x g b i k))

theorem pay5_apply (i j) : k0_pay5 (F := Ideal) x (ix2 i j) = LnRow.cen len (fun k : Fin 512 => x (ix2 i k)) j := by
  pointwise [k0_pay5]
  rfl

theorem pay6_apply (i z) : k0_pay6 (F := Ideal) x (ix2 i z) = NormRow.inv len (LnRow.cen len fun k : Fin 512 => x (ix2 i k)) := by
  pointwise [k0_pay6]
  simp only [pay5_apply]
  rfl

theorem pay7_apply (i j) : k0_pay7 (F := Ideal) x (ix2 i j) = bhat x i j := by
  pointwise [k0_pay7]
  rw [pay5_apply, pay6_apply]
  rfl

theorem pay8_apply (i j) : k0_pay8 (F := Ideal) x g b (ix2 i j) = bact x g b i j := by
  pointwise [k0_pay8]
  rw [pay7_apply]
  rfl

theorem pay9_apply (i j) : k0_pay9 (F := Ideal) x g b (ix2 i j) = bgate x g b i j := by
  pointwise [k0_pay9]
  rw [pay8_apply]
  rfl

theorem pay12_apply (i j) : k0_pay12 (F := Ideal) (k0_pay8 x g b) (k0_pay9 x g b) (k0_pay10 dy) w (ix2 i j) = bda x dy g b w i j := by
  pointwise [k0_pay12, k0_pay10]
  simp only [pay8_apply, pay9_apply, one_eq]
  rfl

theorem pay15_apply (i j) : k0_pay1 (F := Ideal) (k0_pay15 (k0_pay7 x) (k0_pay8 x g b) (k0_pay9 x g b) (k0_pay10 dy) w g) (k0_pay16 (k0_pay6 x)) (ix2 i j)
    = LnRow.grad len (fun k : Fin 512 => x (ix2 i k)) (fun k => bda x dy g b w i k * g (ix2 0 k)) j := by
  pointwise [k0_pay1, k0_pay15, k0_pay16]
  simp only [pay12_apply, pay7_apply, pay6_apply]
  rfl

theorem pay13_apply (old : FVec Ideal S1x512 .f32) (z j) :
    k0_pay13 (F := Ideal) (k0_pay7 x) (k0_pay8 x g b) (k0_pay9 x g b) (k0_pay10 dy) w old (ix2 z j)
      = old (ix2 z j) + ∑ i : Fin 256, bda x dy g b w i j * bhat x i j := by
  pointwise [k0_pay13]
  simp only [pay12_apply, pay7_apply]

theorem pay14_apply (old : FVec Ideal S1x512 .f32) (z j) :
    k0_pay14 (F := Ideal) (k0_pay8 x g b) (k0_pay9 x g b) (k0_pay10 dy) w old (ix2 z j) = old (ix2 z j) + ∑ i : Fin 256, bda x dy g b w i j := by
  pointwise [k0_pay14]
  simp only [pay12_apply]

theorem pay11_apply (old : FVec Ideal S512x512 .f32) (i j) :
    k0_pay11 (F := Ideal) x g b dy old (ix2 i j) = old (ix2 i j) + ∑ k : Fin 256, bact x g b k i * bgate x g b k i * dy (ix2 k j) := by
  pointwise [k0_pay11, k0_pay10]
  simp only [pay8_apply, pay9_apply]

theorem pay2_apply (y) : k0_pay2 (F := Ideal) y = (0 : EReal) := by
  pointwise [k0_pay2]

theorem pay3_apply (y) : k0_pay3 (F := Ideal) y = (0 : EReal) := by
  pointwise [k0_pay3]

theorem pay4_apply (y) : k0_pay4 (F := Ideal) y = (0 : EReal) := by
  pointwise [k0_pay4]

end Blocks

variable (m : (ℓ : Loc nD τ sig) → Buf (Elt Ideal) ℓ)

theorem idx : ∀ t : Fin cfg0.N, win0_0.index t = ![t.val, 0] ∧ win0_1.index t = ![0, 0] ∧ win0_2.index t = ![0, 0] ∧ win0_3.index t = ![0, 0] ∧ win0_4.index t = ![t.val, 0] ∧ win0_5.index t = ![t.val, 0] ∧ win0_6.index t = ![0, 0] ∧ win0_7.index t = ![0, 0] ∧ win0_8.index t = ![0, 0] :=
  (by decide +kernel : ∀ t : Fin grid0.N, _)

abbrev argX (c : Dev nD) : FVec Ideal S2048x512 .f32 := m ((c : Thread nD τ).loc main_arg0)
abbrev argG (c : Dev nD) : FVec Ideal S1x512 .f32 := m ((c : Thread nD τ).loc main_arg1)
abbrev argB (c : Dev nD) : FVec Ideal S1x512 .f32 := m ((c : Thread nD τ).loc main_arg2)
abbrev argW (c : Dev nD) : FVec Ideal S512x512 .bf16 := m ((c : Thread nD τ).loc main_arg3)
abbrev argY (c : Dev nD) : FVec Ideal S2048x512 .f32 := m ((c : Thread nD τ).loc main_arg4)

abbrev blkX (c : Dev nD) (t : Fin cfg0.N) : FVec Ideal S256x512 .f32 := iblk m c 0 t
abbrev blkG (c : Dev nD) (t : Fin cfg0.N) : FVec Ideal S1x512 .f32 := iblk m c 1 t
abbrev blkB (c : Dev nD) (t : Fin cfg0.N) : FVec Ideal S1x512 .f32 := iblk m c 2 t
abbrev blkW (c : Dev nD) (t : Fin cfg0.N) : FVec Ideal S512x512 .bf16 := iblk m c 3 t
abbrev blkY (c : Dev nD) (t : Fin cfg0.N) : FVec Ideal S256x512 .f32 := iblk m c 4 t

/-- The row of the array that a row of a point's block is. -/
abbrev rw_ (t : Fin cfg0.N) (i : Fin 256) : Fin 2048 := ⟨t.val * 256 + i.val, by have : t.val < 8 := t.isLt; omega⟩

theorem blkX_apply (c : Dev nD) (t : Fin cfg0.N) (i k) : blkX m c t (ix2 i k) = argX m c (ix2 (rw_ t i) k) := by
  blk_point [iblk, V, idx t]
theorem blkG_apply (c : Dev nD) (t : Fin cfg0.N) (k) : blkG m c t (ix2 0 k) = argG m c (ix2 0 k) := by
  blk_point [iblk, V, idx t]
theorem blkB_apply (c : Dev nD) (t : Fin cfg0.N) (k) : blkB m c t (ix2 0 k) = argB m c (ix2 0 k) := by
  blk_point [iblk, V, idx t]
theorem blkW_apply (c : Dev nD) (t : Fin cfg0.N) (i k) : blkW m c t (ix2 i k) = argW m c (ix2 i k) := by
  blk_point [iblk, V, idx t]
theorem blkY_apply (c : Dev nD) (t : Fin cfg0.N) (i k) : blkY m c t (ix2 i k) = argY m c (ix2 (rw_ t i) k) := by
  blk_point [iblk, V, idx t]

theorem bhat_eq (c : Dev nD) (t : Fin cfg0.N) (i k) : bhat (blkX m c t) i k = hat (argX m c) (rw_ t i) k := by
  unfold bhat
  simp only [blkX_apply]
  rfl

theorem bact_eq (c : Dev nD) (t : Fin cfg0.N) (i k) :
    bact (blkX m c t) (blkG m c t) (blkB m c t) i k = act (argX m c) (argG m c) (argB m c) (rw_ t i) k := by
  rw [bact, bhat_eq, blkG_apply, blkB_apply]
  rfl

theorem bgate_eq (c : Dev nD) (t : Fin cfg0.N) (i k) :
    bgate (blkX m c t) (blkG m c t) (blkB m c t) i k = gate (argX m c) (argG m c) (argB m c) (rw_ t i) k := by
  rw [bgate, bact_eq]
  rfl

theorem bda_eq (c : Dev nD) (t : Fin cfg0.N) (i k) : bda (blkX m c t) (blkY m c t) (blkG m c t) (blkB m c t) (blkW m c t) i k
    = da (argX m c) (argG m c) (argB m c) (argW m c) (argY m c) (rw_ t i) k := by
  unfold bda
  simp only [bact_eq, bgate_eq, blkY_apply, blkW_apply]
  rfl

theorem keyX (c : Dev nD) (t : Fin cfg0.N) (y : S256x512.Idx) :
    k0_pay1 (F := Ideal) (k0_pay15 (k0_pay7 (blkX m c t)) (k0_pay8 (blkX m c t) (blkG m c t) (blkB m c t))
      (k0_pay9 (blkX m c t) (blkG m c t) (blkB m c t)) (k0_pay10 (blkY m c t)) (blkW m c t) (blkG m c t)) (k0_pay16 (k0_pay6 (blkX m c t))) y
      = dx (argX m c) (argG m c) (argB m c) (argW m c) (argY m c) (ix2 (rw_ t (y 0)) (y 1)) := by
  obtain ⟨i, j, rfl⟩ : ∃ i j, y = ix2 i j := ⟨y 0, y 1, (ix2_eta y).symm⟩
  rw [pay15_apply]
  simp only [bda_eq, blkX_apply, blkG_apply]
  rfl

/-- A point's parts of the accumulated gradients. -/
abbrev termG (c : Dev nD) (t : Fin cfg0.N) (y : S1x512.Idx) : EReal :=
  ∑ i : Fin 256, da (argX m c) (argG m c) (argB m c) (argW m c) (argY m c) (rw_ t i) (y 1) * hat (argX m c) (rw_ t i) (y 1)
abbrev termB (c : Dev nD) (t : Fin cfg0.N) (y : S1x512.Idx) : EReal :=
  ∑ i : Fin 256, da (argX m c) (argG m c) (argB m c) (argW m c) (argY m c) (rw_ t i) (y 1)
abbrev termW (c : Dev nD) (t : Fin cfg0.N) (y : S512x512.Idx) : EReal :=
  ∑ i : Fin 256, act (argX m c) (argG m c) (argB m c) (rw_ t i) (y 0) * gate (argX m c) (argG m c) (argB m c) (rw_ t i) (y 0)
    * argY m c (ix2 (rw_ t i) (y 1))

theorem keyG (c : Dev nD) (t : Fin cfg0.N) (old : FVec Ideal S1x512 .f32) (y : S1x512.Idx) :
    k0_pay13 (F := Ideal) (k0_pay7 (blkX m c t)) (k0_pay8 (blkX m c t) (blkG m c t) (blkB m c t))
      (k0_pay9 (blkX m c t) (blkG m c t) (blkB m c t)) (k0_pay10 (blkY m c t)) (blkW m c t) old y = old y + termG m c t y := by
  obtain ⟨i, j, rfl⟩ : ∃ i j, y = ix2 i j := ⟨y 0, y 1, (ix2_eta y).symm⟩
  rw [pay13_apply]
  simp only [bda_eq, bhat_eq]
  rfl

theorem keyB (c : Dev nD) (t : Fin cfg0.N) (old : FVec Ideal S1x512 .f32) (y : S1x512.Idx) :
    k0_pay14 (F := Ideal) (k0_pay8 (blkX m c t) (blkG m c t) (blkB m c t))
      (k0_pay9 (blkX m c t) (blkG m c t) (blkB m c t)) (k0_pay10 (blkY m c t)) (blkW m c t) old y = old y + termB m c t y := by
  obtain ⟨i, j, rfl⟩ : ∃ i j, y = ix2 i j := ⟨y 0, y 1, (ix2_eta y).symm⟩
  rw [pay14_apply]
  simp only [bda_eq]
  rfl

theorem keyW (c : Dev nD) (t : Fin cfg0.N) (old : FVec Ideal S512x512 .f32) (y : S512x512.Idx) :
    k0_pay11 (F := Ideal) (blkX m c t) (blkG m c t) (blkB m c t) (blkY m c t) old y = old y + termW m c t y := by
  obtain ⟨i, j, rfl⟩ : ∃ i j, y = ix2 i j := ⟨y 0, y 1, (ix2_eta y).symm⟩
  rw [pay11_apply]
  simp only [bact_eq, bgate_eq, blkY_apply]
  rfl

theorem pointX (c : Dev nD) (t : Fin cfg0.N) (y : S256x512.Idx) : (outsAt0 m c t.val t.isLt).1 y
    = dx (argX m c) (argG m c) (argB m c) (argW m c) (argY m c) (ix2 (rw_ t (y 0)) (y 1)) := by
  by_cases h : t.val % 8 = 0
  · rw [outsAt0_A m c t h]
    frame_out
    exact keyX m c t y
  · rw [outsAt0_B m c t h]
    frame_out
    exact keyX m c t y

theorem firstG (c : Dev nD) (t : Fin cfg0.N) (h : t.val % 8 = 0) (y : S1x512.Idx) :
    (outsAt0 m c t.val t.isLt).2.1 y = 0 + termG m c t y := by
  rw [outsAt0_A m c t h]
  frame_out
  exact (keyG m c t _ y).trans (congrArg (· + _) (pay2_apply y))

theorem nextG (c : Dev nD) (t : Fin cfg0.N) (h : ¬t.val % 8 = 0) (y : S1x512.Idx) :
    (outsAt0 m c t.val t.isLt).2.1 y
      = (outsAt0 m c (t.val - 1) (Nat.lt_of_le_of_lt (Nat.sub_le _ _) t.isLt)).2.1 y + termG m c t y := by
  rw [outsAt0_B m c t h]
  frame_out
  exact keyG m c t _ y

theorem firstB (c : Dev nD) (t : Fin cfg0.N) (h : t.val % 8 = 0) (y : S1x512.Idx) :
    (outsAt0 m c t.val t.isLt).2.2.1 y = 0 + termB m c t y := by
  rw [outsAt0_A m c t h]
  frame_out
  exact (keyB m c t _ y).trans (congrArg (· + _) (pay3_apply y))

theorem nextB (c : Dev nD) (t : Fin cfg0.N) (h : ¬t.val % 8 = 0) (y : S1x512.Idx) :
    (outsAt0 m c t.val t.isLt).2.2.1 y
      = (outsAt0 m c (t.val - 1) (Nat.lt_of_le_of_lt (Nat.sub_le _ _) t.isLt)).2.2.1 y + termB m c t y := by
  rw [outsAt0_B m c t h]
  frame_out
  exact keyB m c t _ y

theorem firstW (c : Dev nD) (t : Fin cfg0.N) (h : t.val % 8 = 0) (y : S512x512.Idx) :
    (outsAt0 m c t.val t.isLt).2.2.2 y = 0 + termW m c t y := by
  rw [outsAt0_A m c t h]
  frame_out
  exact (keyW m c t _ y).trans (congrArg (· + _) (pay4_apply y))

theorem nextW (c : Dev nD) (t : Fin cfg0.N) (h : ¬t.val % 8 = 0) (y : S512x512.Idx) :
    (outsAt0 m c t.val t.isLt).2.2.2 y
      = (outsAt0 m c (t.val - 1) (Nat.lt_of_le_of_lt (Nat.sub_le _ _) t.isLt)).2.2.2 y + termW m c t y := by
  rw [outsAt0_B m c t h]
  frame_out
  exact keyW m c t _ y

theorem emb5 (t : Fin cfg0.N) (y : S256x512.Idx) : (win0_5.blk t).view.emb y = ix2 (rw_ t (y 0)) (y 1) := by
  blk_ext [idx t]
theorem emb6 (t : Fin cfg0.N) (y : S1x512.Idx) : (win0_6.blk t).view.emb y = y := by
  blk_ext [idx t]
theorem emb7 (t : Fin cfg0.N) (y : S1x512.Idx) : (win0_7.blk t).view.emb y = y := by
  blk_ext [idx t]
theorem emb8 (t : Fin cfg0.N) (y : S512x512.Idx) : (win0_8.blk t).view.emb y = y := by
  blk_ext [idx t]

theorem finalX (c : Dev nD) : (dats m 0 c).arrAt 5 (cfgs 0).N = dx (argX m c) (argG m c) (argB m c) (argW m c) (argY m c) := by
  refine (dats m 0 c).arrAt_eq_of_covers 5 _ (by decide +kernel) fun t hf y => ?_
  blk_simp
  rw [after0_5, pointX m c t y]
  exact congrArg _ (emb5 t y).symm

theorem row_at (t : Fin cfg0.N) (s : Fin 8) (k : Fin 256) (h) (hl) : rw_ ⟨8 * (t.val / 8) + s.val, h⟩ k = ⟨s.val * 256 + k.val, hl⟩ :=
  Fin.ext (by show (8 * (t.val / 8) + s.val) * 256 + k.val = s.val * 256 + k.val; have : t.val < 8 := t.isLt; omega)

theorem finalG (c : Dev nD) : (dats m 0 c).arrAt 6 (cfgs 0).N = dg (argX m c) (argG m c) (argB m c) (argW m c) (argY m c) := by
  refine (dats m 0 c).arrAt_eq_of_covers 6 _ (by decide +kernel) fun t hf y => ?_
  blk_simp
  have h3 := (flush0_6 t).mp hf
  rw [after0_6, Pipeline.eq_sum_fin_of_reset_step_apply_of_flush (fun n h => (outsAt0 m c n h).2.1) 8
    (fun _ => 0) (termG m c) (firstG m c) (nextG m c) t h3 y, zero_add]
  refine Eq.trans ?_ (congrArg (dg (argX m c) (argG m c) (argB m c) (argW m c) (argY m c)) (emb6 t y).symm)
  refine Fin.sum_mul_add_congr fun s k hl => ?_
  rw [row_at t s k (Pipeline.run_point_lt_of_flush t h3 s) hl]

theorem finalB (c : Dev nD) : (dats m 0 c).arrAt 7 (cfgs 0).N = db (argX m c) (argG m c) (argB m c) (argW m c) (argY m c) := by
  refine (dats m 0 c).arrAt_eq_of_covers 7 _ (by decide +kernel) fun t hf y => ?_
  blk_simp
  have h3 := (flush0_7 t).mp hf
  rw [after0_7, Pipeline.eq_sum_fin_of_reset_step_apply_of_flush (fun n h => (outsAt0 m c n h).2.2.1) 8
    (fun _ => 0) (termB m c) (firstB m c) (nextB m c) t h3 y, zero_add]
  refine Eq.trans ?_ (congrArg (db (argX m c) (argG m c) (argB m c) (argW m c) (argY m c)) (emb7 t y).symm)
  refine Fin.sum_mul_add_congr fun s k hl => ?_
  rw [row_at t s k (Pipeline.run_point_lt_of_flush t h3 s) hl]

theorem finalW (c : Dev nD) : (dats m 0 c).arrAt 8 (cfgs 0).N = dw (argX m c) (argG m c) (argB m c) (argY m c) := by
  refine (dats m 0 c).arrAt_eq_of_covers 8 _ (by decide +kernel) fun t hf y => ?_
  blk_simp
  have h3 := (flush0_8 t).mp hf
  rw [after0_8, Pipeline.eq_sum_fin_of_reset_step_apply_of_flush (fun n h => (outsAt0 m c n h).2.2.2) 8
    (fun _ => 0) (termW m c) (firstW m c) (nextW m c) t h3 y, zero_add]
  refine Eq.trans ?_ (congrArg (dw (argX m c) (argG m c) (argB m c) (argY m c)) (emb8 t y).symm)
  refine Fin.sum_mul_add_congr fun s k hl => ?_
  rw [row_at t s k (Pipeline.run_point_lt_of_flush t h3 s) hl]

end Kernel

section Reference

open Cert.Reference17Ideal Cert.Reference17Ideal.Gen

section Stages

variable (x : FVec Ideal S2048x512 .f32) (g b : FVec Ideal S1x512 .f32) (w : FVec Ideal S512x512 .bf16) (dy : FVec Ideal S2048x512 .f32)

/-- The reference's centred array, its mean square and small number, the normed array, and that with gain and offset. -/
def rcen : FVec Ideal S2048x512 .f32 :=
  subf x (broadcastInDim S2048x512 ![0, 1] bcast_S2048x1_S2048x512_0_1 (Host.divf (broadcastInDim S2048x1 ![0] bcast_S2048_S2048x1_0
    (Host.reduceAdd x (constant S_ .f32 0x00000000#32) reducesTo_S2048x512_S2048_d1 h_S_)) (broadcastInDim S2048x1 ![] bcast_S_S2048x1 (constant S_ .f32 0x44000000#32))))
def rmsq : FVec Ideal S2048x1 .f32 :=
  addf (Host.divf (broadcastInDim S2048x1 ![0] bcast_S2048_S2048x1_0 (Host.reduceAdd (mulf (rcen x) (rcen x)) (constant S_ .f32 0x00000000#32) reducesTo_S2048x512_S2048_d1 h_S_))
    (broadcastInDim S2048x1 ![] bcast_S_S2048x1 (constant S_ .f32 0x44000000#32))) (broadcastInDim S2048x1 ![] bcast_S_S2048x1 (constant S_ .f32 0x358637BD#32))
def rhat : FVec Ideal S2048x512 .f32 :=
  mulf (rcen x) (broadcastInDim S2048x512 ![0, 1] bcast_S2048x1_S2048x512_0_1 (Host.rsqrt (rmsq x)))
def ract : FVec Ideal S2048x512 .f32 :=
  addf (mulf (rhat x) (broadcastInDim S2048x512 ![0, 1] bcast_S1x512_S2048x512_0_1 g)) (broadcastInDim S2048x512 ![0, 1] bcast_S1x512_S2048x512_0_1 b)

/-- The logistic function, the gradient behind the weight, that before the gate and that of the normed array. -/
def rgate (a : FVec Ideal S2048x512 .f32) : FVec Ideal S2048x512 .f32 :=
  Host.divf (broadcastInDim S2048x512 ![] bcast_S_S2048x512 (constant S_ .f32 0x3F800000#32)) (addf (broadcastInDim S2048x512 ![] bcast_S_S2048x512 (constant S_ .f32 0x3F800000#32)) (Host.exp (Host.negf a)))
def rdz : FVec Ideal S2048x512 .f32 :=
  Host.dotGeneral dot_S2048x512_S512x512_S2048x512_1_1_0_0_n_n none dy (extf .f32 w bitsLt_bf16_f32)
def rda (a d : FVec Ideal S2048x512 .f32) : FVec Ideal S2048x512 .f32 :=
  addf (mulf d (rgate a)) (mulf (mulf a d) (mulf (rgate a) (subf (broadcastInDim S2048x512 ![] bcast_S_S2048x512 (constant S_ .f32 0x3F800000#32)) (rgate a))))
def rdh (a : FVec Ideal S2048x512 .f32) : FVec Ideal S2048x512 .f32 :=
  mulf a (broadcastInDim S2048x512 ![0, 1] bcast_S1x512_S2048x512_0_1 g)

/-- The gradient of the mean square, with the factor of the mean. -/
def rdmsq (c : FVec Ideal S2048x512 .f32) (z : FVec Ideal S2048x1 .f32) (d : FVec Ideal S2048x512 .f32) : FVec Ideal S2048x512 .f32 :=
  broadcastInDim S2048x512 ![0] bcast_S2048_S2048x512_0 (Host.reduceAdd (Host.divf (mulf (shapeCast _ (Host.reduceAdd (mulf c d)
    (constant S_ .f32 0x00000000#32) reducesTo_S2048x512_S2048_d1 h_S_) shapeCasts_S2048_S2048x1)
    (mulf (broadcastInDim S2048x1 ![] bcast_S_S2048x1 (constant S_ .f32 0xBF000000#32)) (Host.divf (Host.rsqrt z) z)))
    (broadcastInDim S2048x1 ![] bcast_S_S2048x1 (constant S_ .f32 0x44000000#32))) (constant S_ .f32 0x00000000#32) reducesTo_S2048x1_S2048_d1 h_S_)

/-- The gradient of the centred array. -/
def rdc (d : FVec Ideal S2048x512 .f32) : FVec Ideal S2048x512 .f32 :=
  addf (addf (mulf d (broadcastInDim S2048x512 ![0, 1] bcast_S2048x1_S2048x512_0_1 (Host.rsqrt (rmsq x)))) (mulf (rcen x) (rdmsq (rcen x) (rmsq x) d)))
    (mulf (rdmsq (rcen x) (rmsq x) d) (rcen x))

/-- The reference's four results. -/
def rdx (d : FVec Ideal S2048x512 .f32) : FVec Ideal S2048x512 .f32 :=
  addf (rdc x d) (broadcastInDim S2048x512 ![0] bcast_S2048_S2048x512_0 (Host.reduceAdd (Host.divf (shapeCast _ (Host.reduceAdd (Host.negf (rdc x d))
    (constant S_ .f32 0x00000000#32) reducesTo_S2048x512_S2048_d1 h_S_) shapeCasts_S2048_S2048x1)
    (broadcastInDim S2048x1 ![] bcast_S_S2048x1 (constant S_ .f32 0x44000000#32))) (constant S_ .f32 0x00000000#32) reducesTo_S2048x1_S2048_d1 h_S_))
def rdg (d : FVec Ideal S2048x512 .f32) : FVec Ideal S1x512 .f32 :=
  shapeCast _ (Host.reduceAdd (mulf (rhat x) d) (constant S_ .f32 0x00000000#32) reducesTo_S2048x512_S512_d0 h_S_) shapeCasts_S512_S1x512
def rdb (d : FVec Ideal S2048x512 .f32) : FVec Ideal S1x512 .f32 :=
  shapeCast _ (Host.reduceAdd d (constant S_ .f32 0x00000000#32) reducesTo_S2048x512_S512_d0 h_S_) shapeCasts_S512_S1x512
def rdw (a : FVec Ideal S2048x512 .f32) : FVec Ideal S512x512 .f32 :=
  transpose S512x512 [1, 0] (Host.dotGeneral dot_S2048x512_S2048x512_S512x512_0_0_1_1_n_n none dy (mulf a (rgate a))) transposes_S512x512_S512x512_1_0

theorem rcen_apply (i j) : rcen x (ix2 i j) = LnRow.cen len (fun k : Fin 512 => x (ix2 i k)) j := by
  pointwise [rcen]
  rfl

theorem rmsq_apply (i z) : rmsq x (ix2 i z) = NormRow.msq len (LnRow.cen len fun k : Fin 512 => x (ix2 i k)) := by
  pointwise [rmsq]
  simp only [rcen_apply]
  rfl

theorem rhat_apply (i j) : rhat x (ix2 i j) = hat x i j := by
  pointwise [rhat]
  rw [rcen_apply, rmsq_apply]
  rfl

theorem ract_apply (i j) : ract x g b (ix2 i j) = act x g b i j := by
  pointwise [ract]
  rw [rhat_apply]
  rfl

theorem rgate_apply (a : FVec Ideal S2048x512 .f32) (y) : rgate a y = Ideal.logistic (a y) := by
  pointwise [rgate]
  rfl

theorem rdz_apply (i j) : rdz w dy (ix2 i j) = dz w dy i j := by
  pointwise [rdz]
  rfl

variable (hw : ∀ y, ∃ r : ℝ, w y = r) (hy : ∀ y, ∃ r : ℝ, dy y = r) (hg : ∀ y, ∃ r : ℝ, g y = r)

include hw hy in
/-- The gradient behind the weight is finite. -/
theorem dz_real (i j) : ∃ r : ℝ, dz w dy i j = r := by
  choose u hu using hw
  choose v hv using hy
  refine ⟨∑ k : Fin 512, v (ix2 i k) * u (ix2 j k), ?_⟩
  rw [← SoftmaxRow.sum_real]
  exact Finset.sum_congr rfl fun k _ => by rw [hu, hv, ← EReal.coe_mul]

include hw hy in
theorem da_real (i j) : ∃ r : ℝ, da x g b w dy i j = r := by
  obtain ⟨p, hp⟩ := dz_real w dy hw hy i j
  obtain ⟨r, hr, -⟩ := LnRow.gate (act x g b i j) p
  exact ⟨r, by rw [da, hp]; exact hr⟩

include hw hy in
theorem rda_apply (i j) : rda (ract x g b) (rdz w dy) (ix2 i j) = da x g b w dy i j := by
  pointwise [rda]
  simp only [rgate_apply, ract_apply, rdz_apply, one_eq]
  obtain ⟨p, hp⟩ := dz_real w dy hw hy i j
  obtain ⟨r, hr, hr'⟩ := LnRow.gate (act x g b i j) p
  rw [da, hp]
  exact hr'.trans hr.symm

theorem rdmsq_apply (d : FVec Ideal S2048x512 .f32) (i j) : rdmsq (rcen x) (rmsq x) d (ix2 i j)
    = NormRow.dmsq len (LnRow.cen len fun k : Fin 512 => x (ix2 i k)) (fun k => d (ix2 i k)) := by
  pointwise [rdmsq]
  simp only [rmsq_apply, rcen_apply, Fin.sum_univ_one]
  rfl

theorem rdc_apply (d : FVec Ideal S2048x512 .f32) (i j) : rdc x d (ix2 i j)
    = NormRow.gradChain len (LnRow.cen len fun k : Fin 512 => x (ix2 i k)) (fun k => d (ix2 i k)) j := by
  pointwise [rdc]
  simp only [rmsq_apply, rcen_apply, rdmsq_apply]
  exact add_assoc _ _ _

theorem rdx_apply (d : FVec Ideal S2048x512 .f32) (i j) : rdx x d (ix2 i j)
    = LnRow.gradChain len (fun k : Fin 512 => x (ix2 i k)) (fun k => d (ix2 i k)) j := by
  pointwise [rdx]
  simp only [rdc_apply, Fin.sum_univ_one]
  rfl

include hw hy hg in
theorem rdx_eq : rdx x (rdh g (rda (ract x g b) (rdz w dy))) = dx x g b w dy := by
  funext y
  obtain ⟨i, j, rfl⟩ : ∃ i j, y = ix2 i j := ⟨y 0, y 1, (ix2_eta y).symm⟩
  have e : ∀ k, rdh g (rda (ract x g b) (rdz w dy)) (ix2 i k) = da x g b w dy i k * g (ix2 0 k) := fun k => by
    pointwise [rdh]
    rw [rda_apply x g b w dy hw hy]
  rw [rdx_apply]
  simp only [e]
  refine LnRow.gradChain_eq _ _ 512 (by norm_num) len_eq (by norm_num) (fun k => ?_) j
  obtain ⟨p, hp⟩ := da_real x g b w dy hw hy i k
  obtain ⟨q, hq⟩ := hg (ix2 0 k)
  exact ⟨p * q, by rw [hp, hq, ← EReal.coe_mul]⟩

include hw hy in
theorem rdg_eq : rdg x (rda (ract x g b) (rdz w dy)) = dg x g b w dy := by
  funext y
  obtain ⟨z, j, rfl⟩ : ∃ z j, y = ix2 z j := ⟨y 0, y 1, (ix2_eta y).symm⟩
  pointwise [rdg]
  simp only [rda_apply x g b w dy hw hy, rhat_apply]
  exact Finset.sum_congr rfl fun i _ => mul_comm _ _

include hw hy in
theorem rdb_eq : rdb (rda (ract x g b) (rdz w dy)) = db x g b w dy := by
  funext y
  obtain ⟨z, j, rfl⟩ : ∃ z j, y = ix2 z j := ⟨y 0, y 1, (ix2_eta y).symm⟩
  pointwise [rdb]
  simp only [rda_apply x g b w dy hw hy]
  rfl

theorem rdw_eq : rdw dy (ract x g b) = dw x g b dy := by
  funext y
  obtain ⟨i, j, rfl⟩ : ∃ i j, y = ix2 i j := ⟨y 0, y 1, (ix2_eta y).symm⟩
  pointwise [rdw]
  simp only [rgate_apply, ract_apply]
  exact Finset.sum_congr rfl fun i _ => mul_comm _ _

/-- What the precondition says of the arguments. -/
theorem finite (h : Cert.Pre_finite_conv.fn (F := Ideal) x g b w dy = fun _ => 1#1) :
    (∀ y, ∃ r : ℝ, g y = r) ∧ (∀ y, ∃ r : ℝ, w y = r) ∧ ∀ y, ∃ r : ℝ, dy y = r := by
  have e := congrFun h ix0
  dsimp only [Cert.Pre_finite_conv.fn] at e
  obtain ⟨e1, e3⟩ := IntOp.andi_eq_one.1 e
  obtain ⟨e1, e2⟩ := IntOp.andi_eq_one.1 e1
  exact ⟨fun y => Xatt.real_of_abs (g y) (Host.reduce_andi_all _ _ _ _ ix0 e1 y),
    fun y => Xatt.real_of_abs (w y) (Host.reduce_andi_all _ _ _ _ ix0 e2 y),
    fun y => Xatt.real_of_abs (dy y) (Host.reduce_andi_all _ _ _ _ ix0 e3 y)⟩

end Stages

variable (m : (ℓ : Loc nD τ sig) → Buf (Elt Ideal) ℓ) (ρ : Dev nD → PrngReg)

/-- The reference's run, its four results by their stages. -/
theorem run_stages : θ_run defs (onTc (τ := τ) (main (F := Ideal))) ⟨m, fun _ => 0, ρ⟩ fun r => ∀ c : Dev nD,
    r.2.mem ((c.tc : Thread nD τ).loc main_v58) = rdx (m ((c.tc : Thread nD τ).loc main_arg0)) (rdh (m ((c.tc : Thread nD τ).loc main_arg1))
        (rda (ract (m ((c.tc : Thread nD τ).loc main_arg0)) (m ((c.tc : Thread nD τ).loc main_arg1)) (m ((c.tc : Thread nD τ).loc main_arg2))) (rdz (m ((c.tc : Thread nD τ).loc main_arg3)) (m ((c.tc : Thread nD τ).loc main_arg4)))))
    ∧ r.2.mem ((c.tc : Thread nD τ).loc main_v34) = rdg (m ((c.tc : Thread nD τ).loc main_arg0))
        (rda (ract (m ((c.tc : Thread nD τ).loc main_arg0)) (m ((c.tc : Thread nD τ).loc main_arg1)) (m ((c.tc : Thread nD τ).loc main_arg2))) (rdz (m ((c.tc : Thread nD τ).loc main_arg3)) (m ((c.tc : Thread nD τ).loc main_arg4))))
    ∧ r.2.mem ((c.tc : Thread nD τ).loc main_v31) = rdb
        (rda (ract (m ((c.tc : Thread nD τ).loc main_arg0)) (m ((c.tc : Thread nD τ).loc main_arg1)) (m ((c.tc : Thread nD τ).loc main_arg2))) (rdz (m ((c.tc : Thread nD τ).loc main_arg3)) (m ((c.tc : Thread nD τ).loc main_arg4))))
    ∧ r.2.mem ((c.tc : Thread nD τ).loc main_v27) = rdw (m ((c.tc : Thread nD τ).loc main_arg4)) (ract (m ((c.tc : Thread nD τ).loc main_arg0)) (m ((c.tc : Thread nD τ).loc main_arg1)) (m ((c.tc : Thread nD τ).loc main_arg2)))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) := by
  refine (θ_run _ _ _).mono (fun r h c => ⟨(h c).1.trans ?_, (h c).2.1.trans ?_, (h c).2.2.1.trans ?_, (h c).2.2.2.1.trans ?_, (h c).2.2.2.2⟩)
    (Cert.Reference17Ideal.Value.run m ρ)
  · unfold Cert.Reference17Ideal.Value.res_main_v58 rdx rdc rdmsq rdh rda rgate rdz ract rhat rmsq rcen
    rfl
  · unfold Cert.Reference17Ideal.Value.res_main_v34 rdg rda rgate rdz ract rhat rmsq rcen
    rfl
  · unfold Cert.Reference17Ideal.Value.res_main_v31 rdb rda rgate rdz ract rhat rmsq rcen
    rfl
  · unfold rdw rgate ract rhat rmsq rcen
    rfl

end Reference

/-- The kernel and the reference leave the same four gradients. -/
theorem algebraic : Cert.algebraic_Kernel17Ideal_Reference17Ideal_pre_finite_conv := by
  pair_intro
  · run_from Cert.Kernel17Ideal.Value.run_blocks m g
  · run_from run_stages m' g'
    all_goals obtain ⟨hg, hw, hy⟩ := finite _ _ _ _ _ (hpre c)
    · exact (rdx_eq _ _ _ _ _ hw hy hg).trans (finalX m c).symm
    · exact (rdg_eq _ _ _ _ _ hw hy).trans (finalG m c).symm
    · exact (rdb_eq _ _ _ _ _ hw hy).trans (finalB m c).symm
    · exact (rdw_eq _ _ _ _).trans (finalW m c).symm

end Cert.Proof.ConvBwd

end
-- ==== Proof.XattFwd.lean ====
/- Hand-written, untrusted: THE CROSS-ATTENTION's FORWARD PASS (`Kernel18`). The sixteen grid points take the four heads in turn
   and, for each, the four tiles of 512 query rows; the scores of a row meet all 256 keys at once. The kernel multiplies the row's
   exponentials by the values and divides the product by the exponentials' sum; the reference divides the exponentials first. The
   two agree where that sum is a positive real number, as it is where the queries and the keys are finite. -/
module

public import proofs.«01_k».proof.Proof.Gen.Kernel18Ideal.Value
public import proofs.«01_k».proof.Proof.Gen.Reference18Ideal.Run
public import proofs.«01_k».proof.Proof.Gen.Pre_finite_scores
public import Idealize.ShloMosaic.Lib.Pipeline.ValueKit
public import proofs.«01_k».proof.Proof.Xatt

@[expose] public section

set_option maxRecDepth 16384

noncomputable section

namespace Cert.Proof.XattFwd

open Idealize.ShloMosaic Idealize.ShloMosaic.TcCoe Idealize.SL.Sem
open Idealize.ShloMosaic.Pipeline (Dat)
open SoftmaxRow (num den weight top)
open XattSpec (scale col row)

/-- Weighted values divided by the sum of the weights, and values under the divided weights. -/
theorem div_sum {n : ℕ} (s x : Fin n → EReal) (hs : ∀ j, ∃ r : ℝ, s j = r) (j : Fin n) :
    Ideal.div (∑ j, num s j * x j) (den s) = ∑ j, weight s j * x j := by
  obtain ⟨z, hz, hden⟩ := SoftmaxRow.den_real hs j
  rw [hden, Ideal.div_coe hz.ne', one_div, mul_comm, ← SoftmaxRow.mul_sum _ (inv_nonneg.mpr hz.le)]
  refine Finset.sum_congr rfl fun k _ => ?_
  rw [weight, hden, Ideal.div_coe hz.ne', one_div, mul_assoc, mul_left_comm]

/-- The result, element by element. -/
def attend (q : XattSpec.Rows.Idx → EReal) (k v : XattSpec.Keys.Idx → EReal) (y : XattSpec.Rows.Idx) : EReal :=
  ∑ j, weight (row q k (XattSpec.head (y 1)) (y 0)) j * v (ix2 j (y 1))

theorem attend_at (q : XattSpec.Rows.Idx → EReal) (k v : XattSpec.Keys.Idx → EReal) (i : Fin 2048) (h : Fin 4) (e : Fin 128) :
    attend q k v (ix2 i (col h e)) = ∑ j, weight (row q k h i) j * v (ix2 j (col h e)) := by
  show ∑ j, weight (row q k (XattSpec.head (col h e)) i) j * v (ix2 j (col h e)) = _
  rw [XattSpec.head_col]

section Kernel

open Cert.Kernel18Ideal Cert.Kernel18Ideal.Gen

/-- The named scale is the inverse of the root of 128. -/
theorem named_scale : Named.named (F := Ideal) κ "s" (φ := .f32) 0x3DB504F3#32 = scale :=
  IdealRules.named_const.ideal_named_scalar _ _ _ _ rfl

/-- The scores of a block's row. -/
def brow (q : FVec Ideal S512x128 .bf16) (k : FVec Ideal S256x128 .bf16) (i : Fin 512) (j : Fin 256) : EReal :=
  (∑ e : Fin 128, q (ix2 i e) * k (ix2 j e)) * scale

theorem pay1_apply (q : FVec Ideal S512x128 .bf16) (k v : FVec Ideal S256x128 .bf16) (i : Fin 512) (e : Fin 128) :
    k0_pay1 (F := Ideal) q k v (ix2 i e)
      = Ideal.div (∑ j : Fin 256, num (brow q k i) j * v (ix2 j e)) (den (brow q k i)) := by
  pointwise [k0_pay1]
  rw [named_scale]
  rfl

variable (m : (ℓ : Loc nD τ sig) → Buf (Elt Ideal) ℓ)

/-- Every window's block at every point. -/
theorem idx : ∀ t : Fin cfg0.N, win0_0.index t = ![t.val % 4, t.val / 4] ∧ win0_1.index t = ![0, t.val / 4]
    ∧ win0_2.index t = ![0, t.val / 4] ∧ win0_3.index t = ![t.val % 4, t.val / 4] :=
  (by decide +kernel : ∀ t : Fin grid0.N, _)

abbrev argQ (c : Dev nD) : FVec Ideal S2048x512 .bf16 := m ((c : Thread nD τ).loc main_arg0)
abbrev argK (c : Dev nD) : FVec Ideal S256x512 .bf16 := m ((c : Thread nD τ).loc main_arg1)
abbrev argV (c : Dev nD) : FVec Ideal S256x512 .bf16 := m ((c : Thread nD τ).loc main_arg2)

abbrev blkQ (c : Dev nD) (t : Fin cfg0.N) : FVec Ideal S512x128 .bf16 := iblk m c 0 t
abbrev blkK (c : Dev nD) (t : Fin cfg0.N) : FVec Ideal S256x128 .bf16 := iblk m c 1 t
abbrev blkV (c : Dev nD) (t : Fin cfg0.N) : FVec Ideal S256x128 .bf16 := iblk m c 2 t

/-- The head of a point. -/
abbrev hd (t : Fin cfg0.N) : Fin 4 := ⟨t.val / 4, by have : t.val < 16 := t.isLt; omega⟩

/-- The query row that a row of a point's block is. -/
abbrev rw_ (t : Fin cfg0.N) (i : Fin 512) : Fin 2048 := ⟨t.val % 4 * 512 + i.val, by omega⟩

theorem blkQ_apply (c : Dev nD) (t : Fin cfg0.N) (i : Fin 512) (e : Fin 128) :
    blkQ m c t (ix2 i e) = argQ m c (ix2 (rw_ t i) (col (hd t) e)) := by
  blk_point [iblk, V, idx t]

theorem blkK_apply (c : Dev nD) (t : Fin cfg0.N) (j : Fin 256) (e : Fin 128) :
    blkK m c t (ix2 j e) = argK m c (ix2 j (col (hd t) e)) := by
  blk_point [iblk, V, idx t]

theorem blkV_apply (c : Dev nD) (t : Fin cfg0.N) (j : Fin 256) (e : Fin 128) :
    blkV m c t (ix2 j e) = argV m c (ix2 j (col (hd t) e)) := by
  blk_point [iblk, V, idx t]

theorem brow_eq (c : Dev nD) (t : Fin cfg0.N) (i : Fin 512) :
    brow (blkQ m c t) (blkK m c t) i = row (argQ m c) (argK m c) (hd t) (rw_ t i) := by
  funext j
  simp only [brow, row, blkQ_apply, blkK_apply]

/-- A point's tile of the result, where the scores are real numbers. -/
theorem point (c : Dev nD) (hs : ∀ h i j, ∃ r : ℝ, row (argQ m c) (argK m c) h i j = r) (t : Fin cfg0.N) (y : S512x128.Idx) :
    k0_pay1 (F := Ideal) (blkQ m c t) (blkK m c t) (blkV m c t) y
      = attend (argQ m c) (argK m c) (argV m c) (ix2 (rw_ t (y 0)) (col (hd t) (y 1))) := by
  obtain ⟨i, e, rfl⟩ : ∃ i e, y = ix2 i e := ⟨y 0, y 1, (ix2_eta y).symm⟩
  show _ = attend (argQ m c) (argK m c) (argV m c) (ix2 (rw_ t i) (col (hd t) e))
  rw [pay1_apply, brow_eq, div_sum _ _ (hs _ _) 0, attend_at]
  exact Finset.sum_congr rfl fun j _ => congrArg (_ * ·) (blkV_apply m c t j e)

/-- Where an index of a point's block lies in the array. -/
theorem emb3 (t : Fin cfg0.N) (y : S512x128.Idx) : (win0_3.blk t).view.emb y = ix2 (rw_ t (y 0)) (col (hd t) (y 1)) := by
  blk_ext [idx t]

/-- The result array after the run, where the scores are real numbers. -/
theorem final (c : Dev nD) (hs : ∀ h i j, ∃ r : ℝ, row (argQ m c) (argK m c) h i j = r) : (dats m 0 c).arrAt 3 (cfgs 0).N
    = attend (argQ m c) (argK m c) (argV m c) := by
  refine (dats m 0 c).arrAt_eq_of_covers 3 _ (by decide +kernel) fun t hf y => ?_
  blk_simp
  rw [after0_3]
  unfold out0_3
  frame_out
  exact (point m c hs t y).trans (congrArg _ (emb3 t y).symm)

end Kernel

section Reference

open Cert.Reference18Ideal Cert.Reference18Ideal.Gen
open XattReference (Q K score expo)

variable (q : Q) (k v : K)

/-- The reference's result by its stages. -/
def mix (e : XattReference.Full) (v : K) : FVec Ideal S2048x512 .bf16 :=
  truncf .bf16 (shapeCast _ (transpose S2048x4x128 [2, 0, 1]
    (Host.dotGeneral dot_S256x4x128_S4x2048x256_S4x128x2048_0_2_2_1_1_0 none
      (shapeCast _ (extf .f32 v bitsLt_bf16_f32) shapeCasts_S256x512_S256x4x128)
      (Host.divf e (XattReference.wide (XattReference.total e))))
    transposes_S4x128x2048_S2048x4x128_2_0_1) shapeCasts_S2048x4x128_S2048x512) bitsLt_bf16_f32

theorem mix_apply (s : XattReference.Full) (y) : mix (expo s) v y
    = ∑ j, weight (fun j => s (ix3 (XattSpec.head (y 1)) (y 0) j)) j * v (ix2 j (y 1)) := by
  pointwise [mix, XattReference.wide, XattReference.total]
  refine Finset.sum_congr rfl fun i _ => ?_
  simp only [XattReference.expo_apply]
  rw [mul_comm]
  rfl

theorem mix_eq : mix (expo (score q k)) v = attend q k v := by
  funext y
  rw [mix_apply]
  have e : (fun j => score q k (ix3 (XattSpec.head (y 1)) (y 0) j)) = row q k (XattSpec.head (y 1)) (y 0) :=
    funext fun j => XattReference.score_apply q k _
  rw [e]
  rfl

/-- What the precondition says of the arguments. -/
theorem finite (h : Cert.Pre_finite_scores.fn (F := Ideal) q k v = fun _ => 1#1) :
    (∀ y, ∃ r : ℝ, q y = r) ∧ ∀ y, ∃ r : ℝ, k y = r := by
  have e := congrFun h ix0
  dsimp only [Cert.Pre_finite_scores.fn] at e
  obtain ⟨e1, e2⟩ := IntOp.andi_eq_one.1 e
  exact ⟨fun y => Xatt.real_of_abs (q y) (Host.reduce_andi_all _ _ _ _ ix0 e1 y),
    fun y => Xatt.real_of_abs (k y) (Host.reduce_andi_all _ _ _ _ ix0 e2 y)⟩

end Reference

/-- The kernel and the reference leave the same result. -/
theorem algebraic : Cert.algebraic_Kernel18Ideal_Reference18Ideal_pre_finite_scores := by
  pair_intro
  · run_from Cert.Kernel18Ideal.Value.run_blocks m g
  · run_from Cert.Reference18Ideal.Value.run m' g'
    obtain ⟨hq, hk⟩ := finite _ _ _ (hpre c)
    exact (mix_eq _ _ _).trans (final m c (XattSpec.row_real _ _ hq hk)).symm

end Cert.Proof.XattFwd

end
-- ==== Proof.XoDx.lean ====
/- Hand-written, untrusted: THE GRADIENT AT THE INPUT OF THE CROSS-ATTENTION's LAST PROJECTION (`Kernel19`). The weight is stored as
   four stacked pieces of 512 columns each. For every block of 1024 rows of the result the kernel takes four grid points, one for
   each piece, and adds up the four products; the last of the four writes the sum out. The reference lays the pieces side by side
   and takes one product. At `Ideal` both are the sum over all 2048 columns. -/
module

public import proofs.«01_k».proof.Proof.Gen.Kernel19Ideal.Value
public import proofs.«01_k».proof.Proof.Gen.Reference19Ideal.Run
public import Idealize.ShloMosaic.Lib.Pipeline.ValueKit
public import Idealize.ShloMosaic.Lib.Claim
public import proofs.«01_k».proof.Defs

@[expose] public section

set_option maxRecDepth 16384

noncomputable section

namespace Cert.Proof.XoDx

open Cert.Kernel19Ideal Cert.Kernel19Ideal.Gen
open Idealize.ShloMosaic Idealize.ShloMosaic.TcCoe Idealize.SL.Sem
open Idealize.ShloMosaic.Pipeline (Dat)

variable (m : (ℓ : Loc nD τ sig) → Buf (Elt Ideal) ℓ)

/-- The reference's result as a function of its two arguments. -/
abbrev spec (d : FVec Ideal S2048x2048 .f32) (w : FVec Ideal S4x512x512 .bf16) : FVec Ideal S2048x512 .f32 :=
  Host.dotGeneral Cert.Reference19Ideal.dot_S2048x2048_S512x2048_S2048x512_1_1_0_0_n_n none d
    (shapeCast Cert.Reference19Ideal.S512x2048
      (transpose Cert.Reference19Ideal.S512x4x512 [1, 0, 2] (extf .f32 w Cert.Reference19Ideal.Gen.bitsLt_bf16_f32) Cert.Reference19Ideal.Gen.transposes_S4x512x512_S512x4x512_1_0_2)
      Cert.Reference19Ideal.Gen.shapeCasts_S512x4x512_S512x2048)

/-- Every window's block at every point. -/
theorem idx : ∀ t : Fin cfg0.N, win0_0.index t = ![t.val / 4, t.val % 4] ∧ win0_1.index t = ![t.val % 4, 0, 0]
    ∧ win0_2.index t = ![t.val / 4, 0] :=
  (by decide +kernel : ∀ t : Fin grid0.N, _)

/-- The product of one point, at an index of the block. -/
abbrev term (c : Dev nD) (t : Fin cfg0.N) (y : S1024x512.Idx) : EReal :=
  ∑ k : Fin 512, (show FVec Ideal S1024x512 .f32 from iblk m c 0 t) (ix2 (y 0) k) *
    (show FVec Ideal S1x512x512 .bf16 from iblk m c 1 t) (ix3 0 (y 1) k)

theorem pay2_eq (c : Dev nD) (t : Fin cfg0.N) (y) : k0_pay2 (iblk m c 0 t) (iblk m c 1 t) y = 0 + term m c t y := by
  rw [zero_add]
  pointwise [k0_pay2, k0_pay1]

theorem pay3_eq (c : Dev nD) (t : Fin cfg0.N) (old) (y) :
    k0_pay3 (iblk m c 0 t) (iblk m c 1 t) old y = old y + term m c t y := by
  pointwise [k0_pay3, k0_pay1]

/-- A point that starts a block leaves its own product in the scratch. -/
theorem first (c : Dev nD) (t : Fin cfg0.N) (h : t.val % 4 = 0) (y : S1024x512.Idx) :
    (outsAt0 m c t.val t.isLt).2 y = 0 + term m c t y := by
  rw [outsAt0_A m c t h (by omega) (by omega)]
  frame_out
  exact pay2_eq m c t y

/-- Every other point adds its own product. -/
theorem next (c : Dev nD) (t : Fin cfg0.N) (h : ¬t.val % 4 = 0) (y : S1024x512.Idx) :
    (outsAt0 m c t.val t.isLt).2 y
      = (outsAt0 m c (t.val - 1) (Nat.lt_of_le_of_lt (Nat.sub_le _ _) t.isLt)).2 y + term m c t y := by
  by_cases h3 : t.val % 4 = 3
  · rw [outsAt0_C m c t h (by omega) h3]
    frame_out
    erw [Memref.IsWhole.read_unread]
    exact pay3_eq m c t _ y
  · rw [outsAt0_B m c t h (by omega) h3]
    frame_out
    erw [Memref.IsWhole.read_unread]
    exact pay3_eq m c t _ y

/-- The last point of a block writes out what it leaves in the scratch. -/
theorem last (c : Dev nD) (t : Fin cfg0.N) (h : t.val % 4 = 3) (y : S1024x512.Idx) :
    (outsAt0 m c t.val t.isLt).1 y = (outsAt0 m c t.val t.isLt).2 y := by
  rw [outsAt0_C m c t (by omega) (by omega) h]
  frame_out

/-- The result array after the run. -/
theorem final (c : Dev nD) : (dats m 0 c).arrAt 2 (cfgs 0).N
    = spec (m ((c : Thread nD τ).loc main_arg0)) (m ((c : Thread nD τ).loc main_arg1)) := by
  refine (dats m 0 c).arrAt_eq_of_covers 2 _ (by decide +kernel) fun t hf y => ?_
  blk_simp
  have h3 := (flush0_2 t).mp hf
  rw [after0_2, last m c t h3, Pipeline.eq_sum_fin_of_reset_step_apply_of_flush (fun n h => (outsAt0 m c n h).2) 4
    (fun _ => 0) (term m c) (first m c) (next m c) t h3 y, zero_add]
  pointwise [spec]
  refine Fin.sum_mul_add_congr fun s k hl => ?_
  blk_point [iblk, V, idx t, idx ⟨_, Pipeline.run_point_lt_of_flush t h3 s⟩]

/-- The kernel and the reference leave the same result. -/
theorem algebraic : Cert.algebraic_Kernel19Ideal_Reference19Ideal := by
  pair_intro
  · run_from Cert.Kernel19Ideal.Value.run_blocks m g
  · run_from Cert.Reference19Ideal.Value.run m' g'
    rw [final m c]
    rfl

end Cert.Proof.XoDx

end
-- ==== Proof.XoDw.lean ====
/- Hand-written, untrusted: THE GRADIENT OF THE WEIGHT OF THE CROSS-ATTENTION's LAST PROJECTION (`Kernel20`), written as four
   stacked pieces of 512 columns each. The reference takes one product and cuts it into the four pieces. -/
module

public import proofs.«01_k».proof.Proof.Gen.Kernel20Ideal.Value
public import proofs.«01_k».proof.Proof.Gen.Reference20Ideal.Run
public import Idealize.ShloMosaic.Lib.Pipeline.ValueKit
public import Idealize.ShloMosaic.Lib.Claim
public import proofs.«01_k».proof.Defs

@[expose] public section

set_option maxRecDepth 16384

noncomputable section

namespace Cert.Proof.XoDw

open Cert.Kernel20Ideal Cert.Kernel20Ideal.Gen
open Idealize.ShloMosaic Idealize.ShloMosaic.TcCoe Idealize.SL.Sem
open Idealize.ShloMosaic.Pipeline (Dat)

variable (m : (ℓ : Loc nD τ sig) → Buf (Elt Ideal) ℓ)

/-- The reference's result as a function of its arguments. -/
abbrev spec (o : FVec Ideal S2048x512 .bf16) (d : FVec Ideal S2048x2048 .f32) : FVec Ideal S4x512x512 .bf16 :=
  truncf .bf16 (transpose Cert.Reference20Ideal.S4x512x512 [1, 0, 2]
    (shapeCast Cert.Reference20Ideal.S512x4x512
      (transpose Cert.Reference20Ideal.S512x2048 [1, 0]
        (Host.dotGeneral Cert.Reference20Ideal.dot_S2048x2048_S2048x512_S2048x512_0_0_1_1_n_n none d (extf .f32 o Cert.Reference20Ideal.Gen.bitsLt_bf16_f32))
        Cert.Reference20Ideal.Gen.transposes_S2048x512_S512x2048_1_0)
      Cert.Reference20Ideal.Gen.shapeCasts_S512x2048_S512x4x512)
    Cert.Reference20Ideal.Gen.transposes_S512x4x512_S4x512x512_1_0_2) Cert.Reference20Ideal.Gen.bitsLt_bf16_f32

/-- Every window's block at every point. -/
theorem idx : ∀ t : Fin cfg0.N, win0_0.index t = ![0, 0] ∧ win0_1.index t = ![0, t.val]
    ∧ win0_2.index t = ![t.val, 0, 0] :=
  (by decide +kernel : ∀ t : Fin grid0.N, _)

/-- What a point stores at an index of its block is the reference's result at that index's place. -/
theorem point (c : Dev nD) (t : Fin cfg0.N) (y) : k0_pay1 (F := Ideal) (iblk m c 0 t) (iblk m c 1 t) y
    = spec (m ((c : Thread nD τ).loc main_arg0)) (m ((c : Thread nD τ).loc main_arg1)) (((cfg0.win 2).blk t).view.emb y) := by
  pointwise [k0_pay1, spec]
  refine Finset.sum_congr rfl fun k _ => ?_
  rw [mul_comm]
  blk_point [iblk, V, idx t]

/-- The result array after the run. -/
theorem final (c : Dev nD) : (dats m 0 c).arrAt 2 (cfgs 0).N
    = spec (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  exact point m c t y

/-- The kernel and the reference leave the same result. -/
theorem algebraic : Cert.algebraic_Kernel20Ideal_Reference20Ideal := by
  pair_intro
  · run_from Cert.Kernel20Ideal.Value.run_blocks m g
  · run_from Cert.Reference20Ideal.Value.run m' g'
    rw [final m c]

end Cert.Proof.XoDw

end
-- ==== Proof.XqDw.lean ====
/- Hand-written, untrusted: THE GRADIENT OF THE WEIGHT OF THE QUERIES' PROJECTION (`Kernel21`), in two blocks of 1024 rows. -/
module

public import proofs.«01_k».proof.Proof.Gen.Kernel21Ideal.Value
public import proofs.«01_k».proof.Proof.Gen.Reference21Ideal.Run
public import Idealize.ShloMosaic.Lib.Pipeline.ValueKit
public import Idealize.ShloMosaic.Lib.Claim
public import proofs.«01_k».proof.Defs

@[expose] public section

set_option maxRecDepth 16384

noncomputable section

namespace Cert.Proof.XqDw

open Cert.Kernel21Ideal Cert.Kernel21Ideal.Gen
open Idealize.ShloMosaic Idealize.ShloMosaic.TcCoe Idealize.SL.Sem
open Idealize.ShloMosaic.Pipeline (Dat)

variable (m : (ℓ : Loc nD τ sig) → Buf (Elt Ideal) ℓ)

/-- The reference's result as a function of its arguments. -/
abbrev spec (x : FVec Ideal S2048x2048 .bf16) (d : FVec Ideal S2048x512 .f32) : FVec Ideal S2048x512 .bf16 :=
  truncf .bf16 (transpose Cert.Reference21Ideal.S2048x512 [1, 0]
    (Host.dotGeneral Cert.Reference21Ideal.dot_S2048x512_S2048x2048_S512x2048_0_0_1_1_n_n none d (extf .f32 x Cert.Reference21Ideal.Gen.bitsLt_bf16_f32))
    Cert.Reference21Ideal.Gen.transposes_S512x2048_S2048x512_1_0) Cert.Reference21Ideal.Gen.bitsLt_bf16_f32

/-- Every window's block at every point. -/
theorem idx : ∀ t : Fin cfg0.N, win0_0.index t = ![0, t.val] ∧ win0_1.index t = ![0, 0]
    ∧ win0_2.index t = ![t.val, 0] :=
  (by decide +kernel : ∀ t : Fin grid0.N, _)

/-- What a point stores at an index of its block is the reference's result at that index's place. -/
theorem point (c : Dev nD) (t : Fin cfg0.N) (y) : k0_pay1 (F := Ideal) (iblk m c 0 t) (iblk m c 1 t) y
    = spec (m ((c : Thread nD τ).loc main_arg0)) (m ((c : Thread nD τ).loc main_arg1)) (((cfg0.win 2).blk t).view.emb y) := by
  pointwise [k0_pay1, spec]
  refine Finset.sum_congr rfl fun k _ => ?_
  rw [mul_comm]
  blk_point [iblk, V, idx t]

/-- The result array after the run. -/
theorem final (c : Dev nD) : (dats m 0 c).arrAt 2 (cfgs 0).N
    = spec (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  exact point m c t y

/-- The kernel and the reference leave the same result. -/
theorem algebraic : Cert.algebraic_Kernel21Ideal_Reference21Ideal := by
  pair_intro
  · run_from Cert.Kernel21Ideal.Value.run_blocks m g
  · run_from Cert.Reference21Ideal.Value.run m' g'
    rw [final m c]

end Cert.Proof.XqDw

end
-- ==== Proof.XkDw.lean ====
/- Hand-written, untrusted: THE GRADIENT OF THE WEIGHT OF THE KEYS' OR THE VALUES' PROJECTION (`Kernel22`), in two blocks of
   1024 rows. -/
module

public import proofs.«01_k».proof.Proof.Gen.Kernel22Ideal.Value
public import proofs.«01_k».proof.Proof.Gen.Reference22Ideal.Run
public import Idealize.ShloMosaic.Lib.Pipeline.ValueKit
public import Idealize.ShloMosaic.Lib.Claim
public import proofs.«01_k».proof.Defs

@[expose] public section

set_option maxRecDepth 16384

noncomputable section

namespace Cert.Proof.XkDw

open Cert.Kernel22Ideal Cert.Kernel22Ideal.Gen
open Idealize.ShloMosaic Idealize.ShloMosaic.TcCoe Idealize.SL.Sem
open Idealize.ShloMosaic.Pipeline (Dat)

variable (m : (ℓ : Loc nD τ sig) → Buf (Elt Ideal) ℓ)

/-- The reference's result as a function of its arguments. -/
abbrev spec (x : FVec Ideal S256x2048 .bf16) (d : FVec Ideal S256x512 .f32) : FVec Ideal S2048x512 .bf16 :=
  truncf .bf16 (transpose Cert.Reference22Ideal.S2048x512 [1, 0]
    (Host.dotGeneral Cert.Reference22Ideal.dot_S256x512_S256x2048_S512x2048_0_0_1_1_n_n none d (extf .f32 x Cert.Reference22Ideal.Gen.bitsLt_bf16_f32))
    Cert.Reference22Ideal.Gen.transposes_S512x2048_S2048x512_1_0) Cert.Reference22Ideal.Gen.bitsLt_bf16_f32

/-- Every window's block at every point. -/
theorem idx : ∀ t : Fin cfg0.N, win0_0.index t = ![0, t.val] ∧ win0_1.index t = ![0, 0]
    ∧ win0_2.index t = ![t.val, 0] :=
  (by decide +kernel : ∀ t : Fin grid0.N, _)

/-- What a point stores at an index of its block is the reference's result at that index's place. -/
theorem point (c : Dev nD) (t : Fin cfg0.N) (y) : k0_pay1 (F := Ideal) (iblk m c 0 t) (iblk m c 1 t) y
    = spec (m ((c : Thread nD τ).loc main_arg0)) (m ((c : Thread nD τ).loc main_arg1)) (((cfg0.win 2).blk t).view.emb y) := by
  pointwise [k0_pay1, spec]
  refine Finset.sum_congr rfl fun k _ => ?_
  rw [mul_comm]
  blk_point [iblk, V, idx t]

/-- The result array after the run. -/
theorem final (c : Dev nD) : (dats m 0 c).arrAt 2 (cfgs 0).N
    = spec (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  exact point m c t y

/-- The kernel and the reference leave the same result. -/
theorem algebraic : Cert.algebraic_Kernel22Ideal_Reference22Ideal := by
  pair_intro
  · run_from Cert.Kernel22Ideal.Value.run_blocks m g
  · run_from Cert.Reference22Ideal.Value.run m' g'
    rw [final m c]

end Cert.Proof.XkDw

end
-- ==== Proof.XkDx.lean ====
/- Hand-written, untrusted: THE GRADIENT AT THE MEMORY OF THE KEYS' OR THE VALUES' PROJECTION (`Kernel23`), added to the memory's
   gradient so far, in two blocks of 1024 columns. -/
module

public import proofs.«01_k».proof.Proof.Gen.Kernel23Ideal.Value
public import proofs.«01_k».proof.Proof.Gen.Reference23Ideal.Run
public import Idealize.ShloMosaic.Lib.Pipeline.ValueKit
public import Idealize.ShloMosaic.Lib.Claim
public import proofs.«01_k».proof.Defs

@[expose] public section

set_option maxRecDepth 16384

noncomputable section

namespace Cert.Proof.XkDx

open Cert.Kernel23Ideal Cert.Kernel23Ideal.Gen
open Idealize.ShloMosaic Idealize.ShloMosaic.TcCoe Idealize.SL.Sem
open Idealize.ShloMosaic.Pipeline (Dat)

variable (m : (ℓ : Loc nD τ sig) → Buf (Elt Ideal) ℓ)

/-- The reference's result as a function of its arguments. -/
abbrev spec (d : FVec Ideal S256x512 .f32) (w : FVec Ideal S2048x512 .bf16) (r : FVec Ideal S256x2048 .f32) : FVec Ideal S256x2048 .f32 :=
  addf r (Host.dotGeneral Cert.Reference23Ideal.dot_S256x512_S2048x512_S256x2048_1_1_0_0_n_n none d (extf .f32 w Cert.Reference23Ideal.Gen.bitsLt_bf16_f32))

/-- Every window's block at every point. -/
theorem idx : ∀ t : Fin cfg0.N, win0_0.index t = ![0, 0] ∧ win0_1.index t = ![t.val, 0]
    ∧ win0_2.index t = ![0, t.val] ∧ win0_3.index t = ![0, t.val] :=
  (by decide +kernel : ∀ t : Fin grid0.N, _)

/-- What a point stores at an index of its block is the reference's result at that index's place. -/
theorem point (c : Dev nD) (t : Fin cfg0.N) (y) : k0_pay1 (F := Ideal) (iblk m c 0 t) (iblk m c 1 t) (iblk m c 2 t) y
    = spec (m ((c : Thread nD τ).loc main_arg0)) (m ((c : Thread nD τ).loc main_arg1)) (m ((c : Thread nD τ).loc main_arg2)) (((cfg0.win 3).blk t).view.emb y) := by
  pointwise [k0_pay1, spec]
  rw [add_comm]
  refine congrArg₂ (α := EReal) (β := EReal) (· + ·) ?_ (Finset.sum_congr rfl fun k _ => ?_)
  · blk_point [iblk, V, idx t]
  · blk_point [iblk, V, idx t]

/-- The result array after the run. -/
theorem final (c : Dev nD) : (dats m 0 c).arrAt 3 (cfgs 0).N
    = spec (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  unfold outsAt0
  frame_out
  exact point m c t y

/-- The kernel and the reference leave the same result. -/
theorem algebraic : Cert.algebraic_Kernel23Ideal_Reference23Ideal := by
  pair_intro
  · run_from Cert.Kernel23Ideal.Value.run_blocks m g
  · run_from Cert.Reference23Ideal.Value.run m' g'
    rw [final m c]

end Cert.Proof.XkDx

end
-- ==== Proof.XqDx.lean ====
/- Hand-written, untrusted: THE GRADIENT AT THE INPUT OF THE QUERIES' PROJECTION (`Kernel24`), in blocks of 1024 by 1024. -/
module

public import proofs.«01_k».proof.Proof.Gen.Kernel24Ideal.Value
public import proofs.«01_k».proof.Proof.Gen.Reference24Ideal.Run
public import Idealize.ShloMosaic.Lib.Pipeline.ValueKit
public import Idealize.ShloMosaic.Lib.Claim
public import proofs.«01_k».proof.Defs

@[expose] public section

set_option maxRecDepth 16384

noncomputable section

namespace Cert.Proof.XqDx

open Cert.Kernel24Ideal Cert.Kernel24Ideal.Gen
open Idealize.ShloMosaic Idealize.ShloMosaic.TcCoe Idealize.SL.Sem
open Idealize.ShloMosaic.Pipeline (Dat)

variable (m : (ℓ : Loc nD τ sig) → Buf (Elt Ideal) ℓ)

/-- The reference's result as a function of its arguments. -/
abbrev spec (d : FVec Ideal S2048x512 .f32) (w : FVec Ideal S2048x512 .bf16) : FVec Ideal S2048x2048 .f32 :=
  Host.dotGeneral Cert.Reference24Ideal.dot_S2048x512_S2048x512_S2048x2048_1_1_0_0_n_n none d (extf .f32 w Cert.Reference24Ideal.Gen.bitsLt_bf16_f32)

/-- Every window's block at every point. -/
theorem idx : ∀ t : Fin cfg0.N, win0_0.index t = ![t.val / 2, 0] ∧ win0_1.index t = ![t.val % 2, 0]
    ∧ win0_2.index t = ![t.val / 2, t.val % 2] :=
  (by decide +kernel : ∀ t : Fin grid0.N, _)

/-- What a point stores at an index of its block is the reference's result at that index's place. -/
theorem point (c : Dev nD) (t : Fin cfg0.N) (y) : k0_pay1 (F := Ideal) (iblk m c 0 t) (iblk m c 1 t) y
    = spec (m ((c : Thread nD τ).loc main_arg0)) (m ((c : Thread nD τ).loc main_arg1)) (((cfg0.win 2).blk t).view.emb y) := by
  pointwise [k0_pay1, spec]
  refine Finset.sum_congr rfl fun k _ => ?_
  blk_point [iblk, V, idx t]

/-- The result array after the run. -/
theorem final (c : Dev nD) : (dats m 0 c).arrAt 2 (cfgs 0).N
    = spec (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  exact point m c t y

/-- The kernel and the reference leave the same result. -/
theorem algebraic : Cert.algebraic_Kernel24Ideal_Reference24Ideal := by
  pair_intro
  · run_from Cert.Kernel24Ideal.Value.run_blocks m g
  · run_from Cert.Reference24Ideal.Value.run m' g'
    rw [final m c]
    rfl

end Cert.Proof.XqDx

end
-- ==== Proof.Xq.lean ====
/- Hand-written, untrusted: THE QUERIES' PROJECTION (`Kernel25`), in two blocks of 1024 rows. -/
module

public import proofs.«01_k».proof.Proof.Gen.Kernel25Ideal.Value
public import proofs.«01_k».proof.Proof.Gen.Reference25Ideal.Run
public import Idealize.ShloMosaic.Lib.Pipeline.ValueKit
public import Idealize.ShloMosaic.Lib.Claim
public import proofs.«01_k».proof.Defs

@[expose] public section

set_option maxRecDepth 16384

noncomputable section

namespace Cert.Proof.Xq

open Cert.Kernel25Ideal Cert.Kernel25Ideal.Gen
open Idealize.ShloMosaic Idealize.ShloMosaic.TcCoe Idealize.SL.Sem
open Idealize.ShloMosaic.Pipeline (Dat)

variable (m : (ℓ : Loc nD τ sig) → Buf (Elt Ideal) ℓ)

/-- The reference's result as a function of its arguments. -/
abbrev spec (x : FVec Ideal S2048x2048 .bf16) (w : FVec Ideal S2048x512 .bf16) : FVec Ideal S2048x512 .bf16 :=
  truncf .bf16 (Host.dotGeneral Cert.Reference25Ideal.dot_S2048x2048_S2048x512_S2048x512_1_0_0_1_n_n none (extf .f32 x Cert.Reference25Ideal.Gen.bitsLt_bf16_f32)
    (extf .f32 w Cert.Reference25Ideal.Gen.bitsLt_bf16_f32)) Cert.Reference25Ideal.Gen.bitsLt_bf16_f32

/-- Every window's block at every point. -/
theorem idx : ∀ t : Fin cfg0.N, win0_0.index t = ![t.val, 0] ∧ win0_1.index t = ![0, 0]
    ∧ win0_2.index t = ![t.val, 0] :=
  (by decide +kernel : ∀ t : Fin grid0.N, _)

/-- What a point stores at an index of its block is the reference's result at that index's place. -/
theorem point (c : Dev nD) (t : Fin cfg0.N) (y) : k0_pay1 (F := Ideal) (iblk m c 0 t) (iblk m c 1 t) y
    = spec (m ((c : Thread nD τ).loc main_arg0)) (m ((c : Thread nD τ).loc main_arg1)) (((cfg0.win 2).blk t).view.emb y) := by
  pointwise [k0_pay1, spec]
  refine Finset.sum_congr rfl fun k _ => ?_
  blk_point [iblk, V, idx t]

/-- The result array after the run. -/
theorem final (c : Dev nD) : (dats m 0 c).arrAt 2 (cfgs 0).N
    = spec (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  exact point m c t y

/-- The kernel and the reference leave the same result. -/
theorem algebraic : Cert.algebraic_Kernel25Ideal_Reference25Ideal := by
  pair_intro
  · run_from Cert.Kernel25Ideal.Value.run_blocks m g
  · run_from Cert.Reference25Ideal.Value.run m' g'
    rw [final m c]

end Cert.Proof.Xq

end
-- ==== Proof.Xk.lean ====
/- Hand-written, untrusted: THE KEYS' OR THE VALUES' PROJECTION (`Kernel26`), in one block. -/
module

public import proofs.«01_k».proof.Proof.Gen.Kernel26Ideal.Value
public import proofs.«01_k».proof.Proof.Gen.Reference26Ideal.Run
public import Idealize.ShloMosaic.Lib.Pipeline.ValueKit
public import Idealize.ShloMosaic.Lib.Claim
public import proofs.«01_k».proof.Defs

@[expose] public section

set_option maxRecDepth 16384

noncomputable section

namespace Cert.Proof.Xk

open Cert.Kernel26Ideal Cert.Kernel26Ideal.Gen
open Idealize.ShloMosaic Idealize.ShloMosaic.TcCoe Idealize.SL.Sem
open Idealize.ShloMosaic.Pipeline (Dat)

variable (m : (ℓ : Loc nD τ sig) → Buf (Elt Ideal) ℓ)

/-- The reference's result as a function of its arguments. -/
abbrev spec (x : FVec Ideal S256x2048 .bf16) (w : FVec Ideal S2048x512 .bf16) : FVec Ideal S256x512 .bf16 :=
  truncf .bf16 (Host.dotGeneral Cert.Reference26Ideal.dot_S256x2048_S2048x512_S256x512_1_0_0_1_n_n none (extf .f32 x Cert.Reference26Ideal.Gen.bitsLt_bf16_f32)
    (extf .f32 w Cert.Reference26Ideal.Gen.bitsLt_bf16_f32)) Cert.Reference26Ideal.Gen.bitsLt_bf16_f32

/-- Every window's block at every point. -/
theorem idx : ∀ t : Fin cfg0.N, win0_0.index t = ![0, 0] ∧ win0_1.index t = ![0, 0] ∧ win0_2.index t = ![0, 0] :=
  (by decide +kernel : ∀ t : Fin grid0.N, _)

/-- What a point stores at an index of its block is the reference's result at that index's place. -/
theorem point (c : Dev nD) (t : Fin cfg0.N) (y) : k0_pay1 (F := Ideal) (iblk m c 0 t) (iblk m c 1 t) y
    = spec (m ((c : Thread nD τ).loc main_arg0)) (m ((c : Thread nD τ).loc main_arg1)) (((cfg0.win 2).blk t).view.emb y) := by
  pointwise [k0_pay1, spec]
  refine Finset.sum_congr rfl fun k _ => ?_
  blk_point [iblk, V, idx t]

/-- The result array after the run. -/
theorem final (c : Dev nD) : (dats m 0 c).arrAt 2 (cfgs 0).N
    = spec (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  exact point m c t y

/-- The kernel and the reference leave the same result. -/
theorem algebraic : Cert.algebraic_Kernel26Ideal_Reference26Ideal := by
  pair_intro
  · run_from Cert.Kernel26Ideal.Value.run_blocks m g
  · run_from Cert.Reference26Ideal.Value.run m' g'
    rw [final m c]

end Cert.Proof.Xk

end
-- ==== Proof.Xo.lean ====
/- Hand-written, untrusted: THE CROSS-ATTENTION's LAST PROJECTION (`Kernel27`), added to the array that passes by. The weight is
   stored as four stacked pieces of 512 columns each. -/
module

public import proofs.«01_k».proof.Proof.Gen.Kernel27Ideal.Value
public import proofs.«01_k».proof.Proof.Gen.Reference27Ideal.Run
public import Idealize.ShloMosaic.Lib.Pipeline.ValueKit
public import Idealize.ShloMosaic.Lib.Claim
public import proofs.«01_k».proof.Defs

@[expose] public section

set_option maxRecDepth 16384

noncomputable section

namespace Cert.Proof.Xo

open Cert.Kernel27Ideal Cert.Kernel27Ideal.Gen
open Idealize.ShloMosaic Idealize.ShloMosaic.TcCoe Idealize.SL.Sem
open Idealize.ShloMosaic.Pipeline (Dat)

variable (m : (ℓ : Loc nD τ sig) → Buf (Elt Ideal) ℓ)

/-- The reference's result as a function of its arguments. -/
abbrev spec (o : FVec Ideal S2048x512 .bf16) (w : FVec Ideal S4x512x512 .bf16) (h : FVec Ideal S2048x2048 .f32) : FVec Ideal S2048x2048 .f32 :=
  addf h (Host.dotGeneral Cert.Reference27Ideal.dot_S2048x512_S512x2048_S2048x2048_1_0_0_1_n_n none (extf .f32 o Cert.Reference27Ideal.Gen.bitsLt_bf16_f32)
    (shapeCast Cert.Reference27Ideal.S512x2048
      (transpose Cert.Reference27Ideal.S512x4x512 [1, 0, 2] (extf .f32 w Cert.Reference27Ideal.Gen.bitsLt_bf16_f32) Cert.Reference27Ideal.Gen.transposes_S4x512x512_S512x4x512_1_0_2)
      Cert.Reference27Ideal.Gen.shapeCasts_S512x4x512_S512x2048))

/-- Every window's block at every point. -/
theorem idx : ∀ t : Fin cfg0.N, win0_0.index t = ![t.val / 4, 0] ∧ win0_1.index t = ![t.val % 4, 0, 0]
    ∧ win0_2.index t = ![t.val / 4, t.val % 4] ∧ win0_3.index t = ![t.val / 4, t.val % 4] :=
  (by decide +kernel : ∀ t : Fin grid0.N, _)

/-- What a point stores at an index of its block is the reference's result at that index's place. -/
theorem point (c : Dev nD) (t : Fin cfg0.N) (y) : k0_pay1 (F := Ideal) (iblk m c 0 t) (iblk m c 1 t) (iblk m c 2 t) y
    = spec (m ((c : Thread nD τ).loc main_arg0)) (m ((c : Thread nD τ).loc main_arg1)) (m ((c : Thread nD τ).loc main_arg2)) (((cfg0.win 3).blk t).view.emb y) := by
  pointwise [k0_pay1, spec]
  rw [add_comm]
  refine congrArg₂ (α := EReal) (β := EReal) (· + ·) ?_ (Finset.sum_congr rfl fun k _ => ?_)
  · blk_point [iblk, V, idx t]
  · blk_point [iblk, V, idx t]

/-- The result array after the run. -/
theorem final (c : Dev nD) : (dats m 0 c).arrAt 3 (cfgs 0).N
    = spec (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  unfold outsAt0
  frame_out
  exact point m c t y

/-- The kernel and the reference leave the same result. -/
theorem algebraic : Cert.algebraic_Kernel27Ideal_Reference27Ideal := by
  pair_intro
  · run_from Cert.Kernel27Ideal.Value.run_blocks m g
  · run_from Cert.Reference27Ideal.Value.run m' g'
    rw [final m c]

end Cert.Proof.Xo

end
-- ==== Proof.NormFwd.lean ====
/- Hand-written, untrusted: THE NORM BEFORE THE MLP (`Kernel28`), kernel against reference. The eight grid points take 256 rows
   each; a row's mean square is of its 2048 columns, which a point has whole. -/
module

public import proofs.«01_k».proof.Proof.Gen.Kernel28Ideal.Value
public import proofs.«01_k».proof.Proof.Gen.Reference28Ideal.Run
public import Idealize.ShloMosaic.Lib.Pipeline.ValueKit
public import Idealize.ShloMosaic.Lib.Claim
public import proofs.«01_k».proof.Proof.NormRow
public import proofs.«01_k».proof.Defs

@[expose] public section

set_option maxRecDepth 16384

noncomputable section

namespace Cert.Proof.NormFwd

open Idealize.ShloMosaic Idealize.ShloMosaic.TcCoe Idealize.SL.Sem
open Idealize.ShloMosaic.Pipeline (Dat)

/-- The length of a row. -/
abbrev len : EReal := Ideal.ofBits .f32 0x45000000#32

/-- The array and the row of gains. -/
abbrev Arr : Shape := ⟨2, ![2048, 2048]⟩
abbrev Ln : Shape := ⟨2, ![1, 2048]⟩

/-- The normed array, element by element. -/
def norm (x : Arr.Idx → EReal) (g : Ln.Idx → EReal) (y : Arr.Idx) : EReal :=
  x y * (NormRow.inv len fun k : Fin 2048 => x (ix2 (y 0) k)) * g (ix2 0 (y 1))

section Kernel

open Cert.Kernel28Ideal Cert.Kernel28Ideal.Gen

theorem pay1_apply (x : FVec Ideal S256x2048 .f32) (g : FVec Ideal S1x2048 .f32) (i j) : k0_pay1 (F := Ideal) x g (ix2 i j)
    = x (ix2 i j) * (NormRow.inv len fun k => x (ix2 i k)) * g (ix2 0 j) := by
  pointwise [k0_pay1]
  rfl

variable (m : (ℓ : Loc nD τ sig) → Buf (Elt Ideal) ℓ)

/-- Every window's block at every point. -/
theorem idx : ∀ t : Fin cfg0.N, win0_0.index t = ![t.val, 0] ∧ win0_1.index t = ![0, 0] ∧ win0_2.index t = ![t.val, 0] :=
  (by decide +kernel : ∀ t : Fin grid0.N, _)

abbrev argX (c : Dev nD) : FVec Ideal S2048x2048 .f32 := m ((c : Thread nD τ).loc main_arg0)
abbrev argG (c : Dev nD) : FVec Ideal S1x2048 .f32 := m ((c : Thread nD τ).loc main_arg1)

abbrev blkX (c : Dev nD) (t : Fin cfg0.N) : FVec Ideal S256x2048 .f32 := iblk m c 0 t
abbrev blkG (c : Dev nD) (t : Fin cfg0.N) : FVec Ideal S1x2048 .f32 := iblk m c 1 t

/-- The row of the array that a row of a point's block is. -/
abbrev rw_ (t : Fin cfg0.N) (i : Fin 256) : Fin 2048 := ⟨t.val * 256 + i.val, by have : t.val < 8 := t.isLt; omega⟩

theorem blkX_apply (c : Dev nD) (t : Fin cfg0.N) (i k) : blkX m c t (ix2 i k) = argX m c (ix2 (rw_ t i) k) := by
  blk_point [iblk, V, idx t]

theorem blkG_apply (c : Dev nD) (t : Fin cfg0.N) (k) : blkG m c t (ix2 0 k) = argG m c (ix2 0 k) := by
  blk_point [iblk, V, idx t]

/-- A point's rows of the result. -/
theorem point (c : Dev nD) (t : Fin cfg0.N) (y : S256x2048.Idx) : k0_pay1 (F := Ideal) (blkX m c t) (blkG m c t) y
    = norm (argX m c) (argG m c) (ix2 (rw_ t (y 0)) (y 1)) := by
  obtain ⟨i, j, rfl⟩ : ∃ i j, y = ix2 i j := ⟨y 0, y 1, (ix2_eta y).symm⟩
  rw [pay1_apply]
  simp only [blkX_apply, blkG_apply]
  rfl

theorem emb2 (t : Fin cfg0.N) (y : S256x2048.Idx) : (win0_2.blk t).view.emb y = ix2 (rw_ t (y 0)) (y 1) := by
  blk_ext [idx t]

/-- The result array after the run. -/
theorem final (c : Dev nD) : (dats m 0 c).arrAt 2 (cfgs 0).N = norm (argX m c) (argG m c) := by
  refine (dats m 0 c).arrAt_eq_of_covers 2 _ (by decide +kernel) fun t hf y => ?_
  blk_simp
  rw [after0_2]
  unfold out0_2
  frame_out
  exact (point m c t y).trans (congrArg _ (emb2 t y).symm)

end Kernel

section Reference

open Cert.Reference28Ideal Cert.Reference28Ideal.Gen

/-- The reference's result as a function of its arguments. -/
def spec (x : FVec Ideal S2048x2048 .f32) (g : FVec Ideal S1x2048 .f32) : FVec Ideal S2048x2048 .bf16 :=
  truncf .bf16 (mulf (mulf x (broadcastInDim S2048x2048 ![0, 1] bcast_S2048x1_S2048x2048_0_1 (Host.rsqrt (addf
    (Host.divf (broadcastInDim S2048x1 ![0] bcast_S2048_S2048x1_0 (Host.reduceAdd (mulf x x) (constant S_ .f32 0x00000000#32) reducesTo_S2048x2048_S2048_d1 h_S_))
      (broadcastInDim S2048x1 ![] bcast_S_S2048x1 (constant S_ .f32 0x45000000#32)))
    (broadcastInDim S2048x1 ![] bcast_S_S2048x1 (constant S_ .f32 0x358637BD#32))))))
    (broadcastInDim S2048x2048 ![0, 1] bcast_S1x2048_S2048x2048_0_1 g)) bitsLt_bf16_f32

theorem spec_eq (x : FVec Ideal S2048x2048 .f32) (g : FVec Ideal S1x2048 .f32) : spec x g = norm x g := by
  funext y
  obtain ⟨i, j, rfl⟩ : ∃ i j, y = ix2 i j := ⟨y 0, y 1, (ix2_eta y).symm⟩
  pointwise [spec]
  rfl

end Reference

/-- The kernel and the reference leave the same result. -/
theorem algebraic : Cert.algebraic_Kernel28Ideal_Reference28Ideal := by
  pair_intro
  · run_from Cert.Kernel28Ideal.Value.run_blocks m g
  · run_from Cert.Reference28Ideal.Value.run m' g'
    exact (spec_eq _ _).trans (final m c).symm

end Cert.Proof.NormFwd

end
-- ==== Proof.MemNormBwd.lean ====
/- Hand-written, untrusted: THE GRADIENT OF THE MEMORY's NORM (`Kernel29`), kernel against reference. One grid point takes all 256
   rows; it sets the gain's gradient to zero and adds the sum over the rows to it. -/
module

public import proofs.«01_k».proof.Proof.Gen.Kernel29Ideal.Value
public import proofs.«01_k».proof.Proof.Gen.Reference29Ideal.Run
public import Idealize.ShloMosaic.Lib.Pipeline.ValueKit
public import Idealize.ShloMosaic.Lib.Claim
public import proofs.«01_k».proof.Proof.NormRow
public import proofs.«01_k».proof.Defs

@[expose] public section

set_option maxRecDepth 16384

noncomputable section

namespace Cert.Proof.MemNormBwd

open Idealize.ShloMosaic Idealize.ShloMosaic.TcCoe Idealize.SL.Sem
open Idealize.ShloMosaic.Pipeline (Dat)

/-- The length of a row. -/
abbrev len : EReal := Ideal.ofBits .f32 0x45000000#32

theorem len_eq : len = ((2048 : ℝ) : EReal) := by
  simp [len, Ideal.ofBits, Ideal.ieee, -EReal.coe_mul]; norm_num

section Kernel

open Cert.Kernel29Ideal Cert.Kernel29Ideal.Gen

section Blocks

variable (x dy : FVec Ideal S256x2048 .f32) (g : FVec Ideal S1x2048 .f32)

theorem pay1_apply (y) : k0_pay1 (F := Ideal) x y = NormRow.inv len fun k => x (ix2 (y 0) k) := by
  pointwise [k0_pay1]
  rfl

theorem pay2_apply (y) : k0_pay2 (F := Ideal) x y = x y * NormRow.inv len fun k => x (ix2 (y 0) k) := by
  pointwise [k0_pay2]
  rw [pay1_apply]
  rfl

theorem pay3_apply (i j) : k0_pay3 (F := Ideal) x dy g (ix2 i j)
    = NormRow.grad len (fun k => x (ix2 i k)) (fun k => dy (ix2 i k) * g (ix2 0 k)) j := by
  pointwise [k0_pay3]
  simp only [pay1_apply, pay2_apply]
  unfold NormRow.grad
  rfl

theorem pay5_apply (old : FVec Ideal S1x2048 .f32) (z j) : k0_pay5 (F := Ideal) x dy old (ix2 z j)
    = old (ix2 z j) + ∑ i : Fin 256, dy (ix2 i j) * (x (ix2 i j) * NormRow.inv len fun k => x (ix2 i k)) := by
  pointwise [k0_pay5]
  simp only [pay2_apply]
  rfl

theorem pay4_apply (y) : k0_pay4 (F := Ideal) y = (0 : EReal) := by
  pointwise [k0_pay4]

end Blocks

end Kernel

/-- The memory and the row of gains. -/
abbrev Arr : Shape := ⟨2, ![256, 2048]⟩
abbrev Ln : Shape := ⟨2, ![1, 2048]⟩

/-- The gradient of the memory. -/
def dx (x : Arr.Idx → EReal) (g : Ln.Idx → EReal) (dy : Arr.Idx → EReal) (y : Arr.Idx) : EReal :=
  NormRow.grad len (fun k : Fin 2048 => x (ix2 (y 0) k)) (fun k => dy (ix2 (y 0) k) * g (ix2 0 k)) (y 1)

/-- The gradient of the gain. -/
def dg (x dy : Arr.Idx → EReal) (y : Ln.Idx) : EReal :=
  ∑ i : Fin 256, dy (ix2 i (y 1)) * (x (ix2 i (y 1)) * NormRow.inv len fun k : Fin 2048 => x (ix2 i k))

section Kernel

open Cert.Kernel29Ideal Cert.Kernel29Ideal.Gen

variable (m : (ℓ : Loc nD τ sig) → Buf (Elt Ideal) ℓ)

theorem idx : ∀ t : Fin cfg0.N, win0_0.index t = ![0, 0] ∧ win0_1.index t = ![0, 0] ∧ win0_2.index t = ![0, 0]
    ∧ win0_3.index t = ![0, 0] ∧ win0_4.index t = ![0, 0] :=
  (by decide +kernel : ∀ t : Fin grid0.N, _)

abbrev argX (c : Dev nD) : FVec Ideal S256x2048 .f32 := m ((c : Thread nD τ).loc main_arg0)
abbrev argG (c : Dev nD) : FVec Ideal S1x2048 .f32 := m ((c : Thread nD τ).loc main_arg1)
abbrev argY (c : Dev nD) : FVec Ideal S256x2048 .f32 := m ((c : Thread nD τ).loc main_arg2)

abbrev blkX (c : Dev nD) (t : Fin cfg0.N) : FVec Ideal S256x2048 .f32 := iblk m c 0 t
abbrev blkG (c : Dev nD) (t : Fin cfg0.N) : FVec Ideal S1x2048 .f32 := iblk m c 1 t
abbrev blkY (c : Dev nD) (t : Fin cfg0.N) : FVec Ideal S256x2048 .f32 := iblk m c 2 t

theorem blkX_apply (c : Dev nD) (t : Fin cfg0.N) (i k) : blkX m c t (ix2 i k) = argX m c (ix2 i k) := by
  blk_point [iblk, V, idx t]

theorem blkG_apply (c : Dev nD) (t : Fin cfg0.N) (k) : blkG m c t (ix2 0 k) = argG m c (ix2 0 k) := by
  blk_point [iblk, V, idx t]

theorem blkY_apply (c : Dev nD) (t : Fin cfg0.N) (i k) : blkY m c t (ix2 i k) = argY m c (ix2 i k) := by
  blk_point [iblk, V, idx t]

theorem keyX (c : Dev nD) (t : Fin cfg0.N) (y : S256x2048.Idx) :
    k0_pay3 (F := Ideal) (blkX m c t) (blkY m c t) (blkG m c t) y = dx (argX m c) (argG m c) (argY m c) y := by
  obtain ⟨i, j, rfl⟩ : ∃ i j, y = ix2 i j := ⟨y 0, y 1, (ix2_eta y).symm⟩
  rw [pay3_apply]
  simp only [blkX_apply, blkY_apply, blkG_apply]
  rfl

theorem keyG (c : Dev nD) (t : Fin cfg0.N) (old) (y) :
    k0_pay5 (F := Ideal) (blkX m c t) (blkY m c t) old y = old y + dg (argX m c) (argY m c) y := by
  obtain ⟨i, j, rfl⟩ : ∃ i j, y = ix2 i j := ⟨y 0, y 1, (ix2_eta y).symm⟩
  rw [pay5_apply]
  simp only [blkX_apply, blkY_apply]
  rfl

theorem emb3 (t : Fin cfg0.N) (y : S256x2048.Idx) : (win0_3.blk t).view.emb y = y := by
  blk_ext [idx t]

theorem emb4 (t : Fin cfg0.N) (y : S1x2048.Idx) : (win0_4.blk t).view.emb y = y := by
  blk_ext [idx t]

theorem finalX (c : Dev nD) : (dats m 0 c).arrAt 3 (cfgs 0).N = dx (argX m c) (argG m c) (argY m c) := by
  refine (dats m 0 c).arrAt_eq_of_covers 3 _ (by decide +kernel) fun t hf y => ?_
  blk_simp
  rw [after0_3]
  unfold outsAt0
  frame_out
  exact (keyX m c t y).trans (congrArg _ (emb3 t y).symm)

theorem finalG (c : Dev nD) : (dats m 0 c).arrAt 4 (cfgs 0).N = dg (argX m c) (argY m c) := by
  refine (dats m 0 c).arrAt_eq_of_covers 4 _ (by decide +kernel) fun t hf y => ?_
  blk_simp
  rw [after0_4]
  unfold outsAt0
  frame_out
  refine (keyG m c t _ y).trans ?_
  rw [pay4_apply, zero_add]
  exact congrArg (dg (argX m c) (argY m c)) (emb4 t y).symm

end Kernel

section Reference

open Cert.Reference29Ideal Cert.Reference29Ideal.Gen

variable (x dy : FVec Ideal S256x2048 .f32) (g : FVec Ideal S1x2048 .f32)

/-- The reference's mean square and small number, of every row. -/
def rmsq : FVec Ideal S256x1 .f32 :=
  addf (Host.divf (broadcastInDim S256x1 ![0] bcast_S256_S256x1_0 (Host.reduceAdd (mulf x x) (constant S_ .f32 0x00000000#32) reducesTo_S256x2048_S256_d1 h_S_))
    (broadcastInDim S256x1 ![] bcast_S_S256x1 (constant S_ .f32 0x45000000#32))) (broadcastInDim S256x1 ![] bcast_S_S256x1 (constant S_ .f32 0x358637BD#32))

/-- The gradient of the normed row. -/
def rdyg : FVec Ideal S256x2048 .f32 := mulf dy (broadcastInDim S256x2048 ![0, 1] bcast_S1x2048_S256x2048_0_1 g)

/-- The gradient of the mean square, with the factor of the mean. -/
def rdmsq (z : FVec Ideal S256x1 .f32) (d : FVec Ideal S256x2048 .f32) : FVec Ideal S256x2048 .f32 :=
  broadcastInDim S256x2048 ![0] bcast_S256_S256x2048_0 (Host.reduceAdd (Host.divf (mulf (shapeCast _ (Host.reduceAdd (mulf x d)
    (constant S_ .f32 0x00000000#32) reducesTo_S256x2048_S256_d1 h_S_) shapeCasts_S256_S256x1)
    (mulf (broadcastInDim S256x1 ![] bcast_S_S256x1 (constant S_ .f32 0xBF000000#32)) (Host.divf (Host.rsqrt z) z)))
    (broadcastInDim S256x1 ![] bcast_S_S256x1 (constant S_ .f32 0x45000000#32))) (constant S_ .f32 0x00000000#32) reducesTo_S256x1_S256_d1 h_S_)

def rdx : FVec Ideal S256x2048 .f32 :=
  addf (addf (mulf (rdyg dy g) (broadcastInDim S256x2048 ![0, 1] bcast_S256x1_S256x2048_0_1 (Host.rsqrt (rmsq x))))
    (mulf x (rdmsq x (rmsq x) (rdyg dy g)))) (mulf (rdmsq x (rmsq x) (rdyg dy g)) x)

def rdg : FVec Ideal S1x2048 .f32 :=
  shapeCast _ (Host.reduceAdd (mulf (mulf x (broadcastInDim S256x2048 ![0, 1] bcast_S256x1_S256x2048_0_1 (Host.rsqrt (rmsq x)))) dy)
    (constant S_ .f32 0x00000000#32) reducesTo_S256x2048_S2048_d0 h_S_) shapeCasts_S2048_S1x2048

theorem rmsq_apply (y) : rmsq x y = NormRow.msq len fun k : Fin 2048 => x (ix2 (y 0) k) := by
  pointwise [rmsq]
  rfl

theorem rdyg_apply (i j) : rdyg dy g (ix2 i j) = dy (ix2 i j) * g (ix2 0 j) := by
  pointwise [rdyg]

theorem rdmsq_apply (i j) : rdmsq x (rmsq x) (rdyg dy g) (ix2 i j)
    = NormRow.dmsq len (fun k : Fin 2048 => x (ix2 i k)) (fun k => dy (ix2 i k) * g (ix2 0 k)) := by
  pointwise [rdmsq]
  simp only [rmsq_apply, rdyg_apply, Fin.sum_univ_one]
  rfl

theorem rdx_apply (i j) : rdx x dy g (ix2 i j)
    = dy (ix2 i j) * g (ix2 0 j) * NormRow.inv len (fun k : Fin 2048 => x (ix2 i k))
      + x (ix2 i j) * NormRow.dmsq len (fun k : Fin 2048 => x (ix2 i k)) (fun k => dy (ix2 i k) * g (ix2 0 k))
      + NormRow.dmsq len (fun k : Fin 2048 => x (ix2 i k)) (fun k => dy (ix2 i k) * g (ix2 0 k)) * x (ix2 i j) := by
  pointwise [rdx]
  simp only [rmsq_apply, rdyg_apply, rdmsq_apply]
  rfl

theorem rdx_eq : rdx x dy g = dx x g dy := by
  funext y
  obtain ⟨i, j, rfl⟩ : ∃ i j, y = ix2 i j := ⟨y 0, y 1, (ix2_eta y).symm⟩
  have e := NormRow.gradChain_eq (fun k : Fin 2048 => x (ix2 i k)) (fun k => dy (ix2 i k) * g (ix2 0 k)) 2048 (by norm_num) len_eq j
  rw [rdx_apply]
  refine Eq.trans ?_ e
  unfold NormRow.gradChain
  rw [add_assoc]

theorem rdg_eq : rdg x dy = dg x dy := by
  funext y
  pointwise [rdg]
  simp only [rmsq_apply]
  exact Finset.sum_congr rfl fun i _ => mul_comm _ _

variable (m : (ℓ : Loc nD τ sig) → Buf (Elt Ideal) ℓ) (ρ : Dev nD → PrngReg)

/-- The reference's run, its two results by their stages. -/
theorem run_stages : θ_run defs (onTc (τ := τ) (main (F := Ideal))) ⟨m, fun _ => 0, ρ⟩ fun r => ∀ c : Dev nD,
    r.2.mem ((c.tc : Thread nD τ).loc main_v33) = rdx (m ((c.tc : Thread nD τ).loc main_arg0)) (m ((c.tc : Thread nD τ).loc main_arg2)) (m ((c.tc : Thread nD τ).loc main_arg1))
    ∧ r.2.mem ((c.tc : Thread nD τ).loc main_v17) = rdg (m ((c.tc : Thread nD τ).loc main_arg0)) (m ((c.tc : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) := by
  refine (θ_run _ _ _).mono (fun r h c => ⟨(h c).1.trans ?_, (h c).2.1.trans ?_, (h c).2.2⟩) (Cert.Reference29Ideal.Value.run m ρ)
  · unfold rdx rdmsq rdyg rmsq
    rfl
  · unfold rdg rmsq
    rfl

end Reference

/-- The kernel and the reference leave the same two gradients. -/
theorem algebraic : Cert.algebraic_Kernel29Ideal_Reference29Ideal := by
  pair_intro
  · run_from Cert.Kernel29Ideal.Value.run_blocks m g
  · run_from run_stages m' g'
    · exact (rdx_eq _ _ _).trans (finalX m c).symm
    · exact (rdg_eq _ _).trans (finalG m c).symm

end Cert.Proof.MemNormBwd

end
-- ==== Proof.MemNormFwd.lean ====
/- Hand-written, untrusted: THE NORM OF THE MEMORY (`Kernel30`), kernel against reference. One grid point takes all 256 rows. -/
module

public import proofs.«01_k».proof.Proof.Gen.Kernel30Ideal.Value
public import proofs.«01_k».proof.Proof.Gen.Reference30Ideal.Run
public import Idealize.ShloMosaic.Lib.Pipeline.ValueKit
public import Idealize.ShloMosaic.Lib.Claim
public import proofs.«01_k».proof.Proof.NormRow
public import proofs.«01_k».proof.Defs

@[expose] public section

set_option maxRecDepth 16384

noncomputable section

namespace Cert.Proof.MemNormFwd

open Idealize.ShloMosaic Idealize.ShloMosaic.TcCoe Idealize.SL.Sem
open Idealize.ShloMosaic.Pipeline (Dat)

/-- The length of a row. -/
abbrev len : EReal := Ideal.ofBits .f32 0x45000000#32

/-- The array and the row of gains. -/
abbrev Arr : Shape := ⟨2, ![256, 2048]⟩
abbrev Ln : Shape := ⟨2, ![1, 2048]⟩

/-- The normed array, element by element. -/
def norm (x : Arr.Idx → EReal) (g : Ln.Idx → EReal) (y : Arr.Idx) : EReal :=
  x y * (NormRow.inv len fun k : Fin 2048 => x (ix2 (y 0) k)) * g (ix2 0 (y 1))

section Kernel

open Cert.Kernel30Ideal Cert.Kernel30Ideal.Gen

theorem pay1_apply (x : FVec Ideal S256x2048 .f32) (g : FVec Ideal S1x2048 .f32) (i j) : k0_pay1 (F := Ideal) x g (ix2 i j)
    = x (ix2 i j) * (NormRow.inv len fun k => x (ix2 i k)) * g (ix2 0 j) := by
  pointwise [k0_pay1]
  rfl

variable (m : (ℓ : Loc nD τ sig) → Buf (Elt Ideal) ℓ)

/-- Every window's block at every point. -/
theorem idx : ∀ t : Fin cfg0.N, win0_0.index t = ![t.val, 0] ∧ win0_1.index t = ![0, 0] ∧ win0_2.index t = ![t.val, 0] :=
  (by decide +kernel : ∀ t : Fin grid0.N, _)

abbrev argX (c : Dev nD) : FVec Ideal S256x2048 .f32 := m ((c : Thread nD τ).loc main_arg0)
abbrev argG (c : Dev nD) : FVec Ideal S1x2048 .f32 := m ((c : Thread nD τ).loc main_arg1)

abbrev blkX (c : Dev nD) (t : Fin cfg0.N) : FVec Ideal S256x2048 .f32 := iblk m c 0 t
abbrev blkG (c : Dev nD) (t : Fin cfg0.N) : FVec Ideal S1x2048 .f32 := iblk m c 1 t

/-- The row of the array that a row of a point's block is. -/
abbrev rw_ (t : Fin cfg0.N) (i : Fin 256) : Fin 256 := ⟨t.val * 256 + i.val, by have : t.val < 1 := t.isLt; omega⟩

theorem blkX_apply (c : Dev nD) (t : Fin cfg0.N) (i k) : blkX m c t (ix2 i k) = argX m c (ix2 (rw_ t i) k) := by
  blk_point [iblk, V, idx t]

theorem blkG_apply (c : Dev nD) (t : Fin cfg0.N) (k) : blkG m c t (ix2 0 k) = argG m c (ix2 0 k) := by
  blk_point [iblk, V, idx t]

/-- A point's rows of the result. -/
theorem point (c : Dev nD) (t : Fin cfg0.N) (y : S256x2048.Idx) : k0_pay1 (F := Ideal) (blkX m c t) (blkG m c t) y
    = norm (argX m c) (argG m c) (ix2 (rw_ t (y 0)) (y 1)) := by
  obtain ⟨i, j, rfl⟩ : ∃ i j, y = ix2 i j := ⟨y 0, y 1, (ix2_eta y).symm⟩
  rw [pay1_apply]
  simp only [blkX_apply, blkG_apply]
  rfl

theorem emb2 (t : Fin cfg0.N) (y : S256x2048.Idx) : (win0_2.blk t).view.emb y = ix2 (rw_ t (y 0)) (y 1) := by
  blk_ext [idx t]

/-- The result array after the run. -/
theorem final (c : Dev nD) : (dats m 0 c).arrAt 2 (cfgs 0).N = norm (argX m c) (argG m c) := by
  refine (dats m 0 c).arrAt_eq_of_covers 2 _ (by decide +kernel) fun t hf y => ?_
  blk_simp
  rw [after0_2]
  unfold out0_2
  frame_out
  exact (point m c t y).trans (congrArg _ (emb2 t y).symm)

end Kernel

section Reference

open Cert.Reference30Ideal Cert.Reference30Ideal.Gen

/-- The reference's result as a function of its arguments. -/
def spec (x : FVec Ideal S256x2048 .f32) (g : FVec Ideal S1x2048 .f32) : FVec Ideal S256x2048 .bf16 :=
  truncf .bf16 (mulf (mulf x (broadcastInDim S256x2048 ![0, 1] bcast_S256x1_S256x2048_0_1 (Host.rsqrt (addf
    (Host.divf (broadcastInDim S256x1 ![0] bcast_S256_S256x1_0 (Host.reduceAdd (mulf x x) (constant S_ .f32 0x00000000#32) reducesTo_S256x2048_S256_d1 h_S_))
      (broadcastInDim S256x1 ![] bcast_S_S256x1 (constant S_ .f32 0x45000000#32)))
    (broadcastInDim S256x1 ![] bcast_S_S256x1 (constant S_ .f32 0x358637BD#32))))))
    (broadcastInDim S256x2048 ![0, 1] bcast_S1x2048_S256x2048_0_1 g)) bitsLt_bf16_f32

theorem spec_eq (x : FVec Ideal S256x2048 .f32) (g : FVec Ideal S1x2048 .f32) : spec x g = norm x g := by
  funext y
  obtain ⟨i, j, rfl⟩ : ∃ i j, y = ix2 i j := ⟨y 0, y 1, (ix2_eta y).symm⟩
  pointwise [spec]
  rfl

end Reference

/-- The kernel and the reference leave the same result. -/
theorem algebraic : Cert.algebraic_Kernel30Ideal_Reference30Ideal := by
  pair_intro
  · run_from Cert.Kernel30Ideal.Value.run_blocks m g
  · run_from Cert.Reference30Ideal.Value.run m' g'
    exact (spec_eq _ _).trans (final m c).symm

end Cert.Proof.MemNormFwd

end
-- ==== Proof.LossHead.lean ====
/- Hand-written, untrusted: THE LOSS AND ITS GRADIENTS (`Kernel31`), kernel against reference. The eight grid points take 256 rows
   each. A point writes its rows of the gradient of the last layer's result, and adds its part of the loss and of the gradient of
   the last norm's gain to the two other results, which the first point sets to zero. -/
module

public import proofs.«01_k».proof.Proof.Gen.Kernel31Ideal.Value
public import proofs.«01_k».proof.Proof.Gen.Reference31Ideal.Run
public import Idealize.ShloMosaic.Lib.Pipeline.ValueKit
public import Idealize.ShloMosaic.Lib.Claim
public import proofs.«01_k».proof.Proof.NormRow
public import proofs.«01_k».proof.Defs

@[expose] public section

set_option maxRecDepth 16384

noncomputable section

namespace Cert.Proof.LossHead

open Idealize.ShloMosaic Idealize.ShloMosaic.TcCoe Idealize.SL.Sem
open Idealize.ShloMosaic.Pipeline (Dat)

/-- The length of a row. -/
abbrev len : EReal := Ideal.ofBits .f32 0x45000000#32

theorem len_eq : len = ((2048 : ℝ) : EReal) := by
  simp [len, Ideal.ofBits, Ideal.ieee, -EReal.coe_mul]; norm_num

/-- One over the length of a row. -/
abbrev rlen : EReal := Ideal.ofBits .f32 0x3A000000#32

theorem rlen_eq : rlen = ((1 / 2048 : ℝ) : EReal) := by
  simp [rlen, Ideal.ofBits, Ideal.ieee, -EReal.coe_mul]; norm_num

/-- One half. -/
abbrev half : EReal := Ideal.ofBits .f32 0x3F000000#32

theorem half_eq : half = ((1 / 2 : ℝ) : EReal) := by
  simp [half, Ideal.ofBits, Ideal.ieee, -EReal.coe_mul]; norm_num

theorem two_eq : Ideal.ofBits .f32 0x40000000#32 = ((2 : ℝ) : EReal) := by
  simp [Ideal.ofBits, Ideal.ieee, -EReal.coe_mul]; norm_num

/-- Half the mean's share of the gradient of a square. -/
theorem share (e : EReal) : Ideal.div half len * (Ideal.ofBits .f32 0x40000000#32 * e) = e * rlen := by
  rw [half_eq, two_eq, len_eq, rlen_eq, Ideal.div_coe (by norm_num), ← mul_assoc, ← EReal.coe_mul, ← EReal.coe_mul, mul_comm]
  norm_num

/-- The weight of a square in the loss. -/
abbrev wt : ℝ := 1 / 4096

section Sums

variable {n : ℕ} (f : Fin n → EReal)

theorem sum_kernel : half * (∑ i, f i) * rlen = ∑ i, (wt : EReal) * f i := by
  rw [SoftmaxRow.mul_sum wt (by norm_num), half_eq, rlen_eq, mul_right_comm, ← EReal.coe_mul]
  norm_num

theorem sum_reference : half * (∑ i, Ideal.div (f i) len) = ∑ i, (wt : EReal) * f i := by
  rw [half_eq, ← SoftmaxRow.mul_sum (1 / 2) (by norm_num)]
  refine Finset.sum_congr rfl fun i _ => ?_
  rw [len_eq, Ideal.div_coe (by norm_num), mul_left_comm, mul_comm, ← EReal.coe_mul]
  norm_num

end Sums

/-- The shapes of the arrays. -/
abbrev Sq : Shape := ⟨2, ![2048, 2048]⟩
abbrev Ln : Shape := ⟨2, ![1, 2048]⟩
abbrev Pt : Shape := ⟨2, ![1, 1]⟩

/-- One entry's distance from the target. -/
def err {n : ℕ} (x g t : Fin n → EReal) (j : Fin n) : EReal := x j * NormRow.inv len x * g j - t j

/-- The gradient of the array. -/
def dx (x : Sq.Idx → EReal) (g : Ln.Idx → EReal) (tg : Sq.Idx → EReal) (y : Sq.Idx) : EReal :=
  NormRow.grad len (fun k : Fin 2048 => x (ix2 (y 0) k))
    (fun k => err (fun k => x (ix2 (y 0) k)) (fun k => g (ix2 0 k)) (fun k => tg (ix2 (y 0) k)) k * rlen * g (ix2 0 k)) (y 1)

/-- One row's part of the gradient of the gain. -/
def dgRow {n : ℕ} (x g t : Fin n → EReal) (j : Fin n) : EReal := err x g t j * rlen * (x j * NormRow.inv len x)

/-- One row's part of the loss. -/
def lossRow {n : ℕ} (x g t : Fin n → EReal) : EReal := (wt : EReal) * ∑ j, err x g t j * err x g t j

/-- The gradient of the gain. -/
def dg (x : Sq.Idx → EReal) (g : Ln.Idx → EReal) (tg : Sq.Idx → EReal) (y : Ln.Idx) : EReal :=
  ∑ i : Fin 2048, dgRow (fun k => x (ix2 i k)) (fun k => g (ix2 0 k)) (fun k => tg (ix2 i k)) (y 1)

/-- The loss. -/
def loss (x : Sq.Idx → EReal) (g : Ln.Idx → EReal) (tg : Sq.Idx → EReal) (_ : Pt.Idx) : EReal :=
  ∑ i : Fin 2048, lossRow (fun k => x (ix2 i k)) (fun k => g (ix2 0 k)) (fun k => tg (ix2 i k))

section Kernel

open Cert.Kernel31Ideal Cert.Kernel31Ideal.Gen

section Blocks

variable (x tg : FVec Ideal S256x2048 .f32) (g : FVec Ideal S1x2048 .f32)

theorem pay3_apply (y) : k0_pay3 (F := Ideal) x y = NormRow.inv len fun k => x (ix2 (y 0) k) := by
  pointwise [k0_pay3]
  rfl

theorem pay4_apply (y) : k0_pay4 (F := Ideal) x y = x y * NormRow.inv len fun k => x (ix2 (y 0) k) := by
  pointwise [k0_pay4]
  rw [pay3_apply]
  rfl

theorem pay5_apply (i j) : k0_pay5 (F := Ideal) x g tg (ix2 i j)
    = err (fun k => x (ix2 i k)) (fun k => g (ix2 0 k)) (fun k => tg (ix2 i k)) j := by
  pointwise [k0_pay5]
  rw [pay4_apply]
  rfl

theorem pay6_apply (i j) : k0_pay6 (F := Ideal) x g tg (ix2 i j)
    = err (fun k => x (ix2 i k)) (fun k => g (ix2 0 k)) (fun k => tg (ix2 i k)) j * rlen := by
  pointwise [k0_pay6]
  rw [pay5_apply]

theorem pay7_apply (i j) : k0_pay7 (F := Ideal) x g tg g (ix2 i j)
    = NormRow.grad len (fun k => x (ix2 i k))
        (fun k => err (fun k => x (ix2 i k)) (fun k => g (ix2 0 k)) (fun k => tg (ix2 i k)) k * rlen * g (ix2 0 k)) j := by
  pointwise [k0_pay7]
  simp only [pay3_apply, pay4_apply, pay6_apply]
  unfold NormRow.grad
  rfl

theorem pay1_apply (old : FVec Ideal S1x2048 .f32) (z j) : k0_pay1 (F := Ideal) (k0_pay4 x) (k0_pay6 x g tg) (k0_pay10 old) (ix2 z j)
    = old (ix2 z j) + ∑ i : Fin 256, dgRow (fun k => x (ix2 i k)) (fun k => g (ix2 0 k)) (fun k => tg (ix2 i k)) j := by
  pointwise [k0_pay1, k0_pay10]
  simp only [pay4_apply, pay6_apply]
  rfl

theorem pay2_apply (old : FVec Ideal S1x1 .f32) (y) : k0_pay2 (F := Ideal) (k0_pay5 x g tg) old y
    = old y + ∑ i : Fin 256, lossRow (fun k => x (ix2 i k)) (fun k => g (ix2 0 k)) (fun k => tg (ix2 i k)) := by
  unfold lossRow
  rw [← sum_kernel]
  pointwise [k0_pay2]
  simp only [pay5_apply]

theorem pay8_apply (y) : k0_pay8 (F := Ideal) y = (0 : EReal) := by
  pointwise [k0_pay8]

theorem pay9_apply (y) : k0_pay9 (F := Ideal) y = (0 : EReal) := by
  pointwise [k0_pay9]

end Blocks

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![0, 0] :=
  (by decide +kernel : ∀ t : Fin grid0.N, _)

abbrev argX (c : Dev nD) : FVec Ideal S2048x2048 .f32 := m ((c : Thread nD τ).loc main_arg0)
abbrev argG (c : Dev nD) : FVec Ideal S1x2048 .f32 := m ((c : Thread nD τ).loc main_arg1)
abbrev argT (c : Dev nD) : FVec Ideal S2048x2048 .f32 := m ((c : Thread nD τ).loc main_arg2)

/-- The row of the array that a row of a point's block is. -/
abbrev rw_ (t : Fin cfg0.N) (i : Fin 256) : Fin 2048 := ⟨t.val * 256 + i.val, by have : t.val < 8 := t.isLt; omega⟩

abbrev blkX (c : Dev nD) (t : Fin cfg0.N) : FVec Ideal S256x2048 .f32 := iblk m c 0 t
abbrev blkG (c : Dev nD) (t : Fin cfg0.N) : FVec Ideal S1x2048 .f32 := iblk m c 1 t
abbrev blkT (c : Dev nD) (t : Fin cfg0.N) : FVec Ideal S256x2048 .f32 := iblk m c 2 t

theorem blkX_apply (c : Dev nD) (t : Fin cfg0.N) (i k) : blkX m c t (ix2 i k) = argX m c (ix2 (rw_ t i) k) := by
  blk_point [iblk, V, idx t]

theorem blkG_apply (c : Dev nD) (t : Fin cfg0.N) (k) : blkG m c t (ix2 0 k) = argG m c (ix2 0 k) := by
  blk_point [iblk, V, idx t]

theorem blkT_apply (c : Dev nD) (t : Fin cfg0.N) (i k) : blkT m c t (ix2 i k) = argT m c (ix2 (rw_ t i) k) := by
  blk_point [iblk, V, idx t]

theorem keyX (c : Dev nD) (t : Fin cfg0.N) (y : S256x2048.Idx) :
    k0_pay7 (F := Ideal) (blkX m c t) (blkG m c t) (blkT m c t) (blkG m c t) y
      = dx (argX m c) (argG m c) (argT m c) (ix2 (rw_ t (y 0)) (y 1)) := by
  obtain ⟨i, j, rfl⟩ : ∃ i j, y = ix2 i j := ⟨y 0, y 1, (ix2_eta y).symm⟩
  rw [pay7_apply]
  simp only [blkX_apply, blkG_apply, blkT_apply]
  rfl

abbrev termG (c : Dev nD) (t : Fin cfg0.N) (y : S1x2048.Idx) : EReal :=
  ∑ i : Fin 256, dgRow (fun k => argX m c (ix2 (rw_ t i) k)) (fun k => argG m c (ix2 0 k)) (fun k => argT m c (ix2 (rw_ t i) k)) (y 1)

abbrev termL (c : Dev nD) (t : Fin cfg0.N) (_ : S1x1.Idx) : EReal :=
  ∑ i : Fin 256, lossRow (fun k => argX m c (ix2 (rw_ t i) k)) (fun k => argG m c (ix2 0 k)) (fun k => argT m c (ix2 (rw_ t i) k))

theorem keyG (c : Dev nD) (t : Fin cfg0.N) (old) (y) :
    k0_pay1 (F := Ideal) (k0_pay4 (blkX m c t)) (k0_pay6 (blkX m c t) (blkG m c t) (blkT m c t)) (k0_pay10 old) y = old y + termG m c t y := by
  obtain ⟨i, j, rfl⟩ : ∃ i j, y = ix2 i j := ⟨y 0, y 1, (ix2_eta y).symm⟩
  rw [pay1_apply]
  simp only [blkX_apply, blkG_apply, blkT_apply]
  rfl

theorem keyL (c : Dev nD) (t : Fin cfg0.N) (old) (y) :
    k0_pay2 (F := Ideal) (k0_pay5 (blkX m c t) (blkG m c t) (blkT m c t)) old y = old y + termL m c t y := by
  rw [pay2_apply]
  simp only [blkX_apply, blkG_apply, blkT_apply]

theorem pointX (c : Dev nD) (t : Fin cfg0.N) (y : S256x2048.Idx) : (outsAt0 m c t.val t.isLt).2.1 y
    = dx (argX m c) (argG m c) (argT m c) (ix2 (rw_ t (y 0)) (y 1)) := by
  by_cases h : t.val % 8 = 0
  · rw [outsAt0_A m c t h]
    frame_out
    exact keyX m c t y
  · rw [outsAt0_B m c t h]
    frame_out
    exact keyX m c t y

theorem firstL (c : Dev nD) (t : Fin cfg0.N) (h : t.val % 8 = 0) (y : S1x1.Idx) :
    (outsAt0 m c t.val t.isLt).1 y = 0 + termL m c t y := by
  rw [outsAt0_A m c t h]
  frame_out
  refine (keyL m c t _ y).trans ?_
  rw [pay9_apply]

theorem nextL (c : Dev nD) (t : Fin cfg0.N) (h : ¬t.val % 8 = 0) (y : S1x1.Idx) :
    (outsAt0 m c t.val t.isLt).1 y
      = (outsAt0 m c (t.val - 1) (Nat.lt_of_le_of_lt (Nat.sub_le _ _) t.isLt)).1 y + termL m c t y := by
  rw [outsAt0_B m c t h]
  frame_out
  exact keyL m c t _ y

theorem firstG (c : Dev nD) (t : Fin cfg0.N) (h : t.val % 8 = 0) (y : S1x2048.Idx) :
    (outsAt0 m c t.val t.isLt).2.2 y = 0 + termG m c t y := by
  rw [outsAt0_A m c t h]
  frame_out
  refine (keyG m c t _ y).trans ?_
  rw [pay8_apply]

theorem nextG (c : Dev nD) (t : Fin cfg0.N) (h : ¬t.val % 8 = 0) (y : S1x2048.Idx) :
    (outsAt0 m c t.val t.isLt).2.2 y
      = (outsAt0 m c (t.val - 1) (Nat.lt_of_le_of_lt (Nat.sub_le _ _) t.isLt)).2.2 y + termG m c t y := by
  rw [outsAt0_B m c t h]
  frame_out
  exact keyG m c t _ y

theorem emb3 (t : Fin cfg0.N) (y : S1x1.Idx) : (win0_3.blk t).view.emb y = y := by
  blk_ext [idx t]

theorem emb4 (t : Fin cfg0.N) (y : S256x2048.Idx) : (win0_4.blk t).view.emb y = ix2 (rw_ t (y 0)) (y 1) := by
  blk_ext [idx t]

theorem emb5 (t : Fin cfg0.N) (y : S1x2048.Idx) : (win0_5.blk t).view.emb y = y := by
  blk_ext [idx t]

theorem finalX (c : Dev nD) : (dats m 0 c).arrAt 4 (cfgs 0).N = dx (argX m c) (argG m c) (argT m c) := by
  refine (dats m 0 c).arrAt_eq_of_covers 4 _ (by decide +kernel) fun t hf y => ?_
  blk_simp
  rw [after0_4, pointX m c t y]
  exact congrArg _ (emb4 t y).symm

theorem finalL (c : Dev nD) : (dats m 0 c).arrAt 3 (cfgs 0).N = loss (argX m c) (argG m c) (argT m c) := by
  refine (dats m 0 c).arrAt_eq_of_covers 3 _ (by decide +kernel) fun t hf y => ?_
  blk_simp
  have h3 := (flush0_3 t).mp hf
  rw [after0_3, Pipeline.eq_sum_fin_of_reset_step_apply_of_flush (fun n h => (outsAt0 m c n h).1) 8
    (fun _ => 0) (termL m c) (firstL m c) (nextL m c) t h3 y, zero_add]
  refine Fin.sum_mul_add_congr fun s k hl => ?_
  have e : rw_ ⟨_, Pipeline.run_point_lt_of_flush t h3 s⟩ k = ⟨s.val * 256 + k.val, hl⟩ :=
    Fin.ext (by show (8 * (t.val / 8) + s.val) * 256 + k.val = s.val * 256 + k.val; have : t.val < 8 := t.isLt; omega)
  rw [e]

theorem finalG (c : Dev nD) : (dats m 0 c).arrAt 5 (cfgs 0).N = dg (argX m c) (argG m c) (argT m c) := by
  refine (dats m 0 c).arrAt_eq_of_covers 5 _ (by decide +kernel) fun t hf y => ?_
  blk_simp
  have h3 := (flush0_5 t).mp hf
  rw [after0_5, Pipeline.eq_sum_fin_of_reset_step_apply_of_flush (fun n h => (outsAt0 m c n h).2.2) 8
    (fun _ => 0) (termG m c) (firstG m c) (nextG m c) t h3 y, zero_add]
  refine Eq.trans ?_ (congrArg (dg (argX m c) (argG m c) (argT m c)) (emb5 t y).symm)
  refine Fin.sum_mul_add_congr fun s k hl => ?_
  have e : rw_ ⟨_, Pipeline.run_point_lt_of_flush t h3 s⟩ k = ⟨s.val * 256 + k.val, hl⟩ :=
    Fin.ext (by show (8 * (t.val / 8) + s.val) * 256 + k.val = s.val * 256 + k.val; have : t.val < 8 := t.isLt; omega)
  rw [e]

end Kernel

section Reference

open Cert.Reference31Ideal Cert.Reference31Ideal.Gen

variable (x tg : FVec Ideal S2048x2048 .f32) (g : FVec Ideal S1x2048 .f32)

/-- The reference's mean square and small number, of every row. -/
def rmsq : FVec Ideal S2048x1 .f32 :=
  addf (Host.divf (broadcastInDim S2048x1 ![0] bcast_S2048_S2048x1_0 (Host.reduceAdd (mulf x x) (constant S_ .f32 0x00000000#32) reducesTo_S2048x2048_S2048_d1 h_S_))
    (broadcastInDim S2048x1 ![] bcast_S_S2048x1 (constant S_ .f32 0x45000000#32))) (broadcastInDim S2048x1 ![] bcast_S_S2048x1 (constant S_ .f32 0x358637BD#32))

/-- The normed rows. -/
def rxh : FVec Ideal S2048x2048 .f32 := mulf x (broadcastInDim S2048x2048 ![0, 1] bcast_S2048x1_S2048x2048_0_1 (Host.rsqrt (rmsq x)))

/-- The distance from the target. -/
def rerr : FVec Ideal S2048x2048 .f32 := subf (mulf (rxh x) (broadcastInDim S2048x2048 ![0, 1] bcast_S1x2048_S2048x2048_0_1 g)) tg

/-- The loss's gradient by the distance. -/
def rderr : FVec Ideal S2048x2048 .f32 :=
  mulf (broadcastInDim S2048x2048 ![0] bcast_S2048_S2048x2048_0 (Host.divf (broadcastInDim S2048 ![] bcast_S_S2048
      (mulf (constant S_ .f32 0x3F000000#32) (constant S_ .f32 0x3F800000#32))) (broadcastInDim S2048 ![] bcast_S_S2048 (constant S_ .f32 0x45000000#32))))
    (mulf (broadcastInDim S2048x2048 ![] bcast_S_S2048x2048 (constant S_ .f32 0x40000000#32)) (rerr x tg g))

/-- The gradient of the normed row. -/
def rdyg : FVec Ideal S2048x2048 .f32 := mulf (rderr x tg g) (broadcastInDim S2048x2048 ![0, 1] bcast_S1x2048_S2048x2048_0_1 g)

/-- The gradient of the mean square, with the factor of the mean. -/
def rdmsq (z : FVec Ideal S2048x1 .f32) (d : FVec Ideal S2048x2048 .f32) : FVec Ideal S2048x2048 .f32 :=
  broadcastInDim S2048x2048 ![0] bcast_S2048_S2048x2048_0 (Host.reduceAdd (Host.divf (mulf (shapeCast _ (Host.reduceAdd (mulf x d)
    (constant S_ .f32 0x00000000#32) reducesTo_S2048x2048_S2048_d1 h_S_) shapeCasts_S2048_S2048x1)
    (mulf (broadcastInDim S2048x1 ![] bcast_S_S2048x1 (constant S_ .f32 0xBF000000#32)) (Host.divf (Host.rsqrt z) z)))
    (broadcastInDim S2048x1 ![] bcast_S_S2048x1 (constant S_ .f32 0x45000000#32))) (constant S_ .f32 0x00000000#32) reducesTo_S2048x1_S2048_d1 h_S_)

def rdx : FVec Ideal S2048x2048 .f32 :=
  addf (addf (mulf (rdyg x tg g) (broadcastInDim S2048x2048 ![0, 1] bcast_S2048x1_S2048x2048_0_1 (Host.rsqrt (rmsq x))))
    (mulf x (rdmsq x (rmsq x) (rdyg x tg g)))) (mulf (rdmsq x (rmsq x) (rdyg x tg g)) x)

def rdg : FVec Ideal S1x2048 .f32 :=
  shapeCast _ (Host.reduceAdd (mulf (rxh x) (rderr x tg g)) (constant S_ .f32 0x00000000#32) reducesTo_S2048x2048_S2048_d0 h_S_) shapeCasts_S2048_S1x2048

def rloss : FVec Ideal S1x1 .f32 :=
  shapeCast _ (mulf (constant S_ .f32 0x3F000000#32) (Host.reduceAdd (Host.divf (Host.reduceAdd (mulf (rerr x tg g) (rerr x tg g))
    (constant S_ .f32 0x00000000#32) reducesTo_S2048x2048_S2048_d1 h_S_) (broadcastInDim S2048 ![] bcast_S_S2048 (constant S_ .f32 0x45000000#32)))
    (constant S_ .f32 0x00000000#32) reducesTo_S2048_S_d0 h_S_)) shapeCasts_S_S1x1

theorem rmsq_apply (y) : rmsq x y = NormRow.msq len fun k : Fin 2048 => x (ix2 (y 0) k) := by
  pointwise [rmsq]
  rfl

theorem rxh_apply (i j) : rxh x (ix2 i j) = x (ix2 i j) * NormRow.inv len fun k : Fin 2048 => x (ix2 i k) := by
  pointwise [rxh]
  rw [rmsq_apply]
  rfl

theorem rerr_apply (i j) : rerr x tg g (ix2 i j)
    = err (fun k : Fin 2048 => x (ix2 i k)) (fun k => g (ix2 0 k)) (fun k => tg (ix2 i k)) j := by
  pointwise [rerr]
  rw [rxh_apply]
  rfl

theorem rderr_apply (i j) : rderr x tg g (ix2 i j)
    = err (fun k : Fin 2048 => x (ix2 i k)) (fun k => g (ix2 0 k)) (fun k => tg (ix2 i k)) j * rlen := by
  pointwise [rderr]
  rw [rerr_apply]
  exact share _

theorem rdyg_apply (i j) : rdyg x tg g (ix2 i j)
    = err (fun k : Fin 2048 => x (ix2 i k)) (fun k => g (ix2 0 k)) (fun k => tg (ix2 i k)) j * rlen * g (ix2 0 j) := by
  pointwise [rdyg]
  rw [rderr_apply]

theorem rdmsq_apply (d : FVec Ideal S2048x2048 .f32) (i j) : rdmsq x (rmsq x) d (ix2 i j)
    = NormRow.dmsq len (fun k : Fin 2048 => x (ix2 i k)) (fun k => d (ix2 i k)) := by
  pointwise [rdmsq]
  simp only [rmsq_apply, Fin.sum_univ_one]
  rfl

theorem rdx_eq : rdx x tg g = dx x g tg := by
  funext y
  obtain ⟨i, j, rfl⟩ : ∃ i j, y = ix2 i j := ⟨y 0, y 1, (ix2_eta y).symm⟩
  refine Eq.trans ?_ (NormRow.gradChain_eq (fun k : Fin 2048 => x (ix2 i k)) (fun k => err (fun k : Fin 2048 => x (ix2 i k))
    (fun k => g (ix2 0 k)) (fun k => tg (ix2 i k)) k * rlen * g (ix2 0 k)) 2048 (by norm_num) len_eq j)
  pointwise [rdx]
  simp only [rmsq_apply, rdmsq_apply, rdyg_apply]
  exact add_assoc _ _ _

theorem rdg_eq : rdg x tg g = dg x g tg := by
  funext y
  obtain ⟨z, j, rfl⟩ : ∃ z j, y = ix2 z j := ⟨y 0, y 1, (ix2_eta y).symm⟩
  pointwise [rdg]
  simp only [rxh_apply, rderr_apply]
  exact Finset.sum_congr rfl fun i _ => mul_comm _ _

theorem rloss_eq : rloss x tg g = loss x g tg := by
  funext y
  refine Eq.trans ?_ (sum_reference _)
  pointwise [rloss]
  simp only [rerr_apply]

variable (m : (ℓ : Loc nD τ sig) → Buf (Elt Ideal) ℓ) (ρ : Dev nD → PrngReg)

/-- The reference's run, its three results by their stages. -/
theorem run_stages : θ_run defs (onTc (τ := τ) (main (F := Ideal))) ⟨m, fun _ => 0, ρ⟩ fun r => ∀ c : Dev nD,
    r.2.mem ((c.tc : Thread nD τ).loc main_v49) = rloss (m ((c.tc : Thread nD τ).loc main_arg0)) (m ((c.tc : Thread nD τ).loc main_arg2))
        (m ((c.tc : Thread nD τ).loc main_arg1))
    ∧ r.2.mem ((c.tc : Thread nD τ).loc main_v48) = rdx (m ((c.tc : Thread nD τ).loc main_arg0)) (m ((c.tc : Thread nD τ).loc main_arg2))
        (m ((c.tc : Thread nD τ).loc main_arg1))
    ∧ r.2.mem ((c.tc : Thread nD τ).loc main_v32) = rdg (m ((c.tc : Thread nD τ).loc main_arg0)) (m ((c.tc : Thread nD τ).loc main_arg2))
        (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) := by
  refine (θ_run _ _ _).mono (fun r h c => ⟨(h c).1.trans ?_, (h c).2.1.trans ?_, (h c).2.2.1.trans ?_, (h c).2.2.2⟩)
    (Cert.Reference31Ideal.Value.run m ρ)
  · unfold rloss rerr rxh rmsq
    rfl
  · unfold Cert.Reference31Ideal.Value.res_main_v48 rdx rdmsq rdyg rderr rerr rxh rmsq
    rfl
  · unfold rdg rderr rerr rxh rmsq
    rfl

end Reference

/-- The kernel and the reference leave the same loss and the same two gradients. -/
theorem algebraic : Cert.algebraic_Kernel31Ideal_Reference31Ideal := by
  pair_intro
  · run_from Cert.Kernel31Ideal.Value.run_blocks m g
  · run_from run_stages m' g'
    · exact (rloss_eq _ _ _).trans (finalL m c).symm
    · exact (rdx_eq _ _ _).trans (finalX m c).symm
    · exact (rdg_eq _ _ _).trans (finalG m c).symm

end Cert.Proof.LossHead

end
-- ==== Proof.ConvFwd.lean ====
/- Hand-written, untrusted: THE CONVOLUTION MIXER'S SECOND HALF (`Kernel32`: layer norm, gate, product with a weight), kernel against
   reference. The eight grid points take 256 rows each. The layer norm and the gate are those of ConvBwd.lean. -/
module

public import proofs.«01_k».proof.Proof.Gen.Kernel32Ideal.Value
public import proofs.«01_k».proof.Proof.Gen.Reference32Ideal.Run
public import Idealize.ShloMosaic.Lib.Pipeline.ValueKit
public import Idealize.ShloMosaic.Lib.Claim
public import proofs.«01_k».proof.Proof.ConvBwd
public import proofs.«01_k».proof.Defs

@[expose] public section

set_option maxRecDepth 16384

noncomputable section

namespace Cert.Proof.ConvFwd

open Idealize.ShloMosaic Idealize.ShloMosaic.TcCoe Idealize.SL.Sem
open Idealize.ShloMosaic.Pipeline (Dat)
open Cert.Proof.ConvBwd (Sx Sg Sw act gate)

/-- The result. -/
def mix (x : Sx.Idx → EReal) (g b : Sg.Idx → EReal) (w : Sw.Idx → EReal) (y : Sx.Idx) : EReal :=
  ∑ k : Fin 512, act x g b (y 0) k * gate x g b (y 0) k * w (ix2 k (y 1))

section Kernel

open Cert.Kernel32Ideal Cert.Kernel32Ideal.Gen

theorem pay1_apply (x : FVec Ideal S256x512 .f32) (g b : FVec Ideal S1x512 .f32) (w : FVec Ideal S512x512 .bf16) (i j) :
    k0_pay1 (F := Ideal) x g b w (ix2 i j) = ∑ k : Fin 512, ConvBwd.bact x g b i k * ConvBwd.bgate x g b i k * w (ix2 k j) := by
  pointwise [k0_pay1]
  rfl

variable (m : (ℓ : Loc nD τ sig) → Buf (Elt Ideal) ℓ)

theorem idx : ∀ t : Fin cfg0.N, win0_0.index t = ![t.val, 0] ∧ win0_1.index t = ![0, 0] ∧ win0_2.index t = ![0, 0] ∧ win0_3.index t = ![0, 0] ∧ win0_4.index t = ![t.val, 0] :=
  (by decide +kernel : ∀ t : Fin grid0.N, _)

abbrev argX (c : Dev nD) : FVec Ideal S2048x512 .f32 := m ((c : Thread nD τ).loc main_arg0)
abbrev argG (c : Dev nD) : FVec Ideal S1x512 .f32 := m ((c : Thread nD τ).loc main_arg1)
abbrev argB (c : Dev nD) : FVec Ideal S1x512 .f32 := m ((c : Thread nD τ).loc main_arg2)
abbrev argW (c : Dev nD) : FVec Ideal S512x512 .bf16 := m ((c : Thread nD τ).loc main_arg3)

abbrev blkX (c : Dev nD) (t : Fin cfg0.N) : FVec Ideal S256x512 .f32 := iblk m c 0 t
abbrev blkG (c : Dev nD) (t : Fin cfg0.N) : FVec Ideal S1x512 .f32 := iblk m c 1 t
abbrev blkB (c : Dev nD) (t : Fin cfg0.N) : FVec Ideal S1x512 .f32 := iblk m c 2 t
abbrev blkW (c : Dev nD) (t : Fin cfg0.N) : FVec Ideal S512x512 .bf16 := iblk m c 3 t

/-- The row of the array that a row of a point's block is. -/
abbrev rw_ (t : Fin cfg0.N) (i : Fin 256) : Fin 2048 := ⟨t.val * 256 + i.val, by have : t.val < 8 := t.isLt; omega⟩

theorem blkX_apply (c : Dev nD) (t : Fin cfg0.N) (i k) : blkX m c t (ix2 i k) = argX m c (ix2 (rw_ t i) k) := by
  blk_point [iblk, V, idx t]
theorem blkG_apply (c : Dev nD) (t : Fin cfg0.N) (k) : blkG m c t (ix2 0 k) = argG m c (ix2 0 k) := by
  blk_point [iblk, V, idx t]
theorem blkB_apply (c : Dev nD) (t : Fin cfg0.N) (k) : blkB m c t (ix2 0 k) = argB m c (ix2 0 k) := by
  blk_point [iblk, V, idx t]
theorem blkW_apply (c : Dev nD) (t : Fin cfg0.N) (i k) : blkW m c t (ix2 i k) = argW m c (ix2 i k) := by
  blk_point [iblk, V, idx t]

theorem bact_eq (c : Dev nD) (t : Fin cfg0.N) (i k) :
    ConvBwd.bact (blkX m c t) (blkG m c t) (blkB m c t) i k = act (argX m c) (argG m c) (argB m c) (rw_ t i) k := by
  unfold ConvBwd.bact ConvBwd.bhat
  simp only [blkX_apply]
  exact congrArg₂ (fun a b => _ * a + b) (blkG_apply m c t k) (blkB_apply m c t k)

theorem bgate_eq (c : Dev nD) (t : Fin cfg0.N) (i k) :
    ConvBwd.bgate (blkX m c t) (blkG m c t) (blkB m c t) i k = gate (argX m c) (argG m c) (argB m c) (rw_ t i) k :=
  congrArg Ideal.logistic (bact_eq m c t i k)

/-- A point's rows of the result. -/
theorem point (c : Dev nD) (t : Fin cfg0.N) (y : S256x512.Idx) : k0_pay1 (F := Ideal) (blkX m c t) (blkG m c t) (blkB m c t) (blkW m c t) y
    = mix (argX m c) (argG m c) (argB m c) (argW m c) (ix2 (rw_ t (y 0)) (y 1)) := by
  obtain ⟨i, j, rfl⟩ : ∃ i j, y = ix2 i j := ⟨y 0, y 1, (ix2_eta y).symm⟩
  rw [pay1_apply]
  simp only [bact_eq, bgate_eq, blkW_apply]
  rfl

theorem emb4 (t : Fin cfg0.N) (y : S256x512.Idx) : (win0_4.blk t).view.emb y = ix2 (rw_ t (y 0)) (y 1) := by
  blk_ext [idx t]

/-- The result array after the run. -/
theorem final (c : Dev nD) : (dats m 0 c).arrAt 4 (cfgs 0).N = mix (argX m c) (argG m c) (argB m c) (argW m c) := by
  refine (dats m 0 c).arrAt_eq_of_covers 4 _ (by decide +kernel) fun t hf y => ?_
  blk_simp
  rw [after0_4]
  unfold out0_4
  frame_out
  exact (point m c t y).trans (congrArg _ (emb4 t y).symm)

end Kernel

section Reference

open Cert.Reference32Ideal Cert.Reference32Ideal.Gen

/-- The reference's result as a function of its arguments. -/
def spec (x : FVec Ideal S2048x512 .f32) (g b : FVec Ideal S1x512 .f32) (w : FVec Ideal S512x512 .bf16) : FVec Ideal S2048x512 .f32 :=
  Host.dotGeneral dot_S2048x512_S512x512_S2048x512_1_0_0_1_n_n none (mulf (ConvBwd.ract x g b) (ConvBwd.rgate (ConvBwd.ract x g b)))
    (extf .f32 w bitsLt_bf16_f32)

theorem spec_eq (x : FVec Ideal S2048x512 .f32) (g b : FVec Ideal S1x512 .f32) (w : FVec Ideal S512x512 .bf16) : spec x g b w = mix x g b w := by
  funext y
  obtain ⟨i, j, rfl⟩ : ∃ i j, y = ix2 i j := ⟨y 0, y 1, (ix2_eta y).symm⟩
  pointwise [spec]
  simp only [ConvBwd.rgate_apply, ConvBwd.ract_apply]
  rfl

variable (m : (ℓ : Loc nD τ sig) → Buf (Elt Ideal) ℓ) (ρ : Dev nD → PrngReg)

/-- The reference's run, its result by its stages. -/
theorem run_stages : θ_run defs (onTc (τ := τ) (main (F := Ideal))) ⟨m, fun _ => 0, ρ⟩ fun r => ∀ c : Dev nD,
    r.2.mem ((c.tc : Thread nD τ).loc main_v22) = spec (m ((c.tc : Thread nD τ).loc main_arg0)) (m ((c.tc : Thread nD τ).loc main_arg1))
      (m ((c.tc : Thread nD τ).loc main_arg2)) (m ((c.tc : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  refine (θ_run _ _ _).mono (fun r h c => ⟨(h c).1.trans ?_, (h c).2⟩) (Cert.Reference32Ideal.Value.run m ρ)
  unfold spec ConvBwd.rgate ConvBwd.ract ConvBwd.rhat ConvBwd.rmsq ConvBwd.rcen
  rfl

end Reference

/-- The kernel and the reference leave the same result. -/
theorem algebraic : Cert.algebraic_Kernel32Ideal_Reference32Ideal := by
  pair_intro
  · run_from Cert.Kernel32Ideal.Value.run_blocks m g
  · run_from run_stages m' g'
    exact (spec_eq _ _ _ _).trans (final m c).symm

end Cert.Proof.ConvFwd

end
-- ==== Proof.GrpFwd.lean ====
/- Hand-written, untrusted: THE NORM OF THE MIXERS' RESULTS (`Kernel33`), kernel against reference. The norm is taken in each of four
   groups of 512 columns, the results of the four mixers. The eight grid points take 256 rows each and write them group by group. -/
module

public import proofs.«01_k».proof.Proof.Gen.Kernel33Ideal.Value
public import proofs.«01_k».proof.Proof.Gen.Reference33Ideal.Run
public import Idealize.ShloMosaic.Lib.Pipeline.ValueKit
public import Idealize.ShloMosaic.Lib.Claim
public import proofs.«01_k».proof.Proof.GrpBwd
public import proofs.«01_k».proof.Defs

@[expose] public section

set_option maxRecDepth 16384

noncomputable section

namespace Cert.Proof.GrpFwd

open Idealize.ShloMosaic Idealize.ShloMosaic.TcCoe Idealize.SL.Sem
open Idealize.ShloMosaic.Pipeline (Dat)
open Cert.Proof.GrpBwd (Sq Bk Ln len col grp pos col_grp grp_col pos_col)

/-- The normed entry of a group. -/
def nrm (x : Bk.Idx → EReal) (g : Ln.Idx → EReal) (q : Fin 4) (i : Fin 2048) (k : Fin 512) : EReal :=
  x (ix2 i k) * (NormRow.inv len fun k : Fin 512 => x (ix2 i k)) * g (ix2 0 (col q k))

/-- The result. -/
def norm (x : Fin 4 → Bk.Idx → EReal) (g : Ln.Idx → EReal) (y : Sq.Idx) : EReal := nrm (x (grp (y 1))) g (grp (y 1)) (y 0) (pos (y 1))

theorem norm_at (x : Fin 4 → Bk.Idx → EReal) (g : Ln.Idx → EReal) (i q k) : norm x g (ix2 i (col q k)) = nrm (x q) g q i k := by
  show nrm (x (grp (col q k))) g (grp (col q k)) i (pos (col q k)) = _
  rw [grp_col, pos_col]

section Kernel

open Cert.Kernel33Ideal Cert.Kernel33Ideal.Gen

section Blocks

variable (x : FVec Ideal S256x512 .f32) (g : FVec Ideal S1x512 .f32)

theorem pay3_apply (i k) : k0_pay3 (F := Ideal) x g (ix2 i k) = x (ix2 i k) * (NormRow.inv len fun k : Fin 512 => x (ix2 i k)) * g (ix2 0 k) := by
  pointwise [k0_pay3]
  rfl

theorem pay4_apply (i k) : k0_pay4 (F := Ideal) x g (ix2 i k) = x (ix2 i k) * (NormRow.inv len fun k : Fin 512 => x (ix2 i k)) * g (ix2 0 k) := by
  pointwise [k0_pay4]
  rfl

theorem pay1_apply (i k) : k0_pay1 (F := Ideal) x (k0_pay5 x) g (ix2 i k) = x (ix2 i k) * (NormRow.inv len fun k : Fin 512 => x (ix2 i k)) * g (ix2 0 k) := by
  pointwise [k0_pay1, k0_pay5]
  rfl

theorem pay2_apply (i k) : k0_pay2 (F := Ideal) x g (ix2 i k) = x (ix2 i k) * (NormRow.inv len fun k : Fin 512 => x (ix2 i k)) * g (ix2 0 k) := by
  pointwise [k0_pay2]
  rfl

end Blocks

/-- A written group at its own entry. -/
theorem hit (o : ℕ) (inb : ∀ a : Fin S256x2048.rank, (![0, o] : Fin S256x2048.rank → ℕ) a + S256x512.size a ≤ S256x2048.size a)
    (p : S256x512.Idx → EReal) (L : List (View.Piece (Elt Ideal) S256x2048 .bf16)) (q : Fin 4) (ho : o = q.val * 512) (z : Fin 256) (k : Fin 512) :
    View.canon (Val := Elt Ideal) (e := .bf16) (⟨Rect.unit (s := S256x2048) ![0, o] S256x512.size inb, p⟩ :: L) (ix2 z (col q k)) = p (ix2 z k) := by
  have e : (Rect.unit (s := S256x2048) ![0, o] S256x512.size inb).emb (ix2 z k) = ix2 z (col q k) := by
    subst ho
    exact funext fun a => Fin.ext ((Rect.idx_unit_val _ _ inb (ix2 z k) a).trans
      (match a with | ⟨0, _⟩ => Nat.zero_add _ | ⟨1, _⟩ => rfl))
  rw [← e]
  exact View.canon_cons_emb _ _ _ _

/-- A written group at an entry of an earlier group. -/
theorem miss (o : ℕ) (inb : ∀ a : Fin S256x2048.rank, (![0, o] : Fin S256x2048.rank → ℕ) a + S256x512.size a ≤ S256x2048.size a)
    (p : S256x512.Idx → EReal) (L : List (View.Piece (Elt Ideal) S256x2048 .bf16)) (q : Fin 4) (ho : q.val * 512 + 512 ≤ o) (z : Fin 256) (k : Fin 512) :
    View.canon (Val := Elt Ideal) (e := .bf16) (⟨Rect.unit (s := S256x2048) ![0, o] S256x512.size inb, p⟩ :: L) (ix2 z (col q k))
      = View.canon (Val := Elt Ideal) (e := .bf16) L (ix2 z (col q k)) := by
  refine View.canon_cons_of_not_mem _ _ fun h => ?_
  have h2 : o ≤ q.val * 512 + k.val := ((Rect.mem_set_unit (inb := inb)).mp h 1).1
  have := k.isLt
  omega

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![t.val, 0] ∧ win0_4.index t = ![0, 0] ∧ win0_5.index t = ![t.val, 0] :=
  (by decide +kernel : ∀ t : Fin grid0.N, _)

abbrev argX (c : Dev nD) : Fin 4 → FVec Ideal S2048x512 .f32 :=
  ![m ((c : Thread nD τ).loc main_arg0), m ((c : Thread nD τ).loc main_arg1), m ((c : Thread nD τ).loc main_arg2), m ((c : Thread nD τ).loc main_arg3)]
abbrev argG (c : Dev nD) : FVec Ideal S1x2048 .f32 := m ((c : Thread nD τ).loc main_arg4)

/-- The row of the array that a row of a point's block is. -/
abbrev rw_ (t : Fin cfg0.N) (i : Fin 256) : Fin 2048 := ⟨t.val * 256 + i.val, by have : t.val < 8 := t.isLt; omega⟩

abbrev blkX0 (c : Dev nD) (t : Fin cfg0.N) : FVec Ideal S256x512 .f32 := iblk m c 0 t
abbrev blkX1 (c : Dev nD) (t : Fin cfg0.N) : FVec Ideal S256x512 .f32 := iblk m c 1 t
abbrev blkX2 (c : Dev nD) (t : Fin cfg0.N) : FVec Ideal S256x512 .f32 := iblk m c 2 t
abbrev blkX3 (c : Dev nD) (t : Fin cfg0.N) : FVec Ideal S256x512 .f32 := iblk m c 3 t
abbrev blkG (c : Dev nD) (t : Fin cfg0.N) : FVec Ideal S1x2048 .f32 := iblk m c 4 t

theorem blkX0_apply (c : Dev nD) (t : Fin cfg0.N) (i k) : blkX0 m c t (ix2 i k) = argX m c 0 (ix2 (rw_ t i) k) := by
  show blkX0 m c t (ix2 i k) = (m ((c : Thread nD τ).loc main_arg0) : FVec Ideal S2048x512 .f32) (ix2 (rw_ t i) k)
  blk_point [iblk, V, idx t]

theorem blkX1_apply (c : Dev nD) (t : Fin cfg0.N) (i k) : blkX1 m c t (ix2 i k) = argX m c 1 (ix2 (rw_ t i) k) := by
  show blkX1 m c t (ix2 i k) = (m ((c : Thread nD τ).loc main_arg1) : FVec Ideal S2048x512 .f32) (ix2 (rw_ t i) k)
  blk_point [iblk, V, idx t]

theorem blkX2_apply (c : Dev nD) (t : Fin cfg0.N) (i k) : blkX2 m c t (ix2 i k) = argX m c 2 (ix2 (rw_ t i) k) := by
  show blkX2 m c t (ix2 i k) = (m ((c : Thread nD τ).loc main_arg2) : FVec Ideal S2048x512 .f32) (ix2 (rw_ t i) k)
  blk_point [iblk, V, idx t]

theorem blkX3_apply (c : Dev nD) (t : Fin cfg0.N) (i k) : blkX3 m c t (ix2 i k) = argX m c 3 (ix2 (rw_ t i) k) := by
  show blkX3 m c t (ix2 i k) = (m ((c : Thread nD τ).loc main_arg3) : FVec Ideal S2048x512 .f32) (ix2 (rw_ t i) k)
  blk_point [iblk, V, idx t]

theorem blkG_apply (c : Dev nD) (t : Fin cfg0.N) (k) : blkG m c t (ix2 0 k) = argG m c (ix2 0 k) := by
  blk_point [iblk, V, idx t]

/-- A group's gains. -/
abbrev gS (c : Dev nD) (t : Fin cfg0.N) (o : ℕ)
    (inb : ∀ a : Fin S1x2048.rank, (![0, o] : Fin S1x2048.rank → ℕ) a + S1x512.size a ≤ S1x2048.size a) : FVec Ideal S1x512 .f32 :=
  View.ld (Val := Elt Ideal) (e' := .f32) (blkG m c t) (Rect.unit (s := S1x2048) ![0, o] S1x512.size inb)

theorem gS_apply (c : Dev nD) (t : Fin cfg0.N) (q : Fin 4) (o inb) (ho : o = q.val * 512) (k) :
    gS m c t o inb (ix2 0 k) = argG m c (ix2 0 (col q k)) := by
  refine (View.ld_unit_apply_of (Val := Elt Ideal) (e := .f32) (blkG m c t) _ _ _ _ (ix2 0 (col q k)) ?_).trans (blkG_apply m c t _)
  subst ho
  exact fun a => match a with | ⟨0, _⟩ => (Nat.zero_add _).symm | ⟨1, _⟩ => rfl

/-- A point's rows of a group, from its blocks. -/
theorem key (c : Dev nD) (t : Fin cfg0.N) (q : Fin 4) (o inb) (ho : o = q.val * 512) (b : FVec Ideal S256x512 .f32)
    (hb : ∀ i k, b (ix2 i k) = argX m c q (ix2 (rw_ t i) k)) (i k) :
    b (ix2 i k) * (NormRow.inv len fun k : Fin 512 => b (ix2 i k)) * gS m c t o inb (ix2 0 k) = nrm (argX m c q) (argG m c) q (rw_ t i) k := by
  simp only [hb, gS_apply m c t q o inb ho]
  rfl

theorem point (c : Dev nD) (t : Fin cfg0.N) (y : S256x2048.Idx) : (dats m 0 c).after 5 t y
    = norm (argX m c) (argG m c) (ix2 (rw_ t (y 0)) (y 1)) := by
  obtain ⟨i, q, k, rfl⟩ : ∃ i q k, y = ix2 i (col q k) := ⟨y 0, grp (y 1), pos (y 1), (ix2_eta y).symm.trans (congrArg (ix2 (y 0)) (col_grp (y 1)).symm)⟩
  refine Eq.trans ?_ (norm_at (argX m c) (argG m c) (rw_ t i) q k).symm
  rw [after0_5]
  unfold out0_5
  frame_out
  match q with
  | ⟨0, _⟩ =>
    exact (miss 1536 _ _ _ 0 (by decide) i k).trans ((miss 1024 _ _ _ 0 (by decide) i k).trans ((miss 512 _ _ _ 0 (by decide) i k).trans
      ((hit 0 _ _ _ 0 rfl i k).trans ((pay3_apply _ _ i k).trans (key m c t 0 0 _ rfl (blkX0 m c t) (blkX0_apply m c t) i k)))))
  | ⟨1, _⟩ =>
    exact (miss 1536 _ _ _ 1 (by decide) i k).trans ((miss 1024 _ _ _ 1 (by decide) i k).trans
      ((hit 512 _ _ _ 1 rfl i k).trans ((pay4_apply _ _ i k).trans (key m c t 1 512 _ rfl (blkX1 m c t) (blkX1_apply m c t) i k))))
  | ⟨2, _⟩ =>
    exact (miss 1536 _ _ _ 2 (by decide) i k).trans
      ((hit 1024 _ _ _ 2 rfl i k).trans ((pay1_apply _ _ i k).trans (key m c t 2 1024 _ rfl (blkX2 m c t) (blkX2_apply m c t) i k)))
  | ⟨3, _⟩ =>
    exact (hit 1536 _ _ _ 3 rfl i k).trans ((pay2_apply _ _ i k).trans (key m c t 3 1536 _ rfl (blkX3 m c t) (blkX3_apply m c t) i k))

theorem emb5 (t : Fin cfg0.N) (y : S256x2048.Idx) : (win0_5.blk t).view.emb y = ix2 (rw_ t (y 0)) (y 1) := by
  blk_ext [idx t]

/-- The result array after the run. -/
theorem final (c : Dev nD) : (dats m 0 c).arrAt 5 (cfgs 0).N = norm (argX m c) (argG m c) := by
  refine (dats m 0 c).arrAt_eq_of_covers 5 _ (by decide +kernel) fun t hf y => ?_
  blk_simp
  rw [point m c t y]
  exact congrArg _ (emb5 t y).symm

end Kernel

section Reference

open Cert.Reference33Ideal Cert.Reference33Ideal.Gen

variable (x : FVec Ideal S2048x4x512 .f32) (a b c d : FVec Ideal S2048x512 .f32) (g : FVec Ideal S1x2048 .f32)

/-- The reference's result as a function of the grouped array and the gains. -/
def spec : FVec Ideal S2048x2048 .bf16 :=
  truncf .bf16 (mulf (shapeCast _ (mulf x (broadcastInDim S2048x4x512 ![0, 1, 2] bcast_S2048x4x1_S2048x4x512_0_1_2 (Host.rsqrt (GrpBwd.rmsq x))))
    shapeCasts_S2048x4x512_S2048x2048) (broadcastInDim S2048x2048 ![0, 1] bcast_S1x2048_S2048x2048_0_1 g)) bitsLt_bf16_f32

theorem spec_apply (i j) : spec x g (ix2 i j)
    = x (ix3 i (grp j) (pos j)) * (NormRow.inv len fun k : Fin 512 => x (ix3 i (grp j) k)) * g (ix2 0 j) := by
  pointwise [spec]
  simp only [GrpBwd.rmsq_apply]
  rfl

theorem spec_eq : spec (GrpBwd.cat a b c d) g = norm ![a, b, c, d] g := by
  funext y
  obtain ⟨i, j, rfl⟩ : ∃ i j, y = ix2 i j := ⟨y 0, y 1, (ix2_eta y).symm⟩
  rw [spec_apply]
  simp only [GrpBwd.cat_apply]
  show _ = nrm ((![a, b, c, d] : Fin 4 → FVec Ideal S2048x512 .f32) (grp j)) g (grp j) i (pos j)
  rw [nrm, col_grp]

variable (m : (ℓ : Loc nD τ sig) → Buf (Elt Ideal) ℓ) (ρ : Dev nD → PrngReg)

/-- The reference's run, its result by its stages. -/
theorem run_stages : θ_run defs (onTc (τ := τ) (main (F := Ideal))) ⟨m, fun _ => 0, ρ⟩ fun r => ∀ c : Dev nD,
    r.2.mem ((c.tc : Thread nD τ).loc main_v15) = spec (GrpBwd.cat (m ((c.tc : Thread nD τ).loc main_arg0)) (m ((c.tc : Thread nD τ).loc main_arg1))
      (m ((c.tc : Thread nD τ).loc main_arg2)) (m ((c.tc : Thread nD τ).loc main_arg3))) (m ((c.tc : Thread nD τ).loc main_arg4))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) := by
  refine (θ_run _ _ _).mono (fun r h c => ⟨(h c).1.trans ?_, (h c).2⟩) (Cert.Reference33Ideal.Value.run m ρ)
  unfold spec GrpBwd.rmsq GrpBwd.cat
  rfl

end Reference

/-- The kernel and the reference leave the same result. -/
theorem algebraic : Cert.algebraic_Kernel33Ideal_Reference33Ideal := by
  pair_intro
  · run_from Cert.Kernel33Ideal.Value.run_blocks m g
  · run_from run_stages m' g'
    exact (spec_eq _ _ _ _ _).trans (final m c).symm

end Cert.Proof.GrpFwd

end
-- ==== Proof.AdamW.lean ====
/- Hand-written, untrusted: THE OPTIMISER'S STEP OF THE SMALL WEIGHTS (`Kernel34`), kernel against reference. The 32 grid points take
   256 of the 4096 rows of one of the two halves each, entry by entry. The kernel multiplies by the inverses of the two bias
   corrections, the reference divides by them. -/
module

public import proofs.«01_k».proof.Proof.Gen.Kernel34Ideal.Value
public import proofs.«01_k».proof.Proof.Gen.Reference34Ideal.Run
public import Idealize.ShloMosaic.Lib.Pipeline.ValueKit
public import Idealize.ShloMosaic.Lib.Claim
public import proofs.«01_k».proof.Defs

@[expose] public section

set_option maxRecDepth 16384

noncomputable section

namespace Cert.Proof.AdamW

open Idealize.ShloMosaic Idealize.ShloMosaic.TcCoe Idealize.SL.Sem
open Idealize.ShloMosaic.Pipeline (Dat)

/-- A packed array: two halves of 4096 rows. -/
abbrev Pk : Shape := ⟨4, ![1, 2, 4096, 128]⟩
/-- The gradient, without the leading dimension. -/
abbrev Gr : Shape := ⟨3, ![2, 4096, 128]⟩

/-- The new first moment. -/
def mom (m g : EReal) : EReal := Ideal.ofBits .f32 0x3F666666#32 * m + Ideal.ofBits .f32 0x3DCCCCCD#32 * g

/-- The new second moment. -/
def sqm (v g : EReal) : EReal := Ideal.ofBits .f32 0x3F7FBE77#32 * v + Ideal.ofBits .f32 0x3A83126F#32 * (g * g)

/-- The inverses of the bias corrections. -/
abbrev c1 : EReal := (((5463681 / 8388608)⁻¹ : ℝ) : EReal)
abbrev c2 : EReal := (((2672307 / 268435456)⁻¹ : ℝ) : EReal)

/-- The step of one weight from its new moments. -/
def step (w m v : EReal) : EReal :=
  Ideal.ofBits .f32 0xBA83126F#32 * (Ideal.div (m * c1) (Ideal.sqrt (v * c2) + Ideal.ofBits .f32 0x322BCC77#32) + Ideal.ofBits .f32 0x3C23D70A#32 * w)

/-- To divide by a bias correction is to multiply by its inverse. -/
theorem div_corr1 (x : EReal) : Ideal.div x (Ideal.ofBits .f32 0x3F26BD02#32) = x * c1 := by
  have h : Ideal.ofBits .f32 0x3F26BD02#32 = ((5463681 / 8388608 : ℝ) : EReal) := by
    simp [Ideal.ofBits, Ideal.ieee, -EReal.coe_mul]; norm_num
  rw [h, Ideal.div_coe (by norm_num), one_div]

theorem div_corr2 (x : EReal) : Ideal.div x (Ideal.ofBits .f32 0x3C231ACC#32) = x * c2 := by
  have h : Ideal.ofBits .f32 0x3C231ACC#32 = ((2672307 / 268435456 : ℝ) : EReal) := by
    simp [Ideal.ofBits, Ideal.ieee, -EReal.coe_mul]; norm_num
  rw [h, Ideal.div_coe (by norm_num), one_div]

/-- The four results: the gradient, the step and the two moments. -/
def resG (g : Gr.Idx → EReal) (y : Pk.Idx) : EReal := g (ix3 (y 1) (y 2) (y 3))
def resM (m : Pk.Idx → EReal) (g : Gr.Idx → EReal) (y : Pk.Idx) : EReal := mom (m y) (resG g y)
def resV (v : Pk.Idx → EReal) (g : Gr.Idx → EReal) (y : Pk.Idx) : EReal := sqm (v y) (resG g y)
def resD (w m v : Pk.Idx → EReal) (g : Gr.Idx → EReal) (y : Pk.Idx) : EReal := step (w y) (resM m g y) (resV v g y)

section Kernel

open Cert.Kernel34Ideal Cert.Kernel34Ideal.Gen

/-- The named constants are the inverses of the bias corrections. -/
theorem named_c1 : Named.named (F := Ideal) κ "c1" (φ := .f32) 0x3FC48605#32 = c1 :=
  IdealRules.named_const.ideal_named_scalar _ _ _ _ rfl

theorem named_c2 : Named.named (F := Ideal) κ "c2" (φ := .f32) 0x42C8E6D3#32 = c2 :=
  IdealRules.named_const.ideal_named_scalar _ _ _ _ rfl

section Blocks

variable (w m v : FVec Ideal S1x1x256x128 .f32) (g : FVec Ideal S1x256x128 .f32)

theorem payG_apply (i k) : k0_pay5 (F := Ideal) g (ix4 0 0 i k) = g (ix3 0 i k) := by
  pointwise [k0_pay5, k0_pay2]

theorem pay3_apply (i k) : k0_pay3 (F := Ideal) g m (ix2 i k) = mom (m (ix4 0 0 i k)) (g (ix3 0 i k)) := by
  pointwise [k0_pay3, k0_pay2]
  rfl

theorem pay4_apply (i k) : k0_pay4 (F := Ideal) g v (ix2 i k) = sqm (v (ix4 0 0 i k)) (g (ix3 0 i k)) := by
  pointwise [k0_pay4, k0_pay2]
  rfl

theorem payM_apply (i k) : k0_pay6 (F := Ideal) g m (ix4 0 0 i k) = mom (m (ix4 0 0 i k)) (g (ix3 0 i k)) := by
  pointwise [k0_pay6]
  exact pay3_apply m g i k

theorem payV_apply (i k) : k0_pay7 (F := Ideal) g v (ix4 0 0 i k) = sqm (v (ix4 0 0 i k)) (g (ix3 0 i k)) := by
  pointwise [k0_pay7]
  exact pay4_apply v g i k

theorem payD_apply (i k) : k0_pay1 (F := Ideal) (k0_pay4 g v) (k0_pay8 g m) (Named.named κ "c2" 0x42C8E6D3#32) w (ix4 0 0 i k)
    = step (w (ix4 0 0 i k)) (mom (m (ix4 0 0 i k)) (g (ix3 0 i k))) (sqm (v (ix4 0 0 i k)) (g (ix3 0 i k))) := by
  rw [named_c2]
  pointwise [k0_pay1, k0_pay8]
  rw [named_c1, pay3_apply, pay4_apply]
  rfl

end Blocks

variable (m : (ℓ : Loc nD τ sig) → Buf (Elt Ideal) ℓ)

theorem idx : ∀ t : Fin cfg0.N, win0_0.index t = ![0, t.val / 16, t.val % 16, 0] ∧ win0_1.index t = ![0, t.val / 16, t.val % 16, 0]
    ∧ win0_2.index t = ![0, t.val / 16, t.val % 16, 0] ∧ win0_3.index t = ![t.val / 16, t.val % 16, 0]
    ∧ win0_4.index t = ![0, t.val / 16, t.val % 16, 0] ∧ win0_5.index t = ![0, t.val / 16, t.val % 16, 0]
    ∧ win0_6.index t = ![0, t.val / 16, t.val % 16, 0] ∧ win0_7.index t = ![0, t.val / 16, t.val % 16, 0] :=
  (by decide +kernel : ∀ t : Fin grid0.N, _)

abbrev argW (c : Dev nD) : FVec Ideal S1x2x4096x128 .f32 := m ((c : Thread nD τ).loc main_arg0)
abbrev argM (c : Dev nD) : FVec Ideal S1x2x4096x128 .f32 := m ((c : Thread nD τ).loc main_arg1)
abbrev argV (c : Dev nD) : FVec Ideal S1x2x4096x128 .f32 := m ((c : Thread nD τ).loc main_arg2)
abbrev argG (c : Dev nD) : FVec Ideal S2x4096x128 .f32 := m ((c : Thread nD τ).loc main_arg3)

abbrev blkW (c : Dev nD) (t : Fin cfg0.N) : FVec Ideal S1x1x256x128 .f32 := iblk m c 0 t
abbrev blkM (c : Dev nD) (t : Fin cfg0.N) : FVec Ideal S1x1x256x128 .f32 := iblk m c 1 t
abbrev blkV (c : Dev nD) (t : Fin cfg0.N) : FVec Ideal S1x1x256x128 .f32 := iblk m c 2 t
abbrev blkG (c : Dev nD) (t : Fin cfg0.N) : FVec Ideal S1x256x128 .f32 := iblk m c 3 t

/-- The half a point works on. -/
abbrev half (t : Fin cfg0.N) : Fin 2 := ⟨t.val / 16, by have : t.val < 32 := t.isLt; omega⟩
/-- The row of the half that a row of a point's block is. -/
abbrev rw_ (t : Fin cfg0.N) (i : Fin 256) : Fin 4096 := ⟨t.val % 16 * 256 + i.val, by omega⟩

theorem blkW_apply (c : Dev nD) (t : Fin cfg0.N) (i k) : blkW m c t (ix4 0 0 i k) = argW m c (ix4 0 (half t) (rw_ t i) k) := by
  blk_point [iblk, V, idx t]
theorem blkM_apply (c : Dev nD) (t : Fin cfg0.N) (i k) : blkM m c t (ix4 0 0 i k) = argM m c (ix4 0 (half t) (rw_ t i) k) := by
  blk_point [iblk, V, idx t]
theorem blkV_apply (c : Dev nD) (t : Fin cfg0.N) (i k) : blkV m c t (ix4 0 0 i k) = argV m c (ix4 0 (half t) (rw_ t i) k) := by
  blk_point [iblk, V, idx t]
theorem blkG_apply (c : Dev nD) (t : Fin cfg0.N) (i k) : blkG m c t (ix3 0 i k) = argG m c (ix3 (half t) (rw_ t i) k) := by
  blk_point [iblk, V, idx t]

/-- An index of a block has leading zeros. -/
theorem blk_idx (y : S1x1x256x128.Idx) : ∃ i k, y = ix4 0 0 i k :=
  ⟨y 2, y 3, by funext d; fin_cases d <;> first | rfl | exact Subsingleton.elim (α := Fin 1) _ _⟩

/-- The index of the array that an index of a point's block is. -/
abbrev at_ (t : Fin cfg0.N) (y : S1x1x256x128.Idx) : Pk.Idx := ix4 0 (half t) (rw_ t (y 2)) (y 3)

theorem pointG (c : Dev nD) (t : Fin cfg0.N) (y : S1x1x256x128.Idx) : k0_pay5 (F := Ideal) (blkG m c t) y = resG (argG m c) (at_ t y) := by
  obtain ⟨i, k, rfl⟩ := blk_idx y
  rw [payG_apply, blkG_apply]
  rfl

theorem pointM (c : Dev nD) (t : Fin cfg0.N) (y : S1x1x256x128.Idx) :
    k0_pay6 (F := Ideal) (blkG m c t) (blkM m c t) y = resM (argM m c) (argG m c) (at_ t y) := by
  obtain ⟨i, k, rfl⟩ := blk_idx y
  rw [payM_apply, blkG_apply, blkM_apply]
  rfl

theorem pointV (c : Dev nD) (t : Fin cfg0.N) (y : S1x1x256x128.Idx) :
    k0_pay7 (F := Ideal) (blkG m c t) (blkV m c t) y = resV (argV m c) (argG m c) (at_ t y) := by
  obtain ⟨i, k, rfl⟩ := blk_idx y
  rw [payV_apply, blkG_apply, blkV_apply]
  rfl

theorem pointD (c : Dev nD) (t : Fin cfg0.N) (y : S1x1x256x128.Idx) :
    k0_pay1 (F := Ideal) (k0_pay4 (blkG m c t) (blkV m c t)) (k0_pay8 (blkG m c t) (blkM m c t)) (Named.named κ "c2" 0x42C8E6D3#32) (blkW m c t) y
      = resD (argW m c) (argM m c) (argV m c) (argG m c) (at_ t y) := by
  obtain ⟨i, k, rfl⟩ := blk_idx y
  rw [payD_apply, blkG_apply, blkW_apply, blkM_apply, blkV_apply]
  rfl

theorem emb4 (t : Fin cfg0.N) (y : S1x1x256x128.Idx) : (win0_4.blk t).view.emb y = at_ t y := by
  blk_ext [idx t] <;> rfl
theorem emb5 (t : Fin cfg0.N) (y : S1x1x256x128.Idx) : (win0_5.blk t).view.emb y = at_ t y := by
  blk_ext [idx t] <;> rfl
theorem emb6 (t : Fin cfg0.N) (y : S1x1x256x128.Idx) : (win0_6.blk t).view.emb y = at_ t y := by
  blk_ext [idx t] <;> rfl
theorem emb7 (t : Fin cfg0.N) (y : S1x1x256x128.Idx) : (win0_7.blk t).view.emb y = at_ t y := by
  blk_ext [idx t] <;> rfl

/-- The result arrays after the run. -/
theorem finalG (c : Dev nD) : (dats m 0 c).arrAt 4 (cfgs 0).N = resG (argG m c) := by
  refine (dats m 0 c).arrAt_eq_of_covers 4 _ (by decide +kernel) fun t hf y => ?_
  blk_simp
  rw [after0_4]
  unfold outsAt0
  frame_out
  exact (pointG m c t y).trans (congrArg _ (emb4 t y).symm)

theorem finalD (c : Dev nD) : (dats m 0 c).arrAt 5 (cfgs 0).N = resD (argW m c) (argM m c) (argV m c) (argG m c) := by
  refine (dats m 0 c).arrAt_eq_of_covers 5 _ (by decide +kernel) fun t hf y => ?_
  blk_simp
  rw [after0_5]
  unfold outsAt0
  frame_out
  exact (pointD m c t y).trans (congrArg _ (emb5 t y).symm)

theorem finalM (c : Dev nD) : (dats m 0 c).arrAt 6 (cfgs 0).N = resM (argM m c) (argG m c) := by
  refine (dats m 0 c).arrAt_eq_of_covers 6 _ (by decide +kernel) fun t hf y => ?_
  blk_simp
  rw [after0_6]
  unfold outsAt0
  frame_out
  exact (pointM m c t y).trans (congrArg _ (emb6 t y).symm)

theorem finalV (c : Dev nD) : (dats m 0 c).arrAt 7 (cfgs 0).N = resV (argV m c) (argG m c) := by
  refine (dats m 0 c).arrAt_eq_of_covers 7 _ (by decide +kernel) fun t hf y => ?_
  blk_simp
  rw [after0_7]
  unfold outsAt0
  frame_out
  exact (pointV m c t y).trans (congrArg _ (emb7 t y).symm)

end Kernel

section Reference

open Cert.Reference34Ideal Cert.Reference34Ideal.Gen

variable (w m v : FVec Ideal S1x2x4096x128 .f32) (g : FVec Ideal S2x4096x128 .f32)

/-- A number at every entry. -/
abbrev all (b : BitVec 32) : FVec Ideal S1x2x4096x128 .f32 := broadcastInDim S1x2x4096x128 ![] bcast_S_S1x2x4096x128 (constant S_ .f32 b)

/-- The reference's four results. -/
def rG : FVec Ideal S1x2x4096x128 .f32 := shapeCast _ g shapeCasts_S2x4096x128_S1x2x4096x128
def rM : FVec Ideal S1x2x4096x128 .f32 := addf (mulf (all 0x3F666666#32) m) (mulf (all 0x3DCCCCCD#32) (rG g))
def rV : FVec Ideal S1x2x4096x128 .f32 := addf (mulf (all 0x3F7FBE77#32) v) (mulf (all 0x3A83126F#32) (mulf (rG g) (rG g)))
def rD : FVec Ideal S1x2x4096x128 .f32 :=
  mulf (all 0xBA83126F#32) (addf (Host.divf (Host.divf (rM m g) (all 0x3F26BD02#32)) (addf (Host.sqrt (Host.divf (rV v g) (all 0x3C231ACC#32))) (all 0x322BCC77#32)))
    (mulf (all 0x3C23D70A#32) w))

/-- An index of a packed array has a leading zero. -/
theorem pk_idx (y : S1x2x4096x128.Idx) : ∃ h i k, y = ix4 0 h i k :=
  ⟨y 1, y 2, y 3, by funext d; fin_cases d <;> first | rfl | exact Subsingleton.elim (α := Fin 1) _ _⟩

theorem rG_eq : rG g = resG g := by
  funext y
  obtain ⟨h, i, k, rfl⟩ := pk_idx y
  pointwise [rG]
  rfl

theorem rM_eq : rM m g = resM m g := by
  funext y
  pointwise [rM]
  rw [rG_eq]
  rfl

theorem rV_eq : rV v g = resV v g := by
  funext y
  pointwise [rV]
  rw [rG_eq]
  rfl

theorem rD_eq : rD w m v g = resD w m v g := by
  funext y
  pointwise [rD]
  rw [rM_eq, rV_eq]
  erw [div_corr1, div_corr2]
  rfl

variable (m : (ℓ : Loc nD τ sig) → Buf (Elt Ideal) ℓ) (ρ : Dev nD → PrngReg)

/-- The reference's run, its four results by their stages. -/
theorem run_stages : θ_run defs (onTc (τ := τ) (main (F := Ideal))) ⟨m, fun _ => 0, ρ⟩ fun r => ∀ c : Dev nD,
    r.2.mem ((c.tc : Thread nD τ).loc main_v0) = rG (m ((c.tc : Thread nD τ).loc main_arg3))
    ∧ r.2.mem ((c.tc : Thread nD τ).loc main_v24) = rD (m ((c.tc : Thread nD τ).loc main_arg0)) (m ((c.tc : Thread nD τ).loc main_arg1))
        (m ((c.tc : Thread nD τ).loc main_arg2)) (m ((c.tc : Thread nD τ).loc main_arg3))
    ∧ r.2.mem ((c.tc : Thread nD τ).loc main_v5) = rM (m ((c.tc : Thread nD τ).loc main_arg1)) (m ((c.tc : Thread nD τ).loc main_arg3))
    ∧ r.2.mem ((c.tc : Thread nD τ).loc main_v11) = rV (m ((c.tc : Thread nD τ).loc main_arg2)) (m ((c.tc : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  refine (θ_run _ _ _).mono (fun r h c => ⟨(h c).1.trans ?_, (h c).2.1.trans ?_, (h c).2.2.1.trans ?_, (h c).2.2.2.1.trans ?_, (h c).2.2.2.2⟩)
    (Cert.Reference34Ideal.Value.run m ρ)
  · rfl
  · unfold rD rM rV rG
    rfl
  · unfold rM rG
    rfl
  · unfold rV rG
    rfl

end Reference

/-- The kernel and the reference leave the same four results. -/
theorem algebraic : Cert.algebraic_Kernel34Ideal_Reference34Ideal := by
  pair_intro
  · run_from Cert.Kernel34Ideal.Value.run_blocks m g
  · run_from run_stages m' g'
    · exact (rG_eq _).trans (finalG m c).symm
    · exact (rD_eq _ _ _ _).trans (finalD m c).symm
    · exact (rM_eq _ _).trans (finalM m c).symm
    · exact (rV_eq _ _).trans (finalV m c).symm

end Cert.Proof.AdamW

end
-- ==== Proof.lean ====
/- Hand-written, untrusted: THE PROOF OF `Cert.Claim`. The kernels' frames are the generated ones. Each value claim is proved in
   the module of its call under Proof/. -/
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Reference6Ideal
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Reference7Ideal
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Reference8Ideal
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Reference9Ideal
public import proofs.«01_k».proof.Proof.Gen.Kernel9Ideal.Value
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Reference10Ideal
public import proofs.«01_k».proof.Proof.Gen.Kernel10Ideal.Value
public import proofs.«01_k».proof.Proof.Gen.Reference10Ideal.Run
public import proofs.«01_k».proof.Proof.Gen.Kernel11.Frame
public import proofs.«01_k».proof.Proof.Gen.Kernel11Ideal.Frame
public import proofs.«01_k».proof.Proof.Gen.Reference11Ideal
public import proofs.«01_k».proof.Proof.Gen.Kernel11Ideal.Value
public import proofs.«01_k».proof.Proof.Gen.Reference11Ideal.Run
public import proofs.«01_k».proof.Proof.Gen.Kernel12.Frame
public import proofs.«01_k».proof.Proof.Gen.Kernel12Ideal.Frame
public import proofs.«01_k».proof.Proof.Gen.Reference12Ideal
public import proofs.«01_k».proof.Proof.Gen.Kernel12Ideal.Value
public import proofs.«01_k».proof.Proof.Gen.Reference12Ideal.Run
public import proofs.«01_k».proof.Proof.Gen.Kernel13.Frame
public import proofs.«01_k».proof.Proof.Gen.Kernel13Ideal.Frame
public import proofs.«01_k».proof.Proof.Gen.Reference13Ideal
public import proofs.«01_k».proof.Proof.Gen.Kernel13Ideal.Value
public import proofs.«01_k».proof.Proof.Gen.Reference13Ideal.Run
public import proofs.«01_k».proof.Proof.Gen.Kernel14.Frame
public import proofs.«01_k».proof.Proof.Gen.Kernel14Ideal.Frame
public import proofs.«01_k».proof.Proof.Gen.Reference14Ideal
public import proofs.«01_k».proof.Proof.Gen.Kernel14Ideal.Value
public import proofs.«01_k».proof.Proof.Gen.Reference14Ideal.Run
public import proofs.«01_k».proof.Proof.Gen.Kernel15.Frame
public import proofs.«01_k».proof.Proof.Gen.Kernel15Ideal.Frame
public import proofs.«01_k».proof.Proof.Gen.Reference15Ideal
public import proofs.«01_k».proof.Proof.Gen.Kernel15Ideal.Value
public import proofs.«01_k».proof.Proof.Gen.Reference15Ideal.Run
public import proofs.«01_k».proof.Proof.Gen.Kernel17.Frame
public import proofs.«01_k».proof.Proof.Gen.Kernel17Ideal.Frame
public import proofs.«01_k».proof.Proof.Gen.Reference17Ideal
public import proofs.«01_k».proof.Proof.Gen.Kernel17Ideal.Value
public import proofs.«01_k».proof.Proof.Gen.Reference17Ideal.Run
public import proofs.«01_k».proof.Proof.Gen.Kernel18.Frame
public import proofs.«01_k».proof.Proof.Gen.Kernel18Ideal.Frame
public import proofs.«01_k».proof.Proof.Gen.Reference18Ideal
public import proofs.«01_k».proof.Proof.Gen.Kernel18Ideal.Value
public import proofs.«01_k».proof.Proof.Gen.Reference18Ideal.Run
public import proofs.«01_k».proof.Proof.Gen.Kernel19.Frame
public import proofs.«01_k».proof.Proof.Gen.Kernel19Ideal.Frame
public import proofs.«01_k».proof.Proof.Gen.Reference19Ideal
public import proofs.«01_k».proof.Proof.Gen.Kernel19Ideal.Value
public import proofs.«01_k».proof.Proof.Gen.Reference19Ideal.Run
public import proofs.«01_k».proof.Proof.Gen.Kernel20.Frame
public import proofs.«01_k».proof.Proof.Gen.Kernel20Ideal.Frame
public import proofs.«01_k».proof.Proof.Gen.Reference20Ideal
public import proofs.«01_k».proof.Proof.Gen.Kernel20Ideal.Value
public import proofs.«01_k».proof.Proof.Gen.Reference20Ideal.Run
public import proofs.«01_k».proof.Proof.Gen.Kernel21.Frame
public import proofs.«01_k».proof.Proof.Gen.Kernel21Ideal.Frame
public import proofs.«01_k».proof.Proof.Gen.Reference21Ideal
public import proofs.«01_k».proof.Proof.Gen.Kernel21Ideal.Value
public import proofs.«01_k».proof.Proof.Gen.Reference21Ideal.Run
public import proofs.«01_k».proof.Proof.Gen.Kernel22.Frame
public import proofs.«01_k».proof.Proof.Gen.Kernel22Ideal.Frame
public import proofs.«01_k».proof.Proof.Gen.Reference22Ideal
public import proofs.«01_k».proof.Proof.Gen.Kernel22Ideal.Value
public import proofs.«01_k».proof.Proof.Gen.Reference22Ideal.Run
public import proofs.«01_k».proof.Proof.Gen.Kernel23.Frame
public import proofs.«01_k».proof.Proof.Gen.Kernel23Ideal.Frame
public import proofs.«01_k».proof.Proof.Gen.Reference23Ideal
public import proofs.«01_k».proof.Proof.Gen.Kernel23Ideal.Value
public import proofs.«01_k».proof.Proof.Gen.Reference23Ideal.Run
public import proofs.«01_k».proof.Proof.Gen.Kernel24.Frame
public import proofs.«01_k».proof.Proof.Gen.Kernel24Ideal.Frame
public import proofs.«01_k».proof.Proof.Gen.Reference24Ideal
public import proofs.«01_k».proof.Proof.Gen.Kernel24Ideal.Value
public import proofs.«01_k».proof.Proof.Gen.Reference24Ideal.Run
public import proofs.«01_k».proof.Proof.Gen.Kernel25.Frame
public import proofs.«01_k».proof.Proof.Gen.Kernel25Ideal.Frame
public import proofs.«01_k».proof.Proof.Gen.Reference25Ideal
public import proofs.«01_k».proof.Proof.Gen.Kernel25Ideal.Value
public import proofs.«01_k».proof.Proof.Gen.Reference25Ideal.Run
public import proofs.«01_k».proof.Proof.Gen.Kernel26.Frame
public import proofs.«01_k».proof.Proof.Gen.Kernel26Ideal.Frame
public import proofs.«01_k».proof.Proof.Gen.Reference26Ideal
public import proofs.«01_k».proof.Proof.Gen.Kernel26Ideal.Value
public import proofs.«01_k».proof.Proof.Gen.Reference26Ideal.Run
public import proofs.«01_k».proof.Proof.Gen.Kernel27.Frame
public import proofs.«01_k».proof.Proof.Gen.Kernel27Ideal.Frame
public import proofs.«01_k».proof.Proof.Gen.Reference27Ideal
public import proofs.«01_k».proof.Proof.Gen.Kernel27Ideal.Value
public import proofs.«01_k».proof.Proof.Gen.Reference27Ideal.Run
public import proofs.«01_k».proof.Proof.Gen.Kernel28.Frame
public import proofs.«01_k».proof.Proof.Gen.Kernel28Ideal.Frame
public import proofs.«01_k».proof.Proof.Gen.Reference28Ideal
public import proofs.«01_k».proof.Proof.Gen.Kernel28Ideal.Value
public import proofs.«01_k».proof.Proof.Gen.Reference28Ideal.Run
public import proofs.«01_k».proof.Proof.Gen.Kernel29.Frame
public import proofs.«01_k».proof.Proof.Gen.Kernel29Ideal.Frame
public import proofs.«01_k».proof.Proof.Gen.Reference29Ideal
public import proofs.«01_k».proof.Proof.Gen.Kernel29Ideal.Value
public import proofs.«01_k».proof.Proof.Gen.Reference29Ideal.Run
public import proofs.«01_k».proof.Proof.Gen.Kernel30.Frame
public import proofs.«01_k».proof.Proof.Gen.Kernel30Ideal.Frame
public import proofs.«01_k».proof.Proof.Gen.Reference30Ideal
public import proofs.«01_k».proof.Proof.Gen.Kernel30Ideal.Value
public import proofs.«01_k».proof.Proof.Gen.Reference30Ideal.Run
public import proofs.«01_k».proof.Proof.Gen.Kernel31.Frame
public import proofs.«01_k».proof.Proof.Gen.Kernel31Ideal.Frame
public import proofs.«01_k».proof.Proof.Gen.Reference31Ideal
public import proofs.«01_k».proof.Proof.Gen.Kernel31Ideal.Value
public import proofs.«01_k».proof.Proof.Gen.Reference31Ideal.Run
public import proofs.«01_k».proof.Proof.Gen.Kernel32.Frame
public import proofs.«01_k».proof.Proof.Gen.Kernel32Ideal.Frame
public import proofs.«01_k».proof.Proof.Gen.Reference32Ideal
public import proofs.«01_k».proof.Proof.Gen.Kernel32Ideal.Value
public import proofs.«01_k».proof.Proof.Gen.Reference32Ideal.Run
public import proofs.«01_k».proof.Proof.Gen.Kernel33.Frame
public import proofs.«01_k».proof.Proof.Gen.Kernel33Ideal.Frame
public import proofs.«01_k».proof.Proof.Gen.Reference33Ideal
public import proofs.«01_k».proof.Proof.Gen.Kernel33Ideal.Value
public import proofs.«01_k».proof.Proof.Gen.Reference33Ideal.Run
public import proofs.«01_k».proof.Proof.Gen.Kernel34.Frame
public import proofs.«01_k».proof.Proof.Gen.Kernel34Ideal.Frame
public import proofs.«01_k».proof.Proof.Gen.Reference34Ideal
public import proofs.«01_k».proof.Proof.Gen.Kernel34Ideal.Value
public import proofs.«01_k».proof.Proof.Gen.Reference34Ideal.Run
public import proofs.«01_k».proof.Proof.Gen.Pre_finite_queries_and_keys
public import proofs.«01_k».proof.Proof.Gen.Pre_finite_conv
public import proofs.«01_k».proof.Proof.Gen.Pre_finite_scores
public import proofs.«01_k».proof.Proof.Xatt
public import proofs.«01_k».proof.Proof.MlpDownDx
public import proofs.«01_k».proof.Proof.MlpDownDw
public import proofs.«01_k».proof.Proof.MlpUpDw
public import proofs.«01_k».proof.Proof.MlpUpDx
public import proofs.«01_k».proof.Proof.MlpUp
public import proofs.«01_k».proof.Proof.MlpDown
public import proofs.«01_k».proof.Proof.ProjIn
public import proofs.«01_k».proof.Proof.ProjInDw
public import proofs.«01_k».proof.Proof.ProjInDx
public import proofs.«01_k».proof.Proof.ProjOut
public import proofs.«01_k».proof.Proof.ProjOutDx
public import proofs.«01_k».proof.Proof.ProjOutDw
public import proofs.«01_k».proof.Proof.NormBwd
public import proofs.«01_k».proof.Proof.GrpBwd
public import proofs.«01_k».proof.Proof.ConvBwd
public import proofs.«01_k».proof.Proof.XattFwd
public import proofs.«01_k».proof.Proof.XoDx
public import proofs.«01_k».proof.Proof.XoDw
public import proofs.«01_k».proof.Proof.XqDw
public import proofs.«01_k».proof.Proof.XkDw
public import proofs.«01_k».proof.Proof.XkDx
public import proofs.«01_k».proof.Proof.XqDx
public import proofs.«01_k».proof.Proof.Xq
public import proofs.«01_k».proof.Proof.Xk
public import proofs.«01_k».proof.Proof.Xo
public import proofs.«01_k».proof.Proof.NormFwd
public import proofs.«01_k».proof.Proof.MemNormBwd
public import proofs.«01_k».proof.Proof.MemNormFwd
public import proofs.«01_k».proof.Proof.LossHead
public import proofs.«01_k».proof.Proof.ConvFwd
public import proofs.«01_k».proof.Proof.GrpFwd
public import proofs.«01_k».proof.Proof.AdamW
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-! A reference has no semaphores, and its run changes no argument. -/

theorem reference1 : Cert.quiescent_ReferenceIdeal := fun m ρ _ =>
  (θ_run _ _ _).mono (fun r h => ⟨fun c => (h c).2.2.2, sem_eq_zero_of_no_sems (by decide) r.2⟩) (Cert.ReferenceIdeal.Value.run m ρ)

theorem reference2 : Cert.quiescent_Reference2Ideal := fun m ρ _ =>
  (θ_run _ _ _).mono (fun r h => ⟨fun c => (h c).2, sem_eq_zero_of_no_sems (by decide) r.2⟩) (Cert.Reference2Ideal.Value.run m ρ)

theorem reference3 : Cert.quiescent_Reference3Ideal := fun m ρ _ =>
  (θ_run _ _ _).mono (fun r h => ⟨fun c => (h c).2, sem_eq_zero_of_no_sems (by decide) r.2⟩) (Cert.Reference3Ideal.Value.run m ρ)

theorem reference4 : Cert.quiescent_Reference4Ideal := fun m ρ _ =>
  (θ_run _ _ _).mono (fun r h => ⟨fun c => (h c).2, sem_eq_zero_of_no_sems (by decide) r.2⟩) (Cert.Reference4Ideal.Value.run m ρ)

theorem reference5 : Cert.quiescent_Reference5Ideal := fun m ρ _ =>
  (θ_run _ _ _).mono (fun r h => ⟨fun c => (h c).2, sem_eq_zero_of_no_sems (by decide) r.2⟩) (Cert.Reference5Ideal.Value.run m ρ)

theorem reference6 : Cert.quiescent_Reference6Ideal := fun m ρ _ =>
  (θ_run _ _ _).mono (fun r h => ⟨fun c => (h c).2.2, sem_eq_zero_of_no_sems (by decide) r.2⟩) (Cert.Reference6Ideal.Value.run m ρ)

theorem reference7 : Cert.quiescent_Reference7Ideal := fun m ρ _ =>
  (θ_run _ _ _).mono (fun r h => ⟨fun c => (h c).2, sem_eq_zero_of_no_sems (by decide) r.2⟩) (Cert.Reference7Ideal.Value.run m ρ)

theorem reference8 : Cert.quiescent_Reference8Ideal := fun m ρ _ =>
  (θ_run _ _ _).mono (fun r h => ⟨fun c => (h c).2, sem_eq_zero_of_no_sems (by decide) r.2⟩) (Cert.Reference8Ideal.Value.run m ρ)

theorem reference9 : Cert.quiescent_Reference9Ideal := fun m ρ _ =>
  (θ_run _ _ _).mono (fun r h => ⟨fun c => (h c).2, sem_eq_zero_of_no_sems (by decide) r.2⟩) (Cert.Reference9Ideal.Value.run m ρ)

theorem reference10 : Cert.quiescent_Reference10Ideal := fun m ρ _ =>
  (θ_run _ _ _).mono (fun r h => ⟨fun c => (h c).2, sem_eq_zero_of_no_sems (by decide) r.2⟩) (Cert.Reference10Ideal.Value.run m ρ)

theorem reference11 : Cert.quiescent_Reference11Ideal := fun m ρ _ =>
  (θ_run _ _ _).mono (fun r h => ⟨fun c => (h c).2, sem_eq_zero_of_no_sems (by decide) r.2⟩) (Cert.Reference11Ideal.Value.run m ρ)

theorem reference12 : Cert.quiescent_Reference12Ideal := fun m ρ _ =>
  (θ_run _ _ _).mono (fun r h => ⟨fun c => (h c).2, sem_eq_zero_of_no_sems (by decide) r.2⟩) (Cert.Reference12Ideal.Value.run m ρ)

theorem reference13 : Cert.quiescent_Reference13Ideal := fun m ρ _ =>
  (θ_run _ _ _).mono (fun r h => ⟨fun c => (h c).2, sem_eq_zero_of_no_sems (by decide) r.2⟩) (Cert.Reference13Ideal.Value.run m ρ)

theorem reference14 : Cert.quiescent_Reference14Ideal := fun m ρ _ =>
  (θ_run _ _ _).mono (fun r h => ⟨fun c => (h c).2.2, sem_eq_zero_of_no_sems (by decide) r.2⟩) (Cert.Reference14Ideal.Value.run m ρ)

theorem reference15 : Cert.quiescent_Reference15Ideal := fun m ρ _ =>
  (θ_run _ _ _).mono (fun r h => ⟨fun c => (h c).2.2.2.2.2, sem_eq_zero_of_no_sems (by decide) r.2⟩) (Cert.Reference15Ideal.Value.run m ρ)

theorem reference17 : Cert.quiescent_Reference17Ideal := fun m ρ _ =>
  (θ_run _ _ _).mono (fun r h => ⟨fun c => (h c).2.2.2.2, sem_eq_zero_of_no_sems (by decide) r.2⟩) (Cert.Reference17Ideal.Value.run m ρ)

theorem reference18 : Cert.quiescent_Reference18Ideal := fun m ρ _ =>
  (θ_run _ _ _).mono (fun r h => ⟨fun c => (h c).2, sem_eq_zero_of_no_sems (by decide) r.2⟩) (Cert.Reference18Ideal.Value.run m ρ)

theorem reference19 : Cert.quiescent_Reference19Ideal := fun m ρ _ =>
  (θ_run _ _ _).mono (fun r h => ⟨fun c => (h c).2, sem_eq_zero_of_no_sems (by decide) r.2⟩) (Cert.Reference19Ideal.Value.run m ρ)

theorem reference20 : Cert.quiescent_Reference20Ideal := fun m ρ _ =>
  (θ_run _ _ _).mono (fun r h => ⟨fun c => (h c).2, sem_eq_zero_of_no_sems (by decide) r.2⟩) (Cert.Reference20Ideal.Value.run m ρ)

theorem reference21 : Cert.quiescent_Reference21Ideal := fun m ρ _ =>
  (θ_run _ _ _).mono (fun r h => ⟨fun c => (h c).2, sem_eq_zero_of_no_sems (by decide) r.2⟩) (Cert.Reference21Ideal.Value.run m ρ)

theorem reference22 : Cert.quiescent_Reference22Ideal := fun m ρ _ =>
  (θ_run _ _ _).mono (fun r h => ⟨fun c => (h c).2, sem_eq_zero_of_no_sems (by decide) r.2⟩) (Cert.Reference22Ideal.Value.run m ρ)

theorem reference23 : Cert.quiescent_Reference23Ideal := fun m ρ _ =>
  (θ_run _ _ _).mono (fun r h => ⟨fun c => (h c).2, sem_eq_zero_of_no_sems (by decide) r.2⟩) (Cert.Reference23Ideal.Value.run m ρ)

theorem reference24 : Cert.quiescent_Reference24Ideal := fun m ρ _ =>
  (θ_run _ _ _).mono (fun r h => ⟨fun c => (h c).2, sem_eq_zero_of_no_sems (by decide) r.2⟩) (Cert.Reference24Ideal.Value.run m ρ)

theorem reference25 : Cert.quiescent_Reference25Ideal := fun m ρ _ =>
  (θ_run _ _ _).mono (fun r h => ⟨fun c => (h c).2, sem_eq_zero_of_no_sems (by decide) r.2⟩) (Cert.Reference25Ideal.Value.run m ρ)

theorem reference26 : Cert.quiescent_Reference26Ideal := fun m ρ _ =>
  (θ_run _ _ _).mono (fun r h => ⟨fun c => (h c).2, sem_eq_zero_of_no_sems (by decide) r.2⟩) (Cert.Reference26Ideal.Value.run m ρ)

theorem reference27 : Cert.quiescent_Reference27Ideal := fun m ρ _ =>
  (θ_run _ _ _).mono (fun r h => ⟨fun c => (h c).2, sem_eq_zero_of_no_sems (by decide) r.2⟩) (Cert.Reference27Ideal.Value.run m ρ)

theorem reference28 : Cert.quiescent_Reference28Ideal := fun m ρ _ =>
  (θ_run _ _ _).mono (fun r h => ⟨fun c => (h c).2, sem_eq_zero_of_no_sems (by decide) r.2⟩) (Cert.Reference28Ideal.Value.run m ρ)

theorem reference29 : Cert.quiescent_Reference29Ideal := fun m ρ _ =>
  (θ_run _ _ _).mono (fun r h => ⟨fun c => (h c).2.2, sem_eq_zero_of_no_sems (by decide) r.2⟩) (Cert.Reference29Ideal.Value.run m ρ)

theorem reference30 : Cert.quiescent_Reference30Ideal := fun m ρ _ =>
  (θ_run _ _ _).mono (fun r h => ⟨fun c => (h c).2, sem_eq_zero_of_no_sems (by decide) r.2⟩) (Cert.Reference30Ideal.Value.run m ρ)

theorem reference31 : Cert.quiescent_Reference31Ideal := fun m ρ _ =>
  (θ_run _ _ _).mono (fun r h => ⟨fun c => (h c).2.2.2, sem_eq_zero_of_no_sems (by decide) r.2⟩) (Cert.Reference31Ideal.Value.run m ρ)

theorem reference32 : Cert.quiescent_Reference32Ideal := fun m ρ _ =>
  (θ_run _ _ _).mono (fun r h => ⟨fun c => (h c).2, sem_eq_zero_of_no_sems (by decide) r.2⟩) (Cert.Reference32Ideal.Value.run m ρ)

theorem reference33 : Cert.quiescent_Reference33Ideal := fun m ρ _ =>
  (θ_run _ _ _).mono (fun r h => ⟨fun c => (h c).2, sem_eq_zero_of_no_sems (by decide) r.2⟩) (Cert.Reference33Ideal.Value.run m ρ)

theorem reference34 : Cert.quiescent_Reference34Ideal := fun m ρ _ =>
  (θ_run _ _ _).mono (fun r h => ⟨fun c => (h c).2.2.2.2, sem_eq_zero_of_no_sems (by decide) r.2⟩) (Cert.Reference34Ideal.Value.run m ρ)

/-- Every claim of the certificate. -/
theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts, Cert.Kernel6.Gen.facts,
  Cert.Kernel6Ideal.Gen.facts, Cert.Reference6Ideal.Gen.facts, Cert.Kernel7.Gen.facts, Cert.Kernel7Ideal.Gen.facts,
  Cert.Reference7Ideal.Gen.facts, Cert.Kernel8.Gen.facts, Cert.Kernel8Ideal.Gen.facts, Cert.Reference8Ideal.Gen.facts,
  Cert.Kernel9.Gen.facts, Cert.Kernel9Ideal.Gen.facts, Cert.Reference9Ideal.Gen.facts, Cert.Kernel10.Gen.facts,
  Cert.Kernel10Ideal.Gen.facts, Cert.Reference10Ideal.Gen.facts, Cert.Kernel11.Gen.facts, Cert.Kernel11Ideal.Gen.facts,
  Cert.Reference11Ideal.Gen.facts, Cert.Kernel12.Gen.facts, Cert.Kernel12Ideal.Gen.facts, Cert.Reference12Ideal.Gen.facts,
  Cert.Kernel13.Gen.facts, Cert.Kernel13Ideal.Gen.facts, Cert.Reference13Ideal.Gen.facts, Cert.Kernel14.Gen.facts,
  Cert.Kernel14Ideal.Gen.facts, Cert.Reference14Ideal.Gen.facts, Cert.Kernel15.Gen.facts, Cert.Kernel15Ideal.Gen.facts,
  Cert.Reference15Ideal.Gen.facts, Cert.Kernel17.Gen.facts, Cert.Kernel17Ideal.Gen.facts, Cert.Reference17Ideal.Gen.facts,
  Cert.Kernel18.Gen.facts, Cert.Kernel18Ideal.Gen.facts, Cert.Reference18Ideal.Gen.facts, Cert.Kernel19.Gen.facts,
  Cert.Kernel19Ideal.Gen.facts, Cert.Reference19Ideal.Gen.facts, Cert.Kernel20.Gen.facts, Cert.Kernel20Ideal.Gen.facts,
  Cert.Reference20Ideal.Gen.facts, Cert.Kernel21.Gen.facts, Cert.Kernel21Ideal.Gen.facts, Cert.Reference21Ideal.Gen.facts,
  Cert.Kernel22.Gen.facts, Cert.Kernel22Ideal.Gen.facts, Cert.Reference22Ideal.Gen.facts, Cert.Kernel23.Gen.facts,
  Cert.Kernel23Ideal.Gen.facts, Cert.Reference23Ideal.Gen.facts, Cert.Kernel24.Gen.facts, Cert.Kernel24Ideal.Gen.facts,
  Cert.Reference24Ideal.Gen.facts, Cert.Kernel25.Gen.facts, Cert.Kernel25Ideal.Gen.facts, Cert.Reference25Ideal.Gen.facts,
  Cert.Kernel26.Gen.facts, Cert.Kernel26Ideal.Gen.facts, Cert.Reference26Ideal.Gen.facts, Cert.Kernel27.Gen.facts,
  Cert.Kernel27Ideal.Gen.facts, Cert.Reference27Ideal.Gen.facts, Cert.Kernel28.Gen.facts, Cert.Kernel28Ideal.Gen.facts,
  Cert.Reference28Ideal.Gen.facts, Cert.Kernel29.Gen.facts, Cert.Kernel29Ideal.Gen.facts, Cert.Reference29Ideal.Gen.facts,
  Cert.Kernel30.Gen.facts, Cert.Kernel30Ideal.Gen.facts, Cert.Reference30Ideal.Gen.facts, Cert.Kernel31.Gen.facts,
  Cert.Kernel31Ideal.Gen.facts, Cert.Reference31Ideal.Gen.facts, Cert.Kernel32.Gen.facts, Cert.Kernel32Ideal.Gen.facts,
  Cert.Reference32Ideal.Gen.facts, Cert.Kernel33.Gen.facts, Cert.Kernel33Ideal.Gen.facts, Cert.Reference33Ideal.Gen.facts,
  Cert.Kernel34.Gen.facts, Cert.Kernel34Ideal.Gen.facts, Cert.Reference34Ideal.Gen.facts,
  Cert.Pre_finite_queries_and_keys.Gen.facts, Cert.Pre_finite_conv.Gen.facts, Cert.Pre_finite_scores.Gen.facts,
  fun m ρ _ => Cert.Kernel.Gen.frame m ρ,
  fun m ρ _ => Cert.KernelIdeal.Gen.frame m ρ,
  fun m ρ _ => Cert.KernelIdeal.Gen.frame m ρ,
  reference1,
  fun m ρ _ => reference1 m ρ trivial,
  fun m ρ _ => Cert.Kernel2.Gen.frame m ρ,
  fun m ρ _ => Cert.Kernel2Ideal.Gen.frame m ρ,
  reference2,
  fun m ρ _ => Cert.Kernel3.Gen.frame m ρ,
  fun m ρ _ => Cert.Kernel3Ideal.Gen.frame m ρ,
  reference3,
  fun m ρ _ => Cert.Kernel4.Gen.frame m ρ,
  fun m ρ _ => Cert.Kernel4Ideal.Gen.frame m ρ,
  reference4,
  fun m ρ _ => Cert.Kernel5.Gen.frame m ρ,
  fun m ρ _ => Cert.Kernel5Ideal.Gen.frame m ρ,
  reference5,
  fun m ρ _ => Cert.Kernel6.Gen.frame m ρ,
  fun m ρ _ => Cert.Kernel6Ideal.Gen.frame m ρ,
  reference6,
  fun m ρ _ => Cert.Kernel7.Gen.frame m ρ,
  fun m ρ _ => Cert.Kernel7Ideal.Gen.frame m ρ,
  reference7,
  fun m ρ _ => Cert.Kernel8.Gen.frame m ρ,
  fun m ρ _ => Cert.Kernel8Ideal.Gen.frame m ρ,
  reference8,
  fun m ρ _ => Cert.Kernel9.Gen.frame m ρ,
  fun m ρ _ => Cert.Kernel9Ideal.Gen.frame m ρ,
  reference9,
  fun m ρ _ => Cert.Kernel10.Gen.frame m ρ,
  fun m ρ _ => Cert.Kernel10Ideal.Gen.frame m ρ,
  reference10,
  fun m ρ _ => Cert.Kernel11.Gen.frame m ρ,
  fun m ρ _ => Cert.Kernel11Ideal.Gen.frame m ρ,
  reference11,
  fun m ρ _ => Cert.Kernel12.Gen.frame m ρ,
  fun m ρ _ => Cert.Kernel12Ideal.Gen.frame m ρ,
  reference12,
  fun m ρ _ => Cert.Kernel13.Gen.frame m ρ,
  fun m ρ _ => Cert.Kernel13Ideal.Gen.frame m ρ,
  reference13,
  fun m ρ _ => Cert.Kernel14.Gen.frame m ρ,
  fun m ρ _ => Cert.Kernel14Ideal.Gen.frame m ρ,
  reference14,
  fun m ρ _ => Cert.Kernel15.Gen.frame m ρ,
  fun m ρ _ => Cert.Kernel15Ideal.Gen.frame m ρ,
  reference15,
  fun m ρ _ => Cert.Kernel17.Gen.frame m ρ,
  fun m ρ _ => Cert.Kernel17Ideal.Gen.frame m ρ,
  fun m ρ _ => Cert.Kernel17Ideal.Gen.frame m ρ,
  reference17,
  fun m ρ _ => reference17 m ρ trivial,
  fun m ρ _ => Cert.Kernel18.Gen.frame m ρ,
  fun m ρ _ => Cert.Kernel18Ideal.Gen.frame m ρ,
  fun m ρ _ => Cert.Kernel18Ideal.Gen.frame m ρ,
  reference18,
  fun m ρ _ => reference18 m ρ trivial,
  fun m ρ _ => Cert.Kernel19.Gen.frame m ρ,
  fun m ρ _ => Cert.Kernel19Ideal.Gen.frame m ρ,
  reference19,
  fun m ρ _ => Cert.Kernel20.Gen.frame m ρ,
  fun m ρ _ => Cert.Kernel20Ideal.Gen.frame m ρ,
  reference20,
  fun m ρ _ => Cert.Kernel21.Gen.frame m ρ,
  fun m ρ _ => Cert.Kernel21Ideal.Gen.frame m ρ,
  reference21,
  fun m ρ _ => Cert.Kernel22.Gen.frame m ρ,
  fun m ρ _ => Cert.Kernel22Ideal.Gen.frame m ρ,
  reference22,
  fun m ρ _ => Cert.Kernel23.Gen.frame m ρ,
  fun m ρ _ => Cert.Kernel23Ideal.Gen.frame m ρ,
  reference23,
  fun m ρ _ => Cert.Kernel24.Gen.frame m ρ,
  fun m ρ _ => Cert.Kernel24Ideal.Gen.frame m ρ,
  reference24,
  fun m ρ _ => Cert.Kernel25.Gen.frame m ρ,
  fun m ρ _ => Cert.Kernel25Ideal.Gen.frame m ρ,
  reference25,
  fun m ρ _ => Cert.Kernel26.Gen.frame m ρ,
  fun m ρ _ => Cert.Kernel26Ideal.Gen.frame m ρ,
  reference26,
  fun m ρ _ => Cert.Kernel27.Gen.frame m ρ,
  fun m ρ _ => Cert.Kernel27Ideal.Gen.frame m ρ,
  reference27,
  fun m ρ _ => Cert.Kernel28.Gen.frame m ρ,
  fun m ρ _ => Cert.Kernel28Ideal.Gen.frame m ρ,
  reference28,
  fun m ρ _ => Cert.Kernel29.Gen.frame m ρ,
  fun m ρ _ => Cert.Kernel29Ideal.Gen.frame m ρ,
  reference29,
  fun m ρ _ => Cert.Kernel30.Gen.frame m ρ,
  fun m ρ _ => Cert.Kernel30Ideal.Gen.frame m ρ,
  reference30,
  fun m ρ _ => Cert.Kernel31.Gen.frame m ρ,
  fun m ρ _ => Cert.Kernel31Ideal.Gen.frame m ρ,
  reference31,
  fun m ρ _ => Cert.Kernel32.Gen.frame m ρ,
  fun m ρ _ => Cert.Kernel32Ideal.Gen.frame m ρ,
  reference32,
  fun m ρ _ => Cert.Kernel33.Gen.frame m ρ,
  fun m ρ _ => Cert.Kernel33Ideal.Gen.frame m ρ,
  reference33,
  fun m ρ _ => Cert.Kernel34.Gen.frame m ρ,
  fun m ρ _ => Cert.Kernel34Ideal.Gen.frame m ρ,
  reference34,
  IdealRules.named_const.statement Cert.KernelIdeal.κ "s" .f32 0x3DB504F3#32 (((Real.sqrt 128)⁻¹ : ℝ) : EReal) rfl,
  Xatt.algebraic,
  trivial,
  MlpDownDx.algebraic,
  trivial,
  MlpDownDw.algebraic,
  trivial,
  MlpUpDw.algebraic,
  trivial,
  MlpUpDx.algebraic,
  trivial,
  MlpUp.algebraic,
  trivial,
  MlpDown.algebraic,
  trivial,
  ProjIn.algebraic,
  trivial,
  ProjInDw.algebraic,
  trivial,
  ProjInDx.algebraic,
  trivial,
  ProjOut.algebraic,
  trivial,
  ProjOutDx.algebraic,
  trivial,
  ProjOutDw.algebraic,
  trivial,
  NormBwd.algebraic,
  trivial,
  GrpBwd.algebraic,
  trivial,
  ConvBwd.algebraic,
  IdealRules.named_const.statement Cert.Kernel18Ideal.κ "s" .f32 0x3DB504F3#32 (((Real.sqrt 128)⁻¹ : ℝ) : EReal) rfl,
  XattFwd.algebraic,
  trivial,
  XoDx.algebraic,
  trivial,
  XoDw.algebraic,
  trivial,
  XqDw.algebraic,
  trivial,
  XkDw.algebraic,
  trivial,
  XkDx.algebraic,
  trivial,
  XqDx.algebraic,
  trivial,
  Xq.algebraic,
  trivial,
  Xk.algebraic,
  trivial,
  Xo.algebraic,
  trivial,
  NormFwd.algebraic,
  trivial,
  MemNormBwd.algebraic,
  trivial,
  MemNormFwd.algebraic,
  trivial,
  LossHead.algebraic,
  trivial,
  ConvFwd.algebraic,
  trivial,
  GrpFwd.algebraic,
  ⟨IdealRules.named_const.statement Cert.Kernel34Ideal.κ "c1" .f32 0x3FC48605#32 (((5463681 / 8388608)⁻¹ : ℝ) : EReal) rfl, IdealRules.named_const.statement Cert.Kernel34Ideal.κ "c2" .f32 0x42C8E6D3#32 (((2672307 / 268435456)⁻¹ : ℝ) : EReal) rfl⟩,
  AdamW.algebraic⟩

end Cert.Proof

end
